-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_counts_ok : Cert.Pre_counts_ok.Facts] (m : (ℓ : Loc Cert.Kernel2.nD Cert.Kernel2.τ Cert.Kernel2.sig) → Buf (Elt Bits) ℓ) : Prop :=
  ∀ c : Dev Cert.Kernel2.nD,
    (Cert.Pre_counts_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_counts_ok : Cert.Pre_counts_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts_ok [hPre_counts_ok : Cert.Pre_counts_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_counts_ok : Cert.Pre_counts_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_counts_ok : Cert.Pre_counts_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counts_ok [hReference2Ideal : Cert.Reference2Ideal.Facts] [hPre_counts_ok : Cert.Pre_counts_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_counts_ok : Cert.Pre_counts_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v194) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_v121) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts) (hPre_counts_ok : Cert.Pre_counts_ok.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_counts_ok := hPre_counts_ok)
    ∧ quiescent_Kernel2Ideal (hKernel2Ideal := hKernel2Ideal) (hPre_counts_ok := hPre_counts_ok)
    ∧ quiescent_Reference2Ideal (hReference2Ideal := hReference2Ideal)
    ∧ quiescent_Reference2Ideal_pre_counts_ok (hReference2Ideal := hReference2Ideal) (hPre_counts_ok := hPre_counts_ok)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_counts_ok := hPre_counts_ok)
    ∧ preserves_Kernel3_Kernel3Ideal
    ∧ algebraic_Kernel3Ideal_Reference3Ideal (hKernel3Ideal := hKernel3Ideal) (hReference3Ideal := hReference3Ideal)
-- ==== Pre_counts_ok.lean ====
abbrev S8 : Shape := ⟨1, ![8]⟩
abbrev S29184x1024 : Shape := ⟨2, ![29184, 1024]⟩
abbrev S1x8x1024x1792 : Shape := ⟨4, ![1, 8, 1024, 1792]⟩
abbrev S1x8x1792x1024 : Shape := ⟨4, ![1, 8, 1792, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S29184x1024 .f32) (main_arg2 : FVec F S1x8x1024x1792 .f32) (main_arg3 : FVec F S1x8x1024x1792 .f32) (main_arg4 : FVec F S1x8x1792x1024 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 24576#32
  let main_v2 : IVec S8 32 := broadcastInDim S8 ![] bcast_S_S8 main_c_0
  let main_v3 : IVec S8 1 := cmpi .sle main_arg0 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg0 main_c_2
  let main_c_3 : IVec S_ 32 := constantI S_ 32 24576#32
  let main_v7 : IVec S_ 1 := cmpi .eq main_v6 main_c_3
  let main_v8 : IVec S_ 1 := andi main_v5 main_v7
  main_v8
-- ==== Pre_finite_inputs.lean ====
abbrev S12288x8x192 : Shape := ⟨3, ![12288, 8, 192]⟩
abbrev S12288x256 : Shape := ⟨2, ![12288, 256]⟩
abbrev S12288x64 : Shape := ⟨2, ![12288, 64]⟩
abbrev S2x1x512x256 : Shape := ⟨4, ![2, 1, 512, 256]⟩
abbrev S2x1x512x64 : Shape := ⟨4, ![2, 1, 512, 64]⟩
abbrev S1x256x2048 : Shape := ⟨3, ![1, 256, 2048]⟩
abbrev S_ : Shape := ⟨0, ![]⟩

class Facts : Prop where
  bcast_S_S12288x8x192 : S_.BroadcastsInDim S12288x8x192 (![] : Fin 0 → Fin S12288x8x192.rank)
  reducesTo_S12288x8x192_S_d0_1_2 : S12288x8x192.ReducesTo [0, 1, 2] S_
  h_S_ : 0 < S_.numel
  bcast_S_S12288x256 : S_.BroadcastsInDim S12288x256 (![] : Fin 0 → Fin S12288x256.rank)
  reducesTo_S12288x256_S_d0_1 : S12288x256.ReducesTo [0, 1] S_
  bcast_S_S12288x64 : S_.BroadcastsInDim S12288x64 (![] : Fin 0 → Fin S12288x64.rank)
  reducesTo_S12288x64_S_d0_1 : S12288x64.ReducesTo [0, 1] S_
  bcast_S_S2x1x512x256 : S_.BroadcastsInDim S2x1x512x256 (![] : Fin 0 → Fin S2x1x512x256.rank)
  reducesTo_S2x1x512x256_S_d0_1_2_3 : S2x1x512x256.ReducesTo [0, 1, 2, 3] S_
  bcast_S_S2x1x512x64 : S_.BroadcastsInDim S2x1x512x64 (![] : Fin 0 → Fin S2x1x512x64.rank)
  reducesTo_S2x1x512x64_S_d0_1_2_3 : S2x1x512x64.ReducesTo [0, 1, 2, 3] S_
  bcast_S_S1x256x2048 : S_.BroadcastsInDim S1x256x2048 (![] : Fin 0 → Fin S1x256x2048.rank)
  reducesTo_S1x256x2048_S_d0_1_2 : S1x256x2048.ReducesTo [0, 1, 2] S_

variable [Facts]

def fn_part1 {F : FTy → Type} [FloatOps F] (main_arg4 : FVec F S2x1x512x64 .f32) (main_arg5 : FVec F S1x256x2048 .f32) (main_v14 : IVec S_ 1) (main_v15 : FVec F S2x1x512x256 .f32) (main_cst_5 : FVec F S_ .f32) : IVec S_ 1 :=
  let main_v16 : FVec F S2x1x512x256 .f32 := broadcastInDim S2x1x512x256 ![] bcast_S_S2x1x512x256 main_cst_5
  let main_v17 : IVec S2x1x512x256 1 := cmpf .olt main_v15 main_v16
  let main_c_6 : IVec S_ 1 := constantI S_ 1 1#1
  let main_v18 : IVec S_ 1 := (fun x v => Host.reduce IntOp.andi x v reducesTo_S2x1x512x256_S_d0_1_2_3 h_S_) main_v17 main_c_6
  let main_v19 : IVec S_ 1 := andi main_v14 main_v18
  let main_v20 : FVec F S2x1x512x64 .f32 := Host.absf main_arg4
  let main_cst_7 : FVec F S_ .f32 := constant S_ .f32 0x7F800000#32
  let main_v21 : FVec F S2x1x512x64 .f32 := broadcastInDim S2x1x512x64 ![] bcast_S_S2x1x512x64 main_cst_7
  let main_v22 : IVec S2x1x512x64 1 := cmpf .olt main_v20 main_v21
  let main_c_8 : IVec S_ 1 := constantI S_ 1 1#1
  let main_v23 : IVec S_ 1 := (fun x v => Host.reduce IntOp.andi x v reducesTo_S2x1x512x64_S_d0_1_2_3 h_S_) main_v22 main_c_8
  let main_v24 : IVec S_ 1 := andi main_v19 main_v23
  let main_v25 : FVec F S1x256x2048 .f32 := Host.absf main_arg5
  let main_cst_9 : FVec F S_ .f32 := constant S_ .f32 0x7F800000#32
  let main_v26 : FVec F S1x256x2048 .f32 := broadcastInDim S1x256x2048 ![] bcast_S_S1x256x2048 main_cst_9
  let main_v27 : IVec S1x256x2048 1 := cmpf .olt main_v25 main_v26
  let main_c_10 : IVec S_ 1 := constantI S_ 1 1#1
  let main_v28 : IVec S_ 1 := (fun x v => Host.reduce IntOp.andi x v reducesTo_S1x256x2048_S_d0_1_2 h_S_) main_v27 main_c_10
  let main_v29 : IVec S_ 1 := andi main_v24 main_v28
  main_v29

def fn {F : FTy → Type} [FloatOps F] (main_arg0 : FVec F S12288x8x192 .f32) (main_arg1 : FVec F S12288x256 .f32) (main_arg2 : FVec F S12288x64 .f32) (main_arg3 : FVec F S2x1x512x256 .f32) (main_arg4 : FVec F S2x1x512x64 .f32) (main_arg5 : FVec F S1x256x2048 .f32) : IVec S_ 1 :=
  let main_v0 : FVec F S12288x8x192 .f32 := Host.absf main_arg0
  let main_cst : FVec F S_ .f32 := constant S_ .f32 0x7F800000#32
  let main_v1 : FVec F S12288x8x192 .f32 := broadcastInDim S12288x8x192 ![] bcast_S_S12288x8x192 main_cst
  let main_v2 : IVec S12288x8x192 1 := cmpf .olt main_v0 main_v1
  let main_c : IVec S_ 1 := constantI S_ 1 1#1
  let main_v3 : IVec S_ 1 := (fun x v => Host.reduce IntOp.andi x v reducesTo_S12288x8x192_S_d0_1_2 h_S_) main_v2 main_c
  let main_c_0 : IVec S_ 1 := constantI S_ 1 1#1
  let main_v4 : IVec S_ 1 := andi main_c_0 main_v3
  let main_v5 : FVec F S12288x256 .f32 := Host.absf main_arg1
  let main_cst_1 : FVec F S_ .f32 := constant S_ .f32 0x7F800000#32
  let main_v6 : FVec F S12288x256 .f32 := broadcastInDim S12288x256 ![] bcast_S_S12288x256 main_cst_1
  let main_v7 : IVec S12288x256 1 := cmpf .olt main_v5 main_v6
  let main_c_2 : IVec S_ 1 := constantI S_ 1 1#1
  let main_v8 : IVec S_ 1 := (fun x v => Host.reduce IntOp.andi x v reducesTo_S12288x256_S_d0_1 h_S_) main_v7 main_c_2
  let main_v9 : IVec S_ 1 := andi main_v4 main_v8
  let main_v10 : FVec F S12288x64 .f32 := Host.absf main_arg2
  let main_cst_3 : FVec F S_ .f32 := constant S_ .f32 0x7F800000#32
  let main_v11 : FVec F S12288x64 .f32 := broadcastInDim S12288x64 ![] bcast_S_S12288x64 main_cst_3
  let main_v12 : IVec S12288x64 1 := cmpf .olt main_v10 main_v11
  let main_c_4 : IVec S_ 1 := constantI S_ 1 1#1
  let main_v13 : IVec S_ 1 := (fun x v => Host.reduce IntOp.andi x v reducesTo_S12288x64_S_d0_1 h_S_) main_v12 main_c_4
  let main_v14 : IVec S_ 1 := andi main_v9 main_v13
  let main_v15 : FVec F S2x1x512x256 .f32 := Host.absf main_arg3
  let main_cst_5 : FVec F S_ .f32 := constant S_ .f32 0x7F800000#32
  fn_part1 (F := F) main_arg4 main_arg5 main_v14 main_v15 main_cst_5
-- ==== Kernel.lean ====
abbrev S12288x8x192 : Shape := ⟨3, ![12288, 8, 192]⟩
abbrev S12288x256 : Shape := ⟨2, ![12288, 256]⟩
abbrev S12288x64 : Shape := ⟨2, ![12288, 64]⟩
abbrev S2x1x512x256 : Shape := ⟨4, ![2, 1, 512, 256]⟩
abbrev S2x1x512x64 : Shape := ⟨4, ![2, 1, 512, 64]⟩
abbrev S1x256x2048 : Shape := ⟨3, ![1, 256, 2048]⟩
abbrev S_ : Shape := ⟨0, ![]⟩
abbrev S12288x8x256 : Shape := ⟨3, ![12288, 8, 256]⟩
abbrev S12288x2048 : Shape := ⟨2, ![12288, 2048]⟩
abbrev S12288x128 : Shape := ⟨2, ![12288, 128]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S2x512x64 : Shape := ⟨3, ![2, 512, 64]⟩
abbrev S2x512x128 : Shape := ⟨3, ![2, 512, 128]⟩
abbrev S2x512x256 : Shape := ⟨3, ![2, 512, 256]⟩
abbrev S12288x1024 : Shape := ⟨2, ![12288, 1024]⟩
abbrev S2048x256 : Shape := ⟨2, ![2048, 256]⟩
abbrev S2048x128 : Shape := ⟨2, ![2048, 128]⟩
abbrev S512x2048 : Shape := ⟨2, ![512, 2048]⟩
abbrev S256x256 : Shape := ⟨2, ![256, 256]⟩
abbrev S256x128 : Shape := ⟨2, ![256, 128]⟩
abbrev S1x512x256 : Shape := ⟨3, ![1, 512, 256]⟩
abbrev S1x512x128 : Shape := ⟨3, ![1, 512, 128]⟩
abbrev S256x3072 : Shape := ⟨2, ![256, 3072]⟩
abbrev S2560x3072 : Shape := ⟨2, ![2560, 3072]⟩
abbrev S256 : Shape := ⟨1, ![256]⟩
abbrev S256x1 : Shape := ⟨2, ![256, 1]⟩
abbrev S512x256 : Shape := ⟨2, ![512, 256]⟩
abbrev S512x128 : Shape := ⟨2, ![512, 128]⟩
abbrev S512x1024 : Shape := ⟨2, ![512, 1024]⟩
abbrev S2560x256 : Shape := ⟨2, ![2560, 256]⟩
abbrev S512x2560 : Shape := ⟨2, ![512, 2560]⟩
abbrev S512 : Shape := ⟨1, ![512]⟩
abbrev S512x1 : Shape := ⟨2, ![512, 1]⟩
abbrev S2560x128 : Shape := ⟨2, ![2560, 128]⟩

abbrev nBuf : Space → Nat
  | .hbm => 35
  | .vmem => 20
  | .smem => 0
  | _ => 0

abbrev bufTy : (tb : Table) → Fin (tcTables nBuf tb) → BufTy
  | .hbm, ⟨0, _⟩ => ⟨S12288x8x192, .f32⟩
  | .hbm, ⟨1, _⟩ => ⟨S12288x256, .f32⟩
  | .hbm, ⟨2, _⟩ => ⟨S12288x64, .f32⟩
  | .hbm, ⟨3, _⟩ => ⟨S2x1x512x256, .f32⟩
  | .hbm, ⟨4, _⟩ => ⟨S2x1x512x64, .f32⟩
  | .hbm, ⟨5, _⟩ => ⟨S1x256x2048, .f32⟩
  | .hbm, ⟨6, _⟩ => ⟨S_, .i32⟩
  | .hbm, ⟨7, _⟩ => ⟨S_, .f32⟩
  | .hbm, ⟨8, _⟩ => ⟨S12288x8x256, .f32⟩
  | .hbm, ⟨9, _⟩ => ⟨S_, .f32⟩
  | .hbm, ⟨10, _⟩ => ⟨S12288x8x256, .f32⟩
  | .hbm, ⟨11, _⟩ => ⟨S12288x8x256, .f32⟩
  | .hbm, ⟨12, _⟩ => ⟨S_, .f32⟩
  | .hbm, ⟨13, _⟩ => ⟨S_, .f32⟩
  | .hbm, ⟨14, _⟩ => ⟨S12288x8x256, .f32⟩
  | .hbm, ⟨15, _⟩ => ⟨S12288x8x256, .f32⟩
  | .hbm, ⟨16, _⟩ => ⟨S12288x8x256, .bf16⟩
  | .hbm, ⟨17, _⟩ => ⟨S12288x2048, .bf16⟩
  | .hbm, ⟨18, _⟩ => ⟨S_, .i32⟩
  | .hbm, ⟨19, _⟩ => ⟨S_, .f32⟩
  | .hbm, ⟨20, _⟩ => ⟨S12288x128, .f32⟩
  | .hbm, ⟨21, _⟩ => ⟨S256x2048, .f32⟩
  | .hbm, ⟨22, _⟩ => ⟨S256x8x256, .f32⟩
  | .hbm, ⟨23, _⟩ => ⟨S256x8x128, .f32⟩
  | .hbm, ⟨24, _⟩ => ⟨S256x1024, .f32⟩
  | .hbm, ⟨25, _⟩ => ⟨S256x8x128, .f32⟩
  | .hbm, ⟨26, _⟩ => ⟨S256x1024, .f32⟩
  | .hbm, ⟨27, _⟩ => ⟨S256x2048, .f32⟩
  | .hbm, ⟨28, _⟩ => ⟨S256x2048, .bf16⟩
  | .hbm, ⟨29, _⟩ => ⟨S2x512x64, .f32⟩
  | .hbm, ⟨30, _⟩ => ⟨S_, .i32⟩
  | .hbm, ⟨31, _⟩ => ⟨S_, .f32⟩
  | .hbm, ⟨32, _⟩ => ⟨S2x512x128, .f32⟩
  | .hbm, ⟨33, _⟩ => ⟨S2x512x256, .f32⟩
  | .hbm, ⟨34, _⟩ => ⟨S12288x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x256, .f32⟩
  | .local _ .vmem, ⟨3, _⟩ => ⟨S2048x128, .f32⟩
  | .local _ .vmem, ⟨4, _⟩ => ⟨S512x2048, .bf16⟩
  | .local _ .vmem, ⟨5, _⟩ => ⟨S512x2048, .bf16⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S1x512x256, .f32⟩
  | .local _ .vmem, ⟨11, _⟩ => ⟨S1x512x256, .f32⟩
  | .local _ .vmem, ⟨12, _⟩ => ⟨S1x512x128, .f32⟩
  | .local _ .vmem, ⟨13, _⟩ => ⟨S1x512x128, .f32⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S2560x3072, .bf16⟩
  | .local _ .vmem, ⟨19, _⟩ => ⟨S256x1024, .bf16⟩
  | _, _ => ⟨S12288x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let c32_i32_1 : BitVec 32 := 32#32
  let v4 : BitVec 32 := Scalar.subi arg0 c32_i32_1
  let c2_i32 : BitVec 32 := 2#32
  let v5 : BitVec 32 := Scalar.remsi v4 c2_i32
  let c0_i32_2 : BitVec 32 := 0#32
  let v6 : BitVec 1 := Scalar.cmpi .eq v5 c0_i32_2
  let v7 : BitVec 1 := Scalar.andi v3 v6
  let v8 : BitVec 32 := Scalar.extui v7
  let c0_i32_3 : BitVec 32 := 0#32
  let v9 : BitVec 1 := Scalar.cmpi .ne v8 c0_i32_3
  v9

def k0_cond4 (i : grid0.Coords) : BitVec 1 :=
  let arg0 : BitVec 32 := BitVec.ofNat 32 (i 0).val
  let c32_i32_4 : BitVec 32 := 32#32
  let v10 : BitVec 1 := Scalar.cmpi .sge arg0 c32_i32_4
  let c32_i32_5 : BitVec 32 := 32#32
  let v11 : BitVec 32 := Scalar.subi arg0 c32_i32_5
  let c2_i32_6 : BitVec 32 := 2#32
  let v12 : BitVec 32 := Scalar.remsi v11 c2_i32_6
  let c1_i32 : BitVec 32 := 1#32
  let v13 : BitVec 1 := Scalar.cmpi .eq v12 c1_i32
  let v14 : BitVec 1 := Scalar.andi v10 v13
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.addi c4_i32 v18
  let c0_i32_5 : BitVec 32 := 0#32
  let c0_i32_6 : BitVec 32 := 0#32
  ![v19.toNat, c0_i32_5.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.addi c4_i32 v18
  let c0_i32_5 : BitVec 32 := 0#32
  let c0_i32_6 : BitVec 32 := 0#32
  ![v19.toNat, c0_i32_5.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.addi c16_i32 v18
  let c0_i32_5 : BitVec 32 := 0#32
  let c0_i32_6 : BitVec 32 := 0#32
  ![v19.toNat, c0_i32_5.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S12288x8x192 : Shape := ⟨3, ![12288, 8, 192]⟩
abbrev S12288x256 : Shape := ⟨2, ![12288, 256]⟩
abbrev S12288x64 : Shape := ⟨2, ![12288, 64]⟩
abbrev S2x1x512x256 : Shape := ⟨4, ![2, 1, 512, 256]⟩
abbrev S2x1x512x64 : Shape := ⟨4, ![2, 1, 512, 64]⟩
abbrev S1x256x2048 : Shape := ⟨3, ![1, 256, 2048]⟩
abbrev S256x2048 : Shape := ⟨2, ![256, 2048]⟩
abbrev S8192x256 : Shape := ⟨2, ![8192, 256]⟩
abbrev S32x256x256 : Shape := ⟨3, ![32, 256, 256]⟩
abbrev S8192x64 : Shape := ⟨2, ![8192, 64]⟩
abbrev S32x256x64 : Shape := ⟨3, ![32, 256, 64]⟩
abbrev S32x256x2048 : Shape := ⟨3, ![32, 256, 2048]⟩
abbrev S32x256x8x256 : Shape := ⟨4, ![32, 256, 8, 256]⟩
abbrev S32x256x8x128 : Shape := ⟨4, ![32, 256, 8, 128]⟩
abbrev S32x256x1x64 : Shape := ⟨4, ![32, 256, 1, 64]⟩
abbrev S32x256x8x64 : Shape := ⟨4, ![32, 256, 8, 64]⟩
abbrev S32x256x8x192 : Shape := ⟨4, ![32, 256, 8, 192]⟩
abbrev S8192x8x192 : Shape := ⟨3, ![8192, 8, 192]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S8192x1024 : Shape := ⟨2, ![8192, 1024]⟩
abbrev S2x512x256 : Shape := ⟨3, ![2, 512, 256]⟩
abbrev S2x512x64 : Shape := ⟨3, ![2, 512, 64]⟩
abbrev S2x512x2048 : Shape := ⟨3, ![2, 512, 2048]⟩
abbrev S2x512x8x256 : Shape := ⟨4, ![2, 512, 8, 256]⟩
abbrev S2x512x8x128 : Shape := ⟨4, ![2, 512, 8, 128]⟩
abbrev S2x512x1x64 : Shape := ⟨4, ![2, 512, 1, 64]⟩
abbrev S2x512x8x64 : Shape := ⟨4, ![2, 512, 8, 64]⟩
abbrev S2x512x8x192 : Shape := ⟨4, ![2, 512, 8, 192]⟩
abbrev S4096x256 : Shape := ⟨2, ![4096, 256]⟩
abbrev S2x2048x256 : Shape := ⟨3, ![2, 2048, 256]⟩
abbrev S4096x64 : Shape := ⟨2, ![4096, 64]⟩
abbrev S2x2048x64 : Shape := ⟨3, ![2, 2048, 64]⟩
abbrev S2x2048x2048 : Shape := ⟨3, ![2, 2048, 2048]⟩
abbrev S2x2048x8x256 : Shape := ⟨4, ![2, 2048, 8, 256]⟩
abbrev S2x2048x8x128 : Shape := ⟨4, ![2, 2048, 8, 128]⟩
abbrev S2x2048x1x64 : Shape := ⟨4, ![2, 2048, 1, 64]⟩
abbrev S2x2048x8x64 : Shape := ⟨4, ![2, 2048, 8, 64]⟩
abbrev S2x2048x8x192 : Shape := ⟨4, ![2, 2048, 8, 192]⟩
abbrev S4096x8x192 : Shape := ⟨3, ![4096, 8, 192]⟩
abbrev S2x2560x8x192 : Shape := ⟨4, ![2, 2560, 8, 192]⟩
abbrev S2x2560x8x128 : Shape := ⟨4, ![2, 2560, 8, 128]⟩
abbrev S2x8x2048x2560 : Shape := ⟨4, ![2, 8, 2048, 2560]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S4096x1024 : Shape := ⟨2, ![4096, 1024]⟩
abbrev S12288x1024 : Shape := ⟨2, ![12288, 1024]⟩

abbrev nBuf : Space → Nat
  | .hbm => 88
  | .vmem => 0
  | .smem => 0
  | _ => 0

abbrev bufTy : (tb : Table) → Fin (tcTables nBuf tb) → BufTy
  | .hbm, ⟨0, _⟩ => ⟨S12288x8x192, .f32⟩
  | .hbm, ⟨1, _⟩ => ⟨S12288x256, .f32⟩
  | .hbm, ⟨2, _⟩ => ⟨S12288x64, .f32⟩
  | .hbm, ⟨3, _⟩ => ⟨S2x1x512x256, .f32⟩
  | .hbm, ⟨4, _⟩ => ⟨S2x1x512x64, .f32⟩
  | .hbm, ⟨5, _⟩ => ⟨S1x256x2048, .f32⟩
  | .hbm, ⟨6, _⟩ => ⟨S256x2048, .f32⟩
  | .hbm, ⟨7, _⟩ => ⟨S8192x256, .f32⟩
  | .hbm, ⟨8, _⟩ => ⟨S32x256x256, .f32⟩
  | .hbm, ⟨9, _⟩ => ⟨S8192x64, .f32⟩
  | .hbm, ⟨10, _⟩ => ⟨S32x256x64, .f32⟩
  | .hbm, ⟨11, _⟩ => ⟨S32x256x2048, .f32⟩
  | .hbm, ⟨12, _⟩ => ⟨S32x256x8x256, .f32⟩
  | .hbm, ⟨13, _⟩ => ⟨S32x256x8x128, .f32⟩
  | .hbm, ⟨14, _⟩ => ⟨S32x256x1x64, .f32⟩
  | .hbm, ⟨15, _⟩ => ⟨S32x256x8x64, .f32⟩
  | .hbm, ⟨16, _⟩ => ⟨S32x256x8x192, .f32⟩
  | .hbm, ⟨17, _⟩ => ⟨S32x256x8x128, .f32⟩
  | .hbm, ⟨18, _⟩ => ⟨S8192x8x192, .f32⟩
  | .hbm, ⟨19, _⟩ => ⟨S32x256x8x192, .f32⟩
  | .hbm, ⟨20, _⟩ => ⟨S32x8x256x256, .f32⟩
  | .hbm, ⟨21, _⟩ => ⟨S_, .f32⟩
  | .hbm, ⟨22, _⟩ => ⟨S32x8x256x256, .f32⟩
  | .hbm, ⟨23, _⟩ => ⟨S32x8x256x256, .f32⟩
  | .hbm, ⟨24, _⟩ => ⟨S_, .f32⟩
  | .hbm, ⟨25, _⟩ => ⟨S32x8x256, .f32⟩
  | .hbm, ⟨26, _⟩ => ⟨S_, .f32⟩
  | .hbm, ⟨27, _⟩ => ⟨S32x8x256, .f32⟩
  | .hbm, ⟨28, _⟩ => ⟨S32x8x256, .f32⟩
  | .hbm, ⟨29, _⟩ => ⟨S32x8x256x1, .f32⟩
  | .hbm, ⟨30, _⟩ => ⟨S32x8x256x256, .f32⟩
  | .hbm, ⟨31, _⟩ => ⟨S32x8x256x256, .f32⟩
  | .hbm, ⟨32, _⟩ => ⟨S32x8x256x256, .f32⟩
  | .hbm, ⟨33, _⟩ => ⟨S_, .f32⟩
  | .hbm, ⟨34, _⟩ => ⟨S32x8x256, .f32⟩
  | .hbm, ⟨35, _⟩ => ⟨S32x8x256x1, .f32⟩
  | .hbm, ⟨36, _⟩ => ⟨S32x8x256x256, .f32⟩
  | .hbm, ⟨37, _⟩ => ⟨S32x8x256x256, .f32⟩
  | .hbm, ⟨38, _⟩ => ⟨S32x8x128x256, .f32⟩
  | .hbm, ⟨39, _⟩ => ⟨S32x256x8x128, .f32⟩
  | .hbm, ⟨40, _⟩ => ⟨S8192x1024, .f32⟩
  | .hbm, ⟨41, _⟩ => ⟨S2x512x256, .f32⟩
  | .hbm, ⟨42, _⟩ => ⟨S2x512x64, .f32⟩
  | .hbm, ⟨43, _⟩ => ⟨S2x512x2048, .f32⟩
  | .hbm, ⟨44, _⟩ => ⟨S2x512x8x256, .f32⟩
  | .hbm, ⟨45, _⟩ => ⟨S2x512x8x128, .f32⟩
  | .hbm, ⟨46, _⟩ => ⟨S2x512x1x64, .f32⟩
  | .hbm, ⟨47, _⟩ => ⟨S2x512x8x64, .f32⟩
  | .hbm, ⟨48, _⟩ => ⟨S2x512x8x192, .f32⟩
  | .hbm, ⟨49, _⟩ => ⟨S2x512x8x128, .f32⟩
  | .hbm, ⟨50, _⟩ => ⟨S4096x256, .f32⟩
  | .hbm, ⟨51, _⟩ => ⟨S2x2048x256, .f32⟩
  | .hbm, ⟨52, _⟩ => ⟨S4096x64, .f32⟩
  | .hbm, ⟨53, _⟩ => ⟨S2x2048x64, .f32⟩
  | .hbm, ⟨54, _⟩ => ⟨S2x2048x2048, .f32⟩
  | .hbm, ⟨55, _⟩ => ⟨S2x2048x8x256, .f32⟩
  | .hbm, ⟨56, _⟩ => ⟨S2x2048x8x128, .f32⟩
  | .hbm, ⟨57, _⟩ => ⟨S2x2048x1x64, .f32⟩
  | .hbm, ⟨58, _⟩ => ⟨S2x2048x8x64, .f32⟩
  | .hbm, ⟨59, _⟩ => ⟨S2x2048x8x192, .f32⟩
  | .hbm, ⟨60, _⟩ => ⟨S2x2048x8x128, .f32⟩
  | .hbm, ⟨61, _⟩ => ⟨S4096x8x192, .f32⟩
  | .hbm, ⟨62, _⟩ => ⟨S2x2048x8x192, .f32⟩
  | .hbm, ⟨63, _⟩ => ⟨S2x2560x8x192, .f32⟩
  | .hbm, ⟨64, _⟩ => ⟨S2x2560x8x128, .f32⟩
  | .hbm, ⟨65, _⟩ => ⟨S2x8x2048x2560, .f32⟩
  | .hbm, ⟨66, _⟩ => ⟨S_, .f32⟩
  | .hbm, ⟨67, _⟩ => ⟨S2x8x2048x2560, .f32⟩
  | .hbm, ⟨68, _⟩ => ⟨S2x8x2048x2560, .f32⟩
  | .hbm, ⟨69, _⟩ => ⟨S_, .f32⟩
  | .hbm, ⟨70, _⟩ => ⟨S2x8x2048, .f32⟩
  | .hbm, ⟨71, _⟩ => ⟨S_, .f32⟩
  | .hbm, ⟨72, _⟩ => ⟨S2x8x2048, .f32⟩
  | .hbm, ⟨73, _⟩ => ⟨S2x8x2048, .f32⟩
  | .hbm, ⟨74, _⟩ => ⟨S2x8x2048x1, .f32⟩
  | .hbm, ⟨75, _⟩ => ⟨S2x8x2048x2560, .f32⟩
  | .hbm, ⟨76, _⟩ => ⟨S2x8x2048x2560, .f32⟩
  | .hbm, ⟨77, _⟩ => ⟨S2x8x2048x2560, .f32⟩
  | .hbm, ⟨78, _⟩ => ⟨S_, .f32⟩
  | .hbm, ⟨79, _⟩ => ⟨S2x8x2048, .f32⟩
  | .hbm, ⟨80, _⟩ => ⟨S2x8x2048x1, .f32⟩
  | .hbm, ⟨81, _⟩ => ⟨S2x8x2048x2560, .f32⟩
  | .hbm, ⟨82, _⟩ => ⟨S2x8x2048x2560, .f32⟩
  | .hbm, ⟨83, _⟩ => ⟨S2x8x128x2048, .f32⟩
  | .hbm, ⟨84, _⟩ => ⟨S2x2048x8x128, .f32⟩
  | .hbm, ⟨85, _⟩ => ⟨S4096x1024, .f32⟩
  | .hbm, ⟨86, _⟩ => ⟨S12288x1024, .f32⟩
  | .hbm, ⟨87, _⟩ => ⟨S12288x1024, .bf16⟩
  | _, _ => ⟨S12288x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_3 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Kernel2.lean ====
abbrev S8 : Shape := ⟨1, ![8]⟩
abbrev S29184x1024 : Shape := ⟨2, ![29184, 1024]⟩
abbrev S1x8x1024x1792 : Shape := ⟨4, ![1, 8, 1024, 1792]⟩
abbrev S1x8x1792x1024 : Shape := ⟨4, ![1, 8, 1792, 1024]⟩
abbrev S_ : Shape := ⟨0, ![]⟩
abbrev S57 : Shape := ⟨1, ![57]⟩
abbrev S57x1 : Shape := ⟨2, ![57, 1]⟩
abbrev S1x8 : Shape := ⟨2, ![1, 8]⟩
abbrev S57x8 : Shape := ⟨2, ![57, 8]⟩
abbrev S1 : Shape := ⟨1, ![1]⟩
abbrev S29184x8x128 : Shape := ⟨3, ![29184, 8, 128]⟩
abbrev S8x1024x1792 : Shape := ⟨3, ![8, 1024, 1792]⟩
abbrev S8x1792x1024 : Shape := ⟨3, ![8, 1792, 1024]⟩
abbrev S512x8x128 : Shape := ⟨3, ![512, 8, 128]⟩
abbrev S1x1024x1792 : Shape := ⟨3, ![1, 1024, 1792]⟩
abbrev S1x1792x1024 : Shape := ⟨3, ![1, 1792, 1024]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 76
  | .vmem => 10
  | .smem => 2
  | _ => 0

abbrev bufTy : (tb : Table) → Fin (tcTables nBuf tb) → BufTy
  | .hbm, ⟨0, _⟩ => ⟨S8, .i32⟩
  | .hbm, ⟨1, _⟩ => ⟨S29184x1024, .f32⟩
  | .hbm, ⟨2, _⟩ => ⟨S1x8x1024x1792, .f32⟩
  | .hbm, ⟨3, _⟩ => ⟨S1x8x1024x1792, .f32⟩
  | .hbm, ⟨4, _⟩ => ⟨S1x8x1792x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S57, .i32⟩
  | .hbm, ⟨36, _⟩ => ⟨S_, .i32⟩
  | .hbm, ⟨37, _⟩ => ⟨S57, .i32⟩
  | .hbm, ⟨38, _⟩ => ⟨S57, .i32⟩
  | .hbm, ⟨39, _⟩ => ⟨S57x1, .i32⟩
  | .hbm, ⟨40, _⟩ => ⟨S1x8, .i32⟩
  | .hbm, ⟨41, _⟩ => ⟨S57x8, .i32⟩
  | .hbm, ⟨42, _⟩ => ⟨S57x8, .i32⟩
  | .hbm, ⟨43, _⟩ => ⟨S57x8, .i1⟩
  | .hbm, ⟨44, _⟩ => ⟨S57x8, .i32⟩
  | .hbm, ⟨45, _⟩ => ⟨S_, .i32⟩
  | .hbm, ⟨46, _⟩ => ⟨S57, .i32⟩
  | .hbm, ⟨47, _⟩ => ⟨S_, .i32⟩
  | .hbm, ⟨48, _⟩ => ⟨S57, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S29184x1024, .bf16⟩
  | .hbm, ⟨68, _⟩ => ⟨S29184x8x128, .bf16⟩
  | .hbm, ⟨69, _⟩ => ⟨S8x1024x1792, .f32⟩
  | .hbm, ⟨70, _⟩ => ⟨S8x1024x1792, .bf16⟩
  | .hbm, ⟨71, _⟩ => ⟨S8x1024x1792, .f32⟩
  | .hbm, ⟨72, _⟩ => ⟨S8x1024x1792, .bf16⟩
  | .hbm, ⟨73, _⟩ => ⟨S8x1792x1024, .f32⟩
  | .hbm, ⟨74, _⟩ => ⟨S8x1792x1024, .bf16⟩
  | .hbm, ⟨75, _⟩ => ⟨S29184x8x128, .bf16⟩
  | .local _ .vmem, ⟨0, _⟩ => ⟨S512x8x128, .bf16⟩
  | .local _ .vmem, ⟨1, _⟩ => ⟨S512x8x128, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x8x128, .bf16⟩
  | .local _ .vmem, ⟨9, _⟩ => ⟨S512x8x128, .bf16⟩
  | .local _ .smem, ⟨0, _⟩ => ⟨S57, .i32⟩
  | .local _ .smem, ⟨1, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![57], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S57) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S57) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S57) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8 : Shape := ⟨1, ![8]⟩
abbrev S29184x1024 : Shape := ⟨2, ![29184, 1024]⟩
abbrev S1x8x1024x1792 : Shape := ⟨4, ![1, 8, 1024, 1792]⟩
abbrev S1x8x1792x1024 : Shape := ⟨4, ![1, 8, 1792, 1024]⟩
abbrev S29184 : Shape := ⟨1, ![29184]⟩
abbrev S_ : Shape := ⟨0, ![]⟩
abbrev S1 : Shape := ⟨1, ![1]⟩
abbrev S29184x1 : Shape := ⟨2, ![29184, 1]⟩
abbrev S1x1x1024x1792 : Shape := ⟨4, ![1, 1, 1024, 1792]⟩
abbrev S1024x1792 : Shape := ⟨2, ![1024, 1792]⟩
abbrev S1x1x1792x1024 : Shape := ⟨4, ![1, 1, 1792, 1024]⟩
abbrev S1792x1024 : Shape := ⟨2, ![1792, 1024]⟩
abbrev S29184x1792 : Shape := ⟨2, ![29184, 1792]⟩
abbrev S29184x8x128 : Shape := ⟨3, ![29184, 8, 128]⟩

abbrev nBuf : Space → Nat
  | .hbm => 318
  | .vmem => 0
  | .smem => 0
  | _ => 0

abbrev hbmTy0_0 (i : Nat) : BufTy := match i % 128 with
  | 0 => ⟨S8, .i32⟩
  | 1 => ⟨S29184x1024, .f32⟩
  | 2 => ⟨S1x8x1024x1792, .f32⟩
  | 3 => ⟨S1x8x1024x1792, .f32⟩
  | 4 => ⟨S1x8x1792x1024, .f32⟩
  | 5 => ⟨S29184, .i32⟩
  | 6 => ⟨S_, .i32⟩
  | 7 => ⟨S8, .i32⟩
  | 8 => ⟨S8, .i32⟩
  | 9 => ⟨S_, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S8, .i32⟩
  | 18 => ⟨S8, .i32⟩
  | 19 => ⟨S_, .i32⟩
  | 20 => ⟨S8, .i32⟩
  | 21 => ⟨S8, .i1⟩
  | 22 => ⟨S8, .i1⟩
  | 23 => ⟨S_, .i32⟩
  | 24 => ⟨S8, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S_, .i32⟩
  | 32 => ⟨S8, .i32⟩
  | 33 => ⟨S8, .i32⟩
  | 34 => ⟨S_, .f32⟩
  | 35 => ⟨S29184x1024, .f32⟩
  | 36 => ⟨S1, .i32⟩
  | 37 => ⟨S_, .i32⟩
  | 38 => ⟨S29184, .i32⟩
  | 39 => ⟨S29184, .i1⟩
  | 40 => ⟨S1, .i32⟩
  | 41 => ⟨S_, .i32⟩
  | 42 => ⟨S29184, .i32⟩
  | 43 => ⟨S29184, .i1⟩
  | 44 => ⟨S29184, .i1⟩
  | 45 => ⟨S29184x1, .i1⟩
  | 46 => ⟨S1x1x1024x1792, .f32⟩
  | 47 => ⟨S1024x1792, .f32⟩
  | 48 => ⟨S1x1x1024x1792, .f32⟩
  | 49 => ⟨S1024x1792, .f32⟩
  | 50 => ⟨S1x1x1792x1024, .f32⟩
  | 51 => ⟨S1792x1024, .f32⟩
  | 52 => ⟨S29184x1792, .f32⟩
  | 53 => ⟨S29184x1792, .f32⟩
  | 54 => ⟨S29184x1792, .f32⟩
  | 55 => ⟨S_, .f32⟩
  | 56 => ⟨S29184x1792, .f32⟩
  | 57 => ⟨S29184x1792, .f32⟩
  | 58 => ⟨S_, .f32⟩
  | 59 => ⟨S29184x1792, .f32⟩
  | 60 => ⟨S29184x1792, .f32⟩
  | 61 => ⟨S29184x1792, .f32⟩
  | 62 => ⟨S29184x1792, .f32⟩
  | 63 => ⟨S29184x1792, .f32⟩
  | 64 => ⟨S29184x1024, .f32⟩
  | 65 => ⟨S_, .f32⟩
  | 66 => ⟨S_, .f32⟩
  | 67 => ⟨S29184x1024, .i1⟩
  | 68 => ⟨S29184x1024, .f32⟩
  | 69 => ⟨S29184x1024, .f32⟩
  | 70 => ⟨S29184x1024, .f32⟩
  | 71 => ⟨S1, .i32⟩
  | 72 => ⟨S_, .i32⟩
  | 73 => ⟨S29184, .i32⟩
  | 74 => ⟨S29184, .i1⟩
  | 75 => ⟨S1, .i32⟩
  | 76 => ⟨S_, .i32⟩
  | 77 => ⟨S29184, .i32⟩
  | 78 => ⟨S29184, .i1⟩
  | 79 => ⟨S29184, .i1⟩
  | 80 => ⟨S29184x1, .i1⟩
  | 81 => ⟨S1x1x1024x1792, .f32⟩
  | 82 => ⟨S1024x1792, .f32⟩
  | 83 => ⟨S1x1x1024x1792, .f32⟩
  | 84 => ⟨S1024x1792, .f32⟩
  | 85 => ⟨S1x1x1792x1024, .f32⟩
  | 86 => ⟨S1792x1024, .f32⟩
  | 87 => ⟨S29184x1792, .f32⟩
  | 88 => ⟨S29184x1792, .f32⟩
  | 89 => ⟨S29184x1792, .f32⟩
  | 90 => ⟨S_, .f32⟩
  | 91 => ⟨S29184x1792, .f32⟩
  | 92 => ⟨S29184x1792, .f32⟩
  | 93 => ⟨S_, .f32⟩
  | 94 => ⟨S29184x1792, .f32⟩
  | 95 => ⟨S29184x1792, .f32⟩
  | 96 => ⟨S29184x1792, .f32⟩
  | 97 => ⟨S29184x1792, .f32⟩
  | 98 => ⟨S29184x1792, .f32⟩
  | 99 => ⟨S29184x1024, .f32⟩
  | 100 => ⟨S_, .f32⟩
  | 101 => ⟨S_, .f32⟩
  | 102 => ⟨S29184x1024, .i1⟩
  | 103 => ⟨S29184x1024, .f32⟩
  | 104 => ⟨S29184x1024, .f32⟩
  | 105 => ⟨S29184x1024, .f32⟩
  | 106 => ⟨S1, .i32⟩
  | 107 => ⟨S_, .i32⟩
  | 108 => ⟨S29184, .i32⟩
  | 109 => ⟨S29184, .i1⟩
  | 110 => ⟨S1, .i32⟩
  | 111 => ⟨S_, .i32⟩
  | 112 => ⟨S29184, .i32⟩
  | 113 => ⟨S29184, .i1⟩
  | 114 => ⟨S29184, .i1⟩
  | 115 => ⟨S29184x1, .i1⟩
  | 116 => ⟨S1x1x1024x1792, .f32⟩
  | 117 => ⟨S1024x1792, .f32⟩
  | 118 => ⟨S1x1x1024x1792, .f32⟩
  | 119 => ⟨S1024x1792, .f32⟩
  | 120 => ⟨S1x1x1792x1024, .f32⟩
  | 121 => ⟨S1792x1024, .f32⟩
  | 122 => ⟨S29184x1792, .f32⟩
  | 123 => ⟨S29184x1792, .f32⟩
  | 124 => ⟨S29184x1792, .f32⟩
  | 125 => ⟨S_, .f32⟩
  | 126 => ⟨S29184x1792, .f32⟩
  | 127 => ⟨S29184x1792, .f32⟩
  | _ => ⟨S8, .i32⟩

abbrev hbmTy0_1 (i : Nat) : BufTy := match i % 128 with
  | 0 => ⟨S_, .f32⟩
  | 1 => ⟨S29184x1792, .f32⟩
  | 2 => ⟨S29184x1792, .f32⟩
  | 3 => ⟨S29184x1792, .f32⟩
  | 4 => ⟨S29184x1792, .f32⟩
  | 5 => ⟨S29184x1792, .f32⟩
  | 6 => ⟨S29184x1024, .f32⟩
  | 7 => ⟨S_, .f32⟩
  | 8 => ⟨S_, .f32⟩
  | 9 => ⟨S29184x1024, .i1⟩
  | 10 => ⟨S29184x1024, .f32⟩
  | 11 => ⟨S29184x1024, .f32⟩
  | 12 => ⟨S29184x1024, .f32⟩
  | 13 => ⟨S1, .i32⟩
  | 14 => ⟨S_, .i32⟩
  | 15 => ⟨S29184, .i32⟩
  | 16 => ⟨S29184, .i1⟩
  | 17 => ⟨S1, .i32⟩
  | 18 => ⟨S_, .i32⟩
  | 19 => ⟨S29184, .i32⟩
  | 20 => ⟨S29184, .i1⟩
  | 21 => ⟨S29184, .i1⟩
  | 22 => ⟨S29184x1, .i1⟩
  | 23 => ⟨S1x1x1024x1792, .f32⟩
  | 24 => ⟨S1024x1792, .f32⟩
  | 25 => ⟨S1x1x1024x1792, .f32⟩
  | 26 => ⟨S1024x1792, .f32⟩
  | 27 => ⟨S1x1x1792x1024, .f32⟩
  | 28 => ⟨S1792x1024, .f32⟩
  | 29 => ⟨S29184x1792, .f32⟩
  | 30 => ⟨S29184x1792, .f32⟩
  | 31 => ⟨S29184x1792, .f32⟩
  | 32 => ⟨S_, .f32⟩
  | 33 => ⟨S29184x1792, .f32⟩
  | 34 => ⟨S29184x1792, .f32⟩
  | 35 => ⟨S_, .f32⟩
  | 36 => ⟨S29184x1792, .f32⟩
  | 37 => ⟨S29184x1792, .f32⟩
  | 38 => ⟨S29184x1792, .f32⟩
  | 39 => ⟨S29184x1792, .f32⟩
  | 40 => ⟨S29184x1792, .f32⟩
  | 41 => ⟨S29184x1024, .f32⟩
  | 42 => ⟨S_, .f32⟩
  | 43 => ⟨S_, .f32⟩
  | 44 => ⟨S29184x1024, .i1⟩
  | 45 => ⟨S29184x1024, .f32⟩
  | 46 => ⟨S29184x1024, .f32⟩
  | 47 => ⟨S29184x1024, .f32⟩
  | 48 => ⟨S1, .i32⟩
  | 49 => ⟨S_, .i32⟩
  | 50 => ⟨S29184, .i32⟩
  | 51 => ⟨S29184, .i1⟩
  | 52 => ⟨S1, .i32⟩
  | 53 => ⟨S_, .i32⟩
  | 54 => ⟨S29184, .i32⟩
  | 55 => ⟨S29184, .i1⟩
  | 56 => ⟨S29184, .i1⟩
  | 57 => ⟨S29184x1, .i1⟩
  | 58 => ⟨S1x1x1024x1792, .f32⟩
  | 59 => ⟨S1024x1792, .f32⟩
  | 60 => ⟨S1x1x1024x1792, .f32⟩
  | 61 => ⟨S1024x1792, .f32⟩
  | 62 => ⟨S1x1x1792x1024, .f32⟩
  | 63 => ⟨S1792x1024, .f32⟩
  | 64 => ⟨S29184x1792, .f32⟩
  | 65 => ⟨S29184x1792, .f32⟩
  | 66 => ⟨S29184x1792, .f32⟩
  | 67 => ⟨S_, .f32⟩
  | 68 => ⟨S29184x1792, .f32⟩
  | 69 => ⟨S29184x1792, .f32⟩
  | 70 => ⟨S_, .f32⟩
  | 71 => ⟨S29184x1792, .f32⟩
  | 72 => ⟨S29184x1792, .f32⟩
  | 73 => ⟨S29184x1792, .f32⟩
  | 74 => ⟨S29184x1792, .f32⟩
  | 75 => ⟨S29184x1792, .f32⟩
  | 76 => ⟨S29184x1024, .f32⟩
  | 77 => ⟨S_, .f32⟩
  | 78 => ⟨S_, .f32⟩
  | 79 => ⟨S29184x1024, .i1⟩
  | 80 => ⟨S29184x1024, .f32⟩
  | 81 => ⟨S29184x1024, .f32⟩
  | 82 => ⟨S29184x1024, .f32⟩
  | 83 => ⟨S1, .i32⟩
  | 84 => ⟨S_, .i32⟩
  | 85 => ⟨S29184, .i32⟩
  | 86 => ⟨S29184, .i1⟩
  | 87 => ⟨S1, .i32⟩
  | 88 => ⟨S_, .i32⟩
  | 89 => ⟨S29184, .i32⟩
  | 90 => ⟨S29184, .i1⟩
  | 91 => ⟨S29184, .i1⟩
  | 92 => ⟨S29184x1, .i1⟩
  | 93 => ⟨S1x1x1024x1792, .f32⟩
  | 94 => ⟨S1024x1792, .f32⟩
  | 95 => ⟨S1x1x1024x1792, .f32⟩
  | 96 => ⟨S1024x1792, .f32⟩
  | 97 => ⟨S1x1x1792x1024, .f32⟩
  | 98 => ⟨S1792x1024, .f32⟩
  | 99 => ⟨S29184x1792, .f32⟩
  | 100 => ⟨S29184x1792, .f32⟩
  | 101 => ⟨S29184x1792, .f32⟩
  | 102 => ⟨S_, .f32⟩
  | 103 => ⟨S29184x1792, .f32⟩
  | 104 => ⟨S29184x1792, .f32⟩
  | 105 => ⟨S_, .f32⟩
  | 106 => ⟨S29184x1792, .f32⟩
  | 107 => ⟨S29184x1792, .f32⟩
  | 108 => ⟨S29184x1792, .f32⟩
  | 109 => ⟨S29184x1792, .f32⟩
  | 110 => ⟨S29184x1792, .f32⟩
  | 111 => ⟨S29184x1024, .f32⟩
  | 112 => ⟨S_, .f32⟩
  | 113 => ⟨S_, .f32⟩
  | 114 => ⟨S29184x1024, .i1⟩
  | 115 => ⟨S29184x1024, .f32⟩
  | 116 => ⟨S29184x1024, .f32⟩
  | 117 => ⟨S29184x1024, .f32⟩
  | 118 => ⟨S1, .i32⟩
  | 119 => ⟨S_, .i32⟩
  | 120 => ⟨S29184, .i32⟩
  | 121 => ⟨S29184, .i1⟩
  | 122 => ⟨S1, .i32⟩
  | 123 => ⟨S_, .i32⟩
  | 124 => ⟨S29184, .i32⟩
  | 125 => ⟨S29184, .i1⟩
  | 126 => ⟨S29184, .i1⟩
  | 127 => ⟨S29184x1, .i1⟩
  | _ => ⟨S8, .i32⟩

abbrev hbmTy0_2 (i : Nat) : BufTy := match i % 128 with
  | 0 => ⟨S1x1x1024x1792, .f32⟩
  | 1 => ⟨S1024x1792, .f32⟩
  | 2 => ⟨S1x1x1024x1792, .f32⟩
  | 3 => ⟨S1024x1792, .f32⟩
  | 4 => ⟨S1x1x1792x1024, .f32⟩
  | 5 => ⟨S1792x1024, .f32⟩
  | 6 => ⟨S29184x1792, .f32⟩
  | 7 => ⟨S29184x1792, .f32⟩
  | 8 => ⟨S29184x1792, .f32⟩
  | 9 => ⟨S_, .f32⟩
  | 10 => ⟨S29184x1792, .f32⟩
  | 11 => ⟨S29184x1792, .f32⟩
  | 12 => ⟨S_, .f32⟩
  | 13 => ⟨S29184x1792, .f32⟩
  | 14 => ⟨S29184x1792, .f32⟩
  | 15 => ⟨S29184x1792, .f32⟩
  | 16 => ⟨S29184x1792, .f32⟩
  | 17 => ⟨S29184x1792, .f32⟩
  | 18 => ⟨S29184x1024, .f32⟩
  | 19 => ⟨S_, .f32⟩
  | 20 => ⟨S_, .f32⟩
  | 21 => ⟨S29184x1024, .i1⟩
  | 22 => ⟨S29184x1024, .f32⟩
  | 23 => ⟨S29184x1024, .f32⟩
  | 24 => ⟨S29184x1024, .f32⟩
  | 25 => ⟨S1, .i32⟩
  | 26 => ⟨S_, .i32⟩
  | 27 => ⟨S29184, .i32⟩
  | 28 => ⟨S29184, .i1⟩
  | 29 => ⟨S1, .i32⟩
  | 30 => ⟨S_, .i32⟩
  | 31 => ⟨S29184, .i32⟩
  | 32 => ⟨S29184, .i1⟩
  | 33 => ⟨S29184, .i1⟩
  | 34 => ⟨S29184x1, .i1⟩
  | 35 => ⟨S1x1x1024x1792, .f32⟩
  | 36 => ⟨S1024x1792, .f32⟩
  | 37 => ⟨S1x1x1024x1792, .f32⟩
  | 38 => ⟨S1024x1792, .f32⟩
  | 39 => ⟨S1x1x1792x1024, .f32⟩
  | 40 => ⟨S1792x1024, .f32⟩
  | 41 => ⟨S29184x1792, .f32⟩
  | 42 => ⟨S29184x1792, .f32⟩
  | 43 => ⟨S29184x1792, .f32⟩
  | 44 => ⟨S_, .f32⟩
  | 45 => ⟨S29184x1792, .f32⟩
  | 46 => ⟨S29184x1792, .f32⟩
  | 47 => ⟨S_, .f32⟩
  | 48 => ⟨S29184x1792, .f32⟩
  | 49 => ⟨S29184x1792, .f32⟩
  | 50 => ⟨S29184x1792, .f32⟩
  | 51 => ⟨S29184x1792, .f32⟩
  | 52 => ⟨S29184x1792, .f32⟩
  | 53 => ⟨S29184x1024, .f32⟩
  | 54 => ⟨S_, .f32⟩
  | 55 => ⟨S_, .f32⟩
  | 56 => ⟨S29184x1024, .i1⟩
  | 57 => ⟨S29184x1024, .f32⟩
  | 58 => ⟨S29184x1024, .f32⟩
  | 59 => ⟨S29184x1024, .f32⟩
  | 60 => ⟨S29184x1024, .bf16⟩
  | 61 => ⟨S29184x8x128, .bf16⟩
  | _ => ⟨S8, .i32⟩

abbrev hbmTy (i : Nat) : BufTy := match i / 128 with
  | 0 => hbmTy0_0 i
  | 1 => hbmTy0_1 i
  | 2 => hbmTy0_2 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_call1_call0_c : Ref sig .tc := ⟨.hbm, 30, rfl⟩
abbrev main_call1_call0_v0 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_2 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_3 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_4 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_call8_v0 : Ref sig .tc := ⟨.hbm, 158, rfl⟩
abbrev main_call8_v1 : Ref sig .tc := ⟨.hbm, 159, rfl⟩
abbrev main_call8_cst : Ref sig .tc := ⟨.hbm, 160, rfl⟩
abbrev main_call8_v2 : Ref sig .tc := ⟨.hbm, 161, rfl⟩
abbrev main_call8_v3 : Ref sig .tc := ⟨.hbm, 162, rfl⟩
abbrev main_call8_cst_0 : Ref sig .tc := ⟨.hbm, 163, rfl⟩
abbrev main_call8_v4 : Ref sig .tc := ⟨.hbm, 164, rfl⟩
abbrev main_call8_v5 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_5 : Ref sig .tc := ⟨.hbm, 170, rfl⟩
abbrev main_call9_v0 : Ref sig .tc := ⟨.hbm, 171, rfl⟩
abbrev main_call9_v1 : Ref sig .tc := ⟨.hbm, 172, rfl⟩
abbrev main_call9_v2 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_call10_v0 : Ref sig .tc := ⟨.hbm, 193, rfl⟩
abbrev main_call10_v1 : Ref sig .tc := ⟨.hbm, 194, rfl⟩
abbrev main_call10_cst : Ref sig .tc := ⟨.hbm, 195, rfl⟩
abbrev main_call10_v2 : Ref sig .tc := ⟨.hbm, 196, rfl⟩
abbrev main_call10_v3 : Ref sig .tc := ⟨.hbm, 197, rfl⟩
abbrev main_call10_cst_0 : Ref sig .tc := ⟨.hbm, 198, rfl⟩
abbrev main_call10_v4 : Ref sig .tc := ⟨.hbm, 199, rfl⟩
abbrev main_call10_v5 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_6 : Ref sig .tc := ⟨.hbm, 205, rfl⟩
abbrev main_call11_v0 : Ref sig .tc := ⟨.hbm, 206, rfl⟩
abbrev main_call11_v1 : Ref sig .tc := ⟨.hbm, 207, rfl⟩
abbrev main_call11_v2 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_call12_v0 : Ref sig .tc := ⟨.hbm, 228, rfl⟩
abbrev main_call12_v1 : Ref sig .tc := ⟨.hbm, 229, rfl⟩
abbrev main_call12_cst : Ref sig .tc := ⟨.hbm, 230, rfl⟩
abbrev main_call12_v2 : Ref sig .tc := ⟨.hbm, 231, rfl⟩
abbrev main_call12_v3 : Ref sig .tc := ⟨.hbm, 232, rfl⟩
abbrev main_call12_cst_0 : Ref sig .tc := ⟨.hbm, 233, rfl⟩
abbrev main_call12_v4 : Ref sig .tc := ⟨.hbm, 234, rfl⟩
abbrev main_call12_v5 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_7 : Ref sig .tc := ⟨.hbm, 240, rfl⟩
abbrev main_call13_v0 : Ref sig .tc := ⟨.hbm, 241, rfl⟩
abbrev main_call13_v1 : Ref sig .tc := ⟨.hbm, 242, rfl⟩
abbrev main_call13_v2 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_call14_v0 : Ref sig .tc := ⟨.hbm, 263, rfl⟩
abbrev main_call14_v1 : Ref sig .tc := ⟨.hbm, 264, rfl⟩
abbrev main_call14_cst : Ref sig .tc := ⟨.hbm, 265, rfl⟩
abbrev main_call14_v2 : Ref sig .tc := ⟨.hbm, 266, rfl⟩
abbrev main_call14_v3 : Ref sig .tc := ⟨.hbm, 267, rfl⟩
abbrev main_call14_cst_0 : Ref sig .tc := ⟨.hbm, 268, rfl⟩
abbrev main_call14_v4 : Ref sig .tc := ⟨.hbm, 269, rfl⟩
abbrev main_call14_v5 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_cst_8 : Ref sig .tc := ⟨.hbm, 275, rfl⟩
abbrev main_call15_v0 : Ref sig .tc := ⟨.hbm, 276, rfl⟩
abbrev main_call15_v1 : Ref sig .tc := ⟨.hbm, 277, rfl⟩
abbrev main_call15_v2 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_call16_v0 : Ref sig .tc := ⟨.hbm, 298, rfl⟩
abbrev main_call16_v1 : Ref sig .tc := ⟨.hbm, 299, rfl⟩
abbrev main_call16_cst : Ref sig .tc := ⟨.hbm, 300, rfl⟩
abbrev main_call16_v2 : Ref sig .tc := ⟨.hbm, 301, rfl⟩
abbrev main_call16_v3 : Ref sig .tc := ⟨.hbm, 302, rfl⟩
abbrev main_call16_cst_0 : Ref sig .tc := ⟨.hbm, 303, rfl⟩
abbrev main_call16_v4 : Ref sig .tc := ⟨.hbm, 304, rfl⟩
abbrev main_call16_v5 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_cst_9 : Ref sig .tc := ⟨.hbm, 310, rfl⟩
abbrev main_call17_v0 : Ref sig .tc := ⟨.hbm, 311, rfl⟩
abbrev main_call17_v1 : Ref sig .tc := ⟨.hbm, 312, rfl⟩
abbrev main_call17_v2 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩

abbrev nD : Nat := 1
abbrev τ : Topo := Topo.v7x

variable {F : FTy → Type} [FloatOps F]
-- ==== Kernel3.lean ====
abbrev S12288x1024 : Shape := ⟨2, ![12288, 1024]⟩
abbrev S3x6144 : Shape := ⟨2, ![3, 6144]⟩
abbrev S1x1024x2816 : Shape := ⟨3, ![1, 1024, 2816]⟩
abbrev S1x2816x1024 : Shape := ⟨3, ![1, 2816, 1024]⟩
abbrev S2x2x1024 : Shape := ⟨3, ![2, 2, 1024]⟩
abbrev S1x8x1792x1024 : Shape := ⟨4, ![1, 8, 1792, 1024]⟩
abbrev S3x6x1024 : Shape := ⟨3, ![3, 6, 1024]⟩
abbrev S1024x2816 : Shape := ⟨2, ![1024, 2816]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S8x1792x1024 : Shape := ⟨3, ![8, 1792, 1024]⟩
abbrev S14336x1024 : Shape := ⟨2, ![14336, 1024]⟩
abbrev S512x1024 : Shape := ⟨2, ![512, 1024]⟩
abbrev S1x6x1024 : Shape := ⟨3, ![1, 6, 1024]⟩
abbrev S896x1024 : Shape := ⟨2, ![896, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 25
  | .vmem => 15
  | .smem => 0
  | _ => 0

abbrev bufTy : (tb : Table) → Fin (tcTables nBuf tb) → BufTy
  | .hbm, ⟨0, _⟩ => ⟨S12288x1024, .f32⟩
  | .hbm, ⟨1, _⟩ => ⟨S3x6144, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x2x1024, .f32⟩
  | .hbm, ⟨6, _⟩ => ⟨S2x2x1024, .f32⟩
  | .hbm, ⟨7, _⟩ => ⟨S1x8x1792x1024, .f32⟩
  | .hbm, ⟨8, _⟩ => ⟨S3x6x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S8x1792x1024, .f32⟩
  | .hbm, ⟨22, _⟩ => ⟨S14336x1024, .f32⟩
  | .hbm, ⟨23, _⟩ => ⟨S12288x1024, .f32⟩
  | .hbm, ⟨24, _⟩ => ⟨S14336x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S896x1024, .f32⟩
  | .local _ .vmem, ⟨10, _⟩ => ⟨S896x1024, .f32⟩
  | .local _ .vmem, ⟨11, _⟩ => ⟨S512x1024, .f32⟩
  | .local _ .vmem, ⟨12, _⟩ => ⟨S512x1024, .f32⟩
  | .local _ .vmem, ⟨13, _⟩ => ⟨S896x1024, .bf16⟩
  | .local _ .vmem, ⟨14, _⟩ => ⟨S896x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S896x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S896x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S12288x1024 : Shape := ⟨2, ![12288, 1024]⟩
abbrev S3x6144 : Shape := ⟨2, ![3, 6144]⟩
abbrev S1x1024x2816 : Shape := ⟨3, ![1, 1024, 2816]⟩
abbrev S1x2816x1024 : Shape := ⟨3, ![1, 2816, 1024]⟩
abbrev S2x2x1024 : Shape := ⟨3, ![2, 2, 1024]⟩
abbrev S1x8x1792x1024 : Shape := ⟨4, ![1, 8, 1792, 1024]⟩
abbrev S8192x1024 : Shape := ⟨2, ![8192, 1024]⟩
abbrev S32x256x1024 : Shape := ⟨3, ![32, 256, 1024]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S1x1x1024 : Shape := ⟨3, ![1, 1, 1024]⟩
abbrev S1024x2816 : Shape := ⟨2, ![1024, 2816]⟩
abbrev S32x256x2816 : Shape := ⟨3, ![32, 256, 2816]⟩
abbrev S2816x1024 : Shape := ⟨2, ![2816, 1024]⟩
abbrev S32x256 : Shape := ⟨2, ![32, 256]⟩
abbrev S32x256x1 : Shape := ⟨3, ![32, 256, 1]⟩
abbrev S4096x1024 : Shape := ⟨2, ![4096, 1024]⟩
abbrev S2x2048x1024 : Shape := ⟨3, ![2, 2048, 1024]⟩
abbrev S2x6144 : Shape := ⟨2, ![2, 6144]⟩
abbrev S2x1024 : Shape := ⟨2, ![2, 1024]⟩
abbrev S2x1x1024 : Shape := ⟨3, ![2, 1, 1024]⟩
abbrev S2x2048x2816 : Shape := ⟨3, ![2, 2048, 2816]⟩
abbrev S2x2048 : Shape := ⟨2, ![2, 2048]⟩
abbrev S2x2048x1 : Shape := ⟨3, ![2, 2048, 1]⟩
abbrev S8x1792x1024 : Shape := ⟨3, ![8, 1792, 1024]⟩
abbrev S14336x1024 : Shape := ⟨2, ![14336, 1024]⟩

abbrev nBuf : Space → Nat
  | .hbm => 160
  | .vmem => 0
  | .smem => 0
  | _ => 0

abbrev hbmTy0_0 (i : Nat) : BufTy := match i % 128 with
  | 0 => ⟨S12288x1024, .f32⟩
  | 1 => ⟨S3x6144, .f32⟩
  | 2 => ⟨S1x1024x2816, .f32⟩
  | 3 => ⟨S1x1024x2816, .f32⟩
  | 4 => ⟨S1x2816x1024, .f32⟩
  | 5 => ⟨S2x2x1024, .f32⟩
  | 6 => ⟨S2x2x1024, .f32⟩
  | 7 => ⟨S1x8x1792x1024, .f32⟩
  | 8 => ⟨S8192x1024, .f32⟩
  | 9 => ⟨S32x256x1024, .f32⟩
  | 10 => ⟨S1x6144, .f32⟩
  | 11 => ⟨S6144, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S_, .f32⟩
  | 19 => ⟨S1x1024, .f32⟩
  | 20 => ⟨S1x1024, .f32⟩
  | 21 => ⟨S1x1x1024, .f32⟩
  | 22 => ⟨S32x256x1024, .f32⟩
  | 23 => ⟨S32x256x1024, .f32⟩
  | 24 => ⟨S1x1x1024, .f32⟩
  | 25 => ⟨S32x256x1024, .f32⟩
  | 26 => ⟨S32x256x1024, .f32⟩
  | 27 => ⟨S1024x2816, .f32⟩
  | 28 => ⟨S32x256x2816, .f32⟩
  | 29 => ⟨S32x256x2816, .f32⟩
  | 30 => ⟨S32x256x2816, .f32⟩
  | 31 => ⟨S_, .f32⟩
  | 32 => ⟨S32x256x2816, .f32⟩
  | 33 => ⟨S32x256x2816, .f32⟩
  | 34 => ⟨S_, .f32⟩
  | 35 => ⟨S32x256x2816, .f32⟩
  | 36 => ⟨S32x256x2816, .f32⟩
  | 37 => ⟨S32x256x2816, .f32⟩
  | 38 => ⟨S1024x2816, .f32⟩
  | 39 => ⟨S32x256x2816, .f32⟩
  | 40 => ⟨S32x256x2816, .f32⟩
  | 41 => ⟨S2816x1024, .f32⟩
  | 42 => ⟨S32x256x1024, .f32⟩
  | 43 => ⟨S_, .f32⟩
  | 44 => ⟨S32x256x1024, .f32⟩
  | 45 => ⟨S32x256x1024, .f32⟩
  | 46 => ⟨S1x1x1024, .f32⟩
  | 47 => ⟨S32x256x1024, .f32⟩
  | 48 => ⟨S32x256x1024, .f32⟩
  | 49 => ⟨S32x256x1024, .f32⟩
  | 50 => ⟨S1x1x1024, .f32⟩
  | 51 => ⟨S1024, .f32⟩
  | 52 => ⟨S1x1x1024, .f32⟩
  | 53 => ⟨S1024, .f32⟩
  | 54 => ⟨S_, .f32⟩
  | 55 => ⟨S32x256, .f32⟩
  | 56 => ⟨S32x256x1, .f32⟩
  | 57 => ⟨S_, .f32⟩
  | 58 => ⟨S32x256x1, .f32⟩
  | 59 => ⟨S32x256x1, .f32⟩
  | 60 => ⟨S32x256x1024, .f32⟩
  | 61 => ⟨S32x256x1024, .f32⟩
  | 62 => ⟨S32x256x1024, .f32⟩
  | 63 => ⟨S_, .f32⟩
  | 64 => ⟨S32x256, .f32⟩
  | 65 => ⟨S32x256x1, .f32⟩
  | 66 => ⟨S_, .f32⟩
  | 67 => ⟨S32x256x1, .f32⟩
  | 68 => ⟨S32x256x1, .f32⟩
  | 69 => ⟨S32x256x1024, .f32⟩
  | 70 => ⟨S32x256x1024, .f32⟩
  | 71 => ⟨S_, .f32⟩
  | 72 => ⟨S32x256x1, .f32⟩
  | 73 => ⟨S32x256x1, .f32⟩
  | 74 => ⟨S32x256x1, .f32⟩
  | 75 => ⟨S32x256x1024, .f32⟩
  | 76 => ⟨S32x256x1024, .f32⟩
  | 77 => ⟨S1x1x1024, .f32⟩
  | 78 => ⟨S32x256x1024, .f32⟩
  | 79 => ⟨S32x256x1024, .f32⟩
  | 80 => ⟨S1x1x1024, .f32⟩
  | 81 => ⟨S32x256x1024, .f32⟩
  | 82 => ⟨S32x256x1024, .f32⟩
  | 83 => ⟨S4096x1024, .f32⟩
  | 84 => ⟨S2x2048x1024, .f32⟩
  | 85 => ⟨S2x6144, .f32⟩
  | 86 => ⟨S2x1024, .f32⟩
  | 87 => ⟨S2x1x1024, .f32⟩
  | 88 => ⟨S2x1024, .f32⟩
  | 89 => ⟨S2x1x1024, .f32⟩
  | 90 => ⟨S2x1024, .f32⟩
  | 91 => ⟨S2x1x1024, .f32⟩
  | 92 => ⟨S_, .f32⟩
  | 93 => ⟨S2x1x1024, .f32⟩
  | 94 => ⟨S2x1x1024, .f32⟩
  | 95 => ⟨S2x2048x1024, .f32⟩
  | 96 => ⟨S2x2048x1024, .f32⟩
  | 97 => ⟨S2x2048x1024, .f32⟩
  | 98 => ⟨S2x2048x1024, .f32⟩
  | 99 => ⟨S1024x2816, .f32⟩
  | 100 => ⟨S2x2048x2816, .f32⟩
  | 101 => ⟨S2x2048x2816, .f32⟩
  | 102 => ⟨S2x2048x2816, .f32⟩
  | 103 => ⟨S_, .f32⟩
  | 104 => ⟨S2x2048x2816, .f32⟩
  | 105 => ⟨S2x2048x2816, .f32⟩
  | 106 => ⟨S_, .f32⟩
  | 107 => ⟨S2x2048x2816, .f32⟩
  | 108 => ⟨S2x2048x2816, .f32⟩
  | 109 => ⟨S2x2048x2816, .f32⟩
  | 110 => ⟨S1024x2816, .f32⟩
  | 111 => ⟨S2x2048x2816, .f32⟩
  | 112 => ⟨S2x2048x2816, .f32⟩
  | 113 => ⟨S2816x1024, .f32⟩
  | 114 => ⟨S2x2048x1024, .f32⟩
  | 115 => ⟨S_, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S1x1x1024, .f32⟩
  | 122 => ⟨S1024, .f32⟩
  | 123 => ⟨S1x1x1024, .f32⟩
  | 124 => ⟨S1024, .f32⟩
  | 125 => ⟨S_, .f32⟩
  | 126 => ⟨S2x2048, .f32⟩
  | 127 => ⟨S2x2048x1, .f32⟩
  | _ => ⟨S12288x1024, .f32⟩

abbrev hbmTy0_1 (i : Nat) : BufTy := match i % 128 with
  | 0 => ⟨S_, .f32⟩
  | 1 => ⟨S2x2048x1, .f32⟩
  | 2 => ⟨S2x2048x1, .f32⟩
  | 3 => ⟨S2x2048x1024, .f32⟩
  | 4 => ⟨S2x2048x1024, .f32⟩
  | 5 => ⟨S2x2048x1024, .f32⟩
  | 6 => ⟨S_, .f32⟩
  | 7 => ⟨S2x2048, .f32⟩
  | 8 => ⟨S2x2048x1, .f32⟩
  | 9 => ⟨S_, .f32⟩
  | 10 => ⟨S2x2048x1, .f32⟩
  | 11 => ⟨S2x2048x1, .f32⟩
  | 12 => ⟨S2x2048x1024, .f32⟩
  | 13 => ⟨S2x2048x1024, .f32⟩
  | 14 => ⟨S_, .f32⟩
  | 15 => ⟨S2x2048x1, .f32⟩
  | 16 => ⟨S2x2048x1, .f32⟩
  | 17 => ⟨S2x2048x1, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S8192x1024, .f32⟩
  | 27 => ⟨S4096x1024, .f32⟩
  | 28 => ⟨S12288x1024, .f32⟩
  | 29 => ⟨S8x1792x1024, .f32⟩
  | 30 => ⟨S14336x1024, .f32⟩
  | 31 => ⟨S14336x1024, .bf16⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_1 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_cst_9 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_10 : Ref sig .tc := ⟨.hbm, 134, rfl⟩
abbrev main_v99 : Ref sig .tc := ⟨.hbm, 135, rfl⟩
abbrev main_v100 : Ref sig .tc := ⟨.hbm, 136, rfl⟩
abbrev main_cst_11 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_12 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩

abbrev nD : Nat := 1
abbrev τ : Topo := Topo.v7x

variable {F : FTy → Type} [FloatOps F]
-- ==== Proof.Ffn.Base.lean ====
/-
  The dense feed-forward's call: the buffers its body is called with, and the one condition it branches on.
-/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the kernel body is called with: each window's staging buffer, whole. -/
structure Bufs where
  a1 : Memref sig .tc .vmem S512x1024 .f32
  h1 : a1.IsWhole
  a2 : Memref sig .tc .vmem S1x6x1024 .f32
  h2 : a2.IsWhole
  a3 : Memref sig .tc .vmem S1024x2816 .bf16
  h3 : a3.IsWhole
  a4 : Memref sig .tc .vmem S1024x2816 .bf16
  h4 : a4.IsWhole
  a5 : Memref sig .tc .vmem S2816x1024 .bf16
  h5 : a5.IsWhole
  a6 : Memref sig .tc .vmem S1x1024 .f32
  h6 : a6.IsWhole
  a7 : Memref sig .tc .vmem S1x1024 .f32
  h7 : a7.IsWhole
  a8 : Memref sig .tc .vmem S896x1024 .f32
  h8 : a8.IsWhole
  a9 : Memref sig .tc .vmem S512x1024 .f32
  h9 : a9.IsWhole
  a10 : Memref sig .tc .vmem S896x1024 .bf16
  h10 : a10.IsWhole

/-- What the eight input windows' staging buffers hold when the body starts. -/
structure Ins (F : FTy → Type) [FloatOps F] where
  x0 : Vec F S512x1024 .f32
  x1 : Vec F S1x6x1024 .f32
  x2 : Vec F S1024x2816 .bf16
  x3 : Vec F S1024x2816 .bf16
  x4 : Vec F S2816x1024 .bf16
  x5 : Vec F S1x1024 .f32
  x6 : Vec F S1x1024 .f32
  x7 : Vec F S896x1024 .f32

/-- The kernel body on these buffers. -/
def bodyOn (i : grid0.Coords) (M : Bufs) :=
  cc0_dense_swiglu (F := F) i M.a1 M.h1 M.a2 M.h2 M.a3 M.h3 M.a4 M.h4 M.a5 M.h5 M.a6 M.h6 M.a7 M.h7 M.a8 M.h8 M.a9 M.h9 M.a10 M.h10

/-- The eight input buffers hold their blocks. -/
def insAt (c : Dev nD) (M : Bufs) (x : Ins F) : sProp 𝕄 :=
  iprop(owns (c : Thread nD τ) M.a1 fullShare x.x0 ∗ owns (c : Thread nD τ) M.a2 fullShare x.x1 ∗ owns (c : Thread nD τ) M.a3 fullShare x.x2 ∗ owns (c : Thread nD τ) M.a4 fullShare x.x3 ∗ owns (c : Thread nD τ) M.a5 fullShare x.x4 ∗ owns (c : Thread nD τ) M.a6 fullShare x.x5 ∗ owns (c : Thread nD τ) M.a7 fullShare x.x6 ∗ owns (c : Thread nD τ) M.a8 fullShare x.x7)

theorem N24 : cfg0.N = 24 := N_0
theorem lt24 (t : Fin cfg0.N) : t.val < 24 := lt_of_lt_of_eq t.isLt N24

/-- The first 16 points also cast a block of the experts' weights. -/
theorem cast_iff : ∀ t : Fin cfg0.N, k0_cond1 (grid0.coords t) = 1#1 ↔ t.val < 16 :=
  (by decide +kernel : ∀ t : Fin grid0.N, k0_cond1 (grid0.coords t) = 1#1 ↔ t.val < 16)

end Cert.Kernel3Ideal.Ffn

end
-- ==== Proof.Ffn.Run.lean ====
/-
  The body of the dense feed-forward's call, run once for a point that also casts a block of the experts' weights and once
  for a point that does not.
-/
module

public import proofs.«01_k».proof.Proof.Ffn.Base

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point that casts: the rows go through the feed-forward and the block is cast; the pieces stored are what the run finds. -/
def castRun (c : Dev nD) (i : grid0.Coords) (M : Bufs) (h1 : k0_cond1 i = 1#1) (x : Ins F) :
    Σ' (L9 : List (View.Piece (Elt F) S512x1024 .f32)), { L10 : List (View.Piece (Elt F) S896x1024 .bf16) //
      ∀ (E : Set ℕ) (K : PUnit → sProp 𝕄),
        iprop(insAt c M x ∗ (∃ d, owns (c : Thread nD τ) M.a9 fullShare d) ∗ (∃ d, owns (c : Thread nD τ) M.a10 fullShare d)
            ∗ (iprop(insAt c M x ∗ (∃ f, M.a9.view.loc (c : Thread nD τ) ↦[M.a9.view.set]{fullShare} M.a9.view.writes (Elt F) f L9)
                ∗ (∃ f, M.a10.view.loc (c : Thread nD τ) ↦[M.a10.view.set]{fullShare} M.a10.view.writes (Elt F) f L10)) -∗ K ⟨⟩))
          ⊢ wp frame (wpE (defs₀ (F := F)) Variants.none c none) E (bodyOn i M) K } := by
  refine ⟨?_, ?_, fun E K => ?run⟩
  case run =>
    unfold bodyOn; simp only [cc0_dense_swiglu_eq_skeleton]; unfold cc0_dense_swiglu_skel
    simp only [k0_part1_eq_skeleton, k0_part2_eq_skeleton]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7
    sl_exec (disch := first | sl_exact h1)
    sl_step
    iapply Hk
    isplitl [H0 H1 H2 H3 H4 H5 H6 H7]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      iexists _; isplitr; · ipureintro; exact M.h8.read_unread _
      iexact H7
    isplitl [H8]
    · iexists _; iexact H8
    iexists _; iexact H9

set_option maxHeartbeats 4000000 in
/-- A point that does not: the rows go through the feed-forward. -/
def restRun (c : Dev nD) (i : grid0.Coords) (M : Bufs) (h1 : ¬k0_cond1 i = 1#1) (x : Ins F) :
    { L9 : List (View.Piece (Elt F) S512x1024 .f32) //
      ∀ (E : Set ℕ) (K : PUnit → sProp 𝕄),
        iprop(insAt c M x ∗ (∃ d, owns (c : Thread nD τ) M.a9 fullShare d)
            ∗ (iprop(insAt c M x ∗ (∃ f, M.a9.view.loc (c : Thread nD τ) ↦[M.a9.view.set]{fullShare} M.a9.view.writes (Elt F) f L9)) -∗ K ⟨⟩))
          ⊢ wp frame (wpE (defs₀ (F := F)) Variants.none c none) E (bodyOn i M) K } := by
  refine ⟨?_, fun E K => ?run⟩
  case run =>
    unfold bodyOn; simp only [cc0_dense_swiglu_eq_skeleton]; unfold cc0_dense_swiglu_skel
    simp only [k0_part1_eq_skeleton, k0_part2_eq_skeleton]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7
    sl_exec (disch := first | sl_exact h1)
    sl_step
    iapply Hk
    isplitl [H0 H1 H2 H3 H4 H5 H6 H7]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      iexists _; isplitr; · ipureintro; exact M.h8.read_unread _
      iexact H7
    iexists _; iexact H8

end Cert.Kernel3Ideal.Ffn

end
-- ==== Proof.Ffn.Data.lean ====
/-
  What each point of the dense feed-forward's call leaves: its rows' results, and the last block of the experts' weights cast.
-/
module

public import Idealize.ShloMosaic.Lib.Pipeline.ValueKit
public import Idealize.ShloMosaic.Lib.Pipeline.TableIdle
public import proofs.«01_k».proof.Proof.Ffn.Run

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's current staging buffer at point `t`. -/
abbrev stg0 (t : Fin cfg0.N) : Memref sig .tc .vmem S512x1024 .f32 := win0_0.stage (cfg0.slots t 0)
theorem stg0_whole (t : Fin cfg0.N) : (stg0 t).IsWhole := hstage0_0 ((cfg0.slots t 0).cast nbuf0_0)
/-- Window 1's current staging buffer at point `t`. -/
abbrev stg1 (t : Fin cfg0.N) : Memref sig .tc .vmem S1x6x1024 .f32 := win0_1.stage (cfg0.slots t 1)
theorem stg1_whole (t : Fin cfg0.N) : (stg1 t).IsWhole := hstage0_1 ((cfg0.slots t 1).cast nbuf0_1)
/-- Window 2's current staging buffer at point `t`. -/
abbrev stg2 (t : Fin cfg0.N) : Memref sig .tc .vmem S1024x2816 .bf16 := win0_2.stage (cfg0.slots t 2)
theorem stg2_whole (t : Fin cfg0.N) : (stg2 t).IsWhole := hstage0_2 ((cfg0.slots t 2).cast nbuf0_2)
/-- Window 3's current staging buffer at point `t`. -/
abbrev stg3 (t : Fin cfg0.N) : Memref sig .tc .vmem S1024x2816 .bf16 := win0_3.stage (cfg0.slots t 3)
theorem stg3_whole (t : Fin cfg0.N) : (stg3 t).IsWhole := hstage0_3 ((cfg0.slots t 3).cast nbuf0_3)
/-- Window 4's current staging buffer at point `t`. -/
abbrev stg4 (t : Fin cfg0.N) : Memref sig .tc .vmem S2816x1024 .bf16 := win0_4.stage (cfg0.slots t 4)
theorem stg4_whole (t : Fin cfg0.N) : (stg4 t).IsWhole := hstage0_4 ((cfg0.slots t 4).cast nbuf0_4)
/-- Window 5's current staging buffer at point `t`. -/
abbrev stg5 (t : Fin cfg0.N) : Memref sig .tc .vmem S1x1024 .f32 := win0_5.stage (cfg0.slots t 5)
theorem stg5_whole (t : Fin cfg0.N) : (stg5 t).IsWhole := hstage0_5 ((cfg0.slots t 5).cast nbuf0_5)
/-- Window 6's current staging buffer at point `t`. -/
abbrev stg6 (t : Fin cfg0.N) : Memref sig .tc .vmem S1x1024 .f32 := win0_6.stage (cfg0.slots t 6)
theorem stg6_whole (t : Fin cfg0.N) : (stg6 t).IsWhole := hstage0_6 ((cfg0.slots t 6).cast nbuf0_6)
/-- Window 7's current staging buffer at point `t`. -/
abbrev stg7 (t : Fin cfg0.N) : Memref sig .tc .vmem S896x1024 .f32 := win0_7.stage (cfg0.slots t 7)
theorem stg7_whole (t : Fin cfg0.N) : (stg7 t).IsWhole := hstage0_7 ((cfg0.slots t 7).cast nbuf0_7)
/-- Window 8's current staging buffer at point `t`. -/
abbrev stg8 (t : Fin cfg0.N) : Memref sig .tc .vmem S512x1024 .f32 := win0_8.stage (cfg0.slots t 8)
theorem stg8_whole (t : Fin cfg0.N) : (stg8 t).IsWhole := hstage0_8 ((cfg0.slots t 8).cast nbuf0_8)
/-- Window 9's current staging buffer at point `t`. -/
abbrev stg9 (t : Fin cfg0.N) : Memref sig .tc .vmem S896x1024 .bf16 := win0_9.stage (cfg0.slots t 9)
theorem stg9_whole (t : Fin cfg0.N) : (stg9 t).IsWhole := hstage0_9 ((cfg0.slots t 9).cast nbuf0_9)

/-- The buffers the body is called with at point `t`. -/
abbrev bufs (t : Fin cfg0.N) : Bufs :=
  ⟨stg0 t, stg0_whole t, stg1 t, stg1_whole t, stg2 t, stg2_whole t, stg3 t, stg3_whole t, stg4 t, stg4_whole t, stg5 t, stg5_whole t, stg6 t, stg6_whole t, stg7 t, stg7_whole t, stg8 t, stg8_whole t, stg9 t, stg9_whole t⟩

/-- The eight input blocks of point `t`. -/
abbrev insOf (c : Dev nD) (t : Fin cfg0.N) : Ins F := ⟨iblk m c 0 t, iblk m c 1 t, iblk m c 2 t, iblk m c 3 t, iblk m c 4 t, iblk m c 5 t, iblk m c 6 t, iblk m c 7 t⟩

/-- What a list of stored pieces leaves in a buffer of the output block's shape, of the cast block's shape. -/
abbrev outOf (L : List (View.Piece (Elt F) S512x1024 .f32)) : Vec F S512x1024 .f32 :=
  (Memref.whole cc0_stg8_0).view.read (Elt F) ((Memref.whole cc0_stg8_0).view.writes (Elt F) (Memref.whole cc0_stg8_0).view.junk L)
abbrev castOf (L : List (View.Piece (Elt F) S896x1024 .bf16)) : Vec F S896x1024 .bf16 :=
  (Memref.whole cc0_stg9_0).view.read (Elt F) ((Memref.whole cc0_stg9_0).view.writes (Elt F) (Memref.whole cc0_stg9_0).view.junk L)

/-- The run of a point that casts, at its own buffers; and of one that does not. -/
abbrev castAt (c : Dev nD) (t : Fin cfg0.N) (h : t.val < 16) (x : Ins F) := castRun c (grid0.coords t) (bufs t) ((cast_iff t).mpr h) x
abbrev restAt (c : Dev nD) (t : Fin cfg0.N) (h : ¬t.val < 16) (x : Ins F) := restRun c (grid0.coords t) (bufs t) (fun e => h ((cast_iff t).mp e)) x

theorem cast_cover (c : Dev nD) (t : Fin cfg0.N) (h : t.val < 16) (x : Ins F) (y : S512x1024.Idx) :
    ∃ pc ∈ (castAt c t h x).1, y ∈ pc.1.set :=
  View.cover_of_tiledL (castAt c t h x).1 S512x1024.size (by sl_kernel_rfl) y
theorem cast_cover_block (c : Dev nD) (t : Fin cfg0.N) (h : t.val < 16) (x : Ins F) (y : S896x1024.Idx) :
    ∃ pc ∈ (castAt c t h x).2.1, y ∈ pc.1.set :=
  View.cover_of_tiledL (castAt c t h x).2.1 S896x1024.size (by sl_kernel_rfl) y
theorem rest_cover (c : Dev nD) (t : Fin cfg0.N) (h : ¬t.val < 16) (x : Ins F) (y : S512x1024.Idx) :
    ∃ pc ∈ (restAt c t h x).1, y ∈ pc.1.set :=
  View.cover_of_tiledL (restAt c t h x).1 S512x1024.size (by sl_kernel_rfl) y

/-- The last point that cast a block, at or before `t`. -/
def castPt (t : Fin cfg0.N) : Fin cfg0.N := ⟨min t.val 15, lt_of_lt_of_eq (by omega) N24.symm⟩

/-- The rows' results after point `t`, and the block cast last. -/
def outAt (c : Dev nD) (t : Fin cfg0.N) : Vec F S512x1024 .f32 :=
  if h : t.val < 16 then outOf (castAt c t h (insOf m c t)).1 else outOf (restAt c t h (insOf m c t)).1
def blockAt (c : Dev nD) (t : Fin cfg0.N) : Vec F S896x1024 .bf16 := k0_pay2 (iblk m c 7 (castPt t))

theorem cast_out (c : Dev nD) (t : Fin cfg0.N) (h : t.val < 16) : outOf (castAt c t h (insOf m c t)).1 = outAt m c t := by
  unfold outAt; rw [dif_pos h]
theorem rest_out (c : Dev nD) (t : Fin cfg0.N) (h : ¬t.val < 16) : outOf (restAt c t h (insOf m c t)).1 = outAt m c t := by
  unfold outAt; rw [dif_neg h]

/-- A casting point's second store leaves its block cast. -/
theorem cast_leaves (c : Dev nD) (i : grid0.Coords) (M : Bufs) (h1) (x : Ins F) : castOf (castRun c i M h1 x).2.1 = k0_pay2 x.x7 := by
  unfold castRun; frame_out
  exact View.canon_cons_unit_lit _ _ [] (by decide)
theorem castPt_self (t : Fin cfg0.N) (h : t.val < 16) : castPt t = t := Fin.ext (by show min t.val 15 = t.val; omega)
theorem cast_block (c : Dev nD) (t : Fin cfg0.N) (h : t.val < 16) : castOf (castAt c t h (insOf m c t)).2.1 = blockAt m c t := by
  unfold blockAt; rw [castPt_self t h]
  exact cast_leaves c (grid0.coords t) (bufs t) ((cast_iff t).mpr h) (insOf m c t)
theorem block_prev (c : Dev nD) (t : Fin cfg0.N) (h : ¬t.val < 16) (hp : t.val - 1 < cfg0.N) : blockAt m c ⟨t.val - 1, hp⟩ = blockAt m c t := by
  have key : ∀ a b : Fin cfg0.N, a = b → k0_pay2 (F := F) (iblk m c 7 a) = k0_pay2 (iblk m c 7 b) := by rintro a b rfl; rfl
  exact key _ _ (Fin.ext (by show min (t.val - 1) 15 = min t.val 15; omega))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => blockAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem after9 (c : Dev nD) (t : Fin cfg0.N) : (dats m 0 c).after 9 t = blockAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The cast block's window: stored by the first 16 points, carried by the others -/

theorem idle9 : ∀ t : Fin cfg0.N, cfg0.idle 9 (grid0.coords t) = !decide (t.val < 16) :=
  (by decide +kernel : ∀ t : Fin grid0.N, _)
theorem flush9 : ∀ t : Fin cfg0.N, (cfg0.win 9).flush t = (decide (t.val < 15) || decide (t.val = 23)) :=
  (by decide +kernel : ∀ t : Fin grid0.N, _)
theorem fresh9 : ∀ t : Fin cfg0.N, cfg0.fresh 9 t.val = decide (t.val < 16) :=
  (by decide +kernel : ∀ t : Fin grid0.N, _)

theorem idle9_cast (t : Fin cfg0.N) (h : t.val < 16) : cfg0.idle 9 (grid0.coords t) = false := by rw [idle9 t]; simpa using h
theorem idle9_rest (t : Fin cfg0.N) (h : ¬t.val < 16) : cfg0.idle 9 (grid0.coords t) = true := by rw [idle9 t]; simpa using h
theorem flush9_last (t : Fin cfg0.N) (h : t.val = 23) : (cfg0.win 9).flush t = true := by rw [flush9 t]; simp [h]
theorem flush9_mid (t : Fin cfg0.N) (h : ¬t.val < 16) (h3 : ¬t.val = 23) : (cfg0.win 9).flush t = false := by
  rw [flush9 t]; simp; omega

/-- After the casting points the buffer still holds the block cast last. -/
theorem before9 (c : Dev nD) (t : Fin cfg0.N) (h : ¬t.val < 16) (d) : (dats m 0 c).before 9 t d = blockAt m c t := by
  refine ((dats m 0 c).before_out_traj 9 rfl (fun _ _ => rfl) (fun t ht hi hf => ?_) t.val t rfl d).trans ?_
  · rw [fresh9 t] at hf
    rw [after9, after9]
    exact (block_prev m c t (of_decide_eq_false hf) _).symm
  · rw [fresh9 t, if_neg (by simpa using h), after9]
    exact block_prev m c t h _

theorem leaves0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (stg8 t) fullShare (outAt m c t) := by
  unfold Dat.leavesExact; rw [show cfg0.idle 8 (grid0.coords t) = false from rfl, after8]
theorem leaves9_cast (c : Dev nD) (t : Fin cfg0.N) (h : t.val < 16) :
    (dats m 0 c).leavesExact 9 t = owns (c : Thread nD τ) (stg9 t) fullShare (blockAt m c t) := by
  unfold Dat.leavesExact; rw [idle9_cast t h, after9]
theorem leaves9_rest (c : Dev nD) (t : Fin cfg0.N) (h : ¬t.val < 16) :
    owns (c : Thread nD τ) (stg9 t) fullShare (blockAt m c t) ⊢ (dats m 0 c).leavesExact 9 t := by
  by_cases h3 : t.val = 23
  · unfold Dat.leavesExact; rw [idle9_rest t h, flush9_last t h3, after9]
  · rw [(dats m 0 c).leavesExact_idle 9 t (idle9_rest t h) (flush9_mid t h h3)]
    iintro H
    iexists (blockAt m c t)
    rw [before9 m c t h]
    iexact H

end Cert.Kernel3Ideal.Ffn

end
-- ==== Proof.Ffn.Frame.lean ====
/-
  The dense feed-forward's call runs: every point leaves what the proof data say, and @main ends with its arrays there, every
  argument unchanged and every semaphore at zero. For any values.
-/
module

public import proofs.«01_k».proof.Proof.Ffn.Data

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))
/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1000000 in
/-- The body at a point that casts a block. -/
theorem sound_cast (c : Dev nD) (t : Fin cfg0.N) (h : t.val < 16) :
    bodyPre m c t ⊢ wp frame (wpE (defs₀ (F := F)) Variants.none c none) Set.univ (bodyOn (grid0.coords t) (bufs t)) (fun _ => bodyPost m c t) := by
  unfold bodyPre bodyPost
  simp only [before0, before1, before2, before3, before4, before5, before6, before7]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, leaves5, leaves6, leaves7, leaves8, leaves9_cast m c t h]
  iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((castAt c t h (insOf m c t)).2.2 Set.univ _)
  isplitl [H0 H1 H2 H3 H4 H5 H6 H7]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  unfold insAt
  iintro ⟨⟨H0, H1, H2, H3, H4, H5, H6, H7⟩, ⟨%e8, H8⟩, ⟨%e9, H9⟩⟩
  isplitl [HA]; · iexact HA
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact (View.read_writes_of_cover _ _ _ _ _ (cast_cover c t h _)).trans (cast_out m c t h)
  unfold owns; iexists _; isplitr
  swap; · iexact H9
  ipureintro; exact (View.read_writes_of_cover _ _ _ _ _ (cast_cover_block c t h _)).trans (cast_block m c t h)

set_option maxHeartbeats 1000000 in
/-- The body at a point that does not: the block cast last stays as it was. -/
theorem sound_rest (c : Dev nD) (t : Fin cfg0.N) (h : ¬t.val < 16) :
    bodyPre m c t ⊢ wp frame (wpE (defs₀ (F := F)) Variants.none c none) Set.univ (bodyOn (grid0.coords t) (bufs t)) (fun _ => bodyPost m c t) := by
  unfold bodyPre bodyPost
  simp only [before0, before1, before2, before3, before4, before5, before6, before7, before9 m c t h]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, leaves5, leaves6, leaves7, leaves8]
  iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((restAt c t h (insOf m c t)).2 Set.univ _)
  isplitl [H0 H1 H2 H3 H4 H5 H6 H7]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  unfold insAt
  iintro ⟨⟨H0, H1, H2, H3, H4, H5, H6, H7⟩, ⟨%e8, H8⟩⟩
  isplitl [HA]; · iexact HA
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact (View.read_writes_of_cover _ _ _ _ _ (rest_cover c t h _)).trans (rest_out m c t h)
  iapply (leaves9_rest m c t h)
  iexact H9

theorem sound_body (c : Dev nD) (t : Fin cfg0.N) :
    bodyPre m c t ⊢ wp frame (wpE (defs₀ (F := F)) Variants.none c none) Set.univ (bodyOn (grid0.coords t) (bufs t)) (fun _ => bodyPost m c t) := by
  by_cases h : t.val < 16
  · exact sound_cast m c t h
  · exact sound_rest m c t h

theorem defs₀_row (c : Dev nD) (t : Fin cfg0.N) :
    (defs₀ (F := F)) .tc cfg0.body (cfg0.bodyArgs t (cfg0.slots t)) = bodyOn (grid0.coords t) (bufs t) := by
  unfold defs₀ bodyOn; rw [Defs.onTc_tc]

set_option maxHeartbeats 2000000 in
/-- The pipeline's body obligation, at every point. -/
theorem body_obligation (c : Dev nD) : BodyObligation (dats (F := F) m 0 c) (defs₀ (F := F)) Variants.none () Set.univ := fun t => by
  rw [bigSep_W0, bigSep_W0, defs₀_row c]
  refine triple_restated (sound_body m c t) rfl .rfl fun _ => ?_
  unfold bodyPost; exact .rfl

set_option backward.isDefEq.respectTransparency.types false in
/-- Every weakly fair execution of @main terminates, with the pipeline's arrays at what the proof data give, every other
buffer as the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, for any values: the argument arrays end unchanged and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ))
    ((θ_run defs _ _).mono (fun _ h => h.2) (run_main_quiescent m ρ))

end Cert.Kernel3Ideal.Ffn

end
-- ==== Proof.Ffn.Host.lean ====
/-
  The dense feed-forward's operands as the host prepares them: the modulation by rows of its six parts, the weights' casts,
  the normalization's rows, the experts' weights as one matrix.
-/
module

public import proofs.«01_k».proof.Proof.Gen.Kernel3Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the call, at their shapes. -/
abbrev bX : FVec Ideal S12288x1024 .f32 := m ((c : Thread nD τ).loc main_arg0)
abbrev bM : FVec Ideal S3x6144 .f32 := m ((c : Thread nD τ).loc main_arg1)
abbrev bG : FVec Ideal S1x1024x2816 .f32 := m ((c : Thread nD τ).loc main_arg2)
abbrev bU : FVec Ideal S1x1024x2816 .f32 := m ((c : Thread nD τ).loc main_arg3)
abbrev bD : FVec Ideal S1x2816x1024 .f32 := m ((c : Thread nD τ).loc main_arg4)
abbrev bLg : FVec Ideal S2x2x1024 .f32 := m ((c : Thread nD τ).loc main_arg5)
abbrev bLb : FVec Ideal S2x2x1024 .f32 := m ((c : Thread nD τ).loc main_arg6)
abbrev bE : FVec Ideal S1x8x1792x1024 .f32 := m ((c : Thread nD τ).loc main_arg7)

theorem mod_entry (b : Fin 3) (j : Fin 6) (k : Fin 1024) :
    (V m c main_v0 : FVec Ideal S3x6x1024 .f32) (ix3 b j k) = bM m c (ix2 b ⟨j.val * 1024 + k.val, by omega⟩) := by
  simp only [V, hostOps0]
  entry_read
  pointwise
theorem gate_entry (k : Fin 1024) (f : Fin 2816) : (V m c main_v2 : FVec Ideal S1024x2816 .bf16) (ix2 k f) = bG m c (ix3 0 k f) := by
  simp only [V, hostOps0]
  entry_read
  pointwise
theorem up_entry (k : Fin 1024) (f : Fin 2816) : (V m c main_v4 : FVec Ideal S1024x2816 .bf16) (ix2 k f) = bU m c (ix3 0 k f) := by
  simp only [V, hostOps0]
  entry_read
  pointwise
theorem down_entry (f : Fin 2816) (o : Fin 1024) : (V m c main_v6 : FVec Ideal S2816x1024 .bf16) (ix2 f o) = bD m c (ix3 0 f o) := by
  simp only [V, hostOps0]
  entry_read
  pointwise
theorem lg_entry (k : Fin 1024) : (V m c main_v9 : FVec Ideal S1x1024 .f32) (ix2 0 k) = bLg m c (ix3 0 1 k) := by
  simp only [V, hostOps0]
  entry_read
  pointwise
theorem lb_entry (k : Fin 1024) : (V m c main_v12 : FVec Ideal S1x1024 .f32) (ix2 0 k) = bLb m c (ix3 0 1 k) := by
  simp only [V, hostOps0]
  entry_read
  pointwise
theorem moe_entry (r : Fin 14336) (o : Fin 1024) :
    (V m c main_v14 : FVec Ideal S14336x1024 .f32) (ix2 r o) = bE m c (ix4 0 ⟨r.val / 1792, by omega⟩ ⟨r.val % 1792, by omega⟩ o) := by
  simp only [V, hostOps0]
  entry_read
  pointwise

end Cert.Kernel3Ideal.Ffn

end
-- ==== Proof.Ffn.Blocks.lean ====
/-
  The blocks a point of the dense feed-forward's call is given.
-/
module

public import proofs.«01_k».proof.Proof.Ffn.Host
public import proofs.«01_k».proof.Proof.Ffn.Base
public import Idealize.ShloMosaic.Lib.Pipeline.ValueKit
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block of a point lies. -/
theorem idx : ∀ t : Fin cfg0.N, win0_0.index t = ![t.val, 0] ∧ win0_1.index t = ![(t.val - 12) / 4, 0, 0]
    ∧ win0_2.index t = ![0, 0] ∧ win0_3.index t = ![0, 0] ∧ win0_4.index t = ![0, 0] ∧ win0_5.index t = ![0, 0]
    ∧ win0_6.index t = ![0, 0] ∧ win0_7.index t = ![min t.val 15, 0] ∧ win0_8.index t = ![t.val, 0] ∧ win0_9.index t = ![min t.val 15, 0] :=
  (by decide +kernel : ∀ t : Fin grid0.N, _)

theorem blk0 (t : Fin cfg0.N) (r : Fin 512) (k : Fin 1024) : (iblk m c 0 t : FVec Ideal S512x1024 .f32) (ix2 r k)
    = bX m c (ix2 ⟨t.val * 512 + r.val, by have := lt24 t; omega⟩ k) := by
  refine Eq.trans ?_ (congrFun (V_main_arg0 m c) (ix2 ⟨t.val * 512 + r.val, by have := lt24 t; omega⟩ k))
  blk_ext [iblk, idx t]
theorem blk1 (t : Fin cfg0.N) (j : Fin 6) (k : Fin 1024) : (iblk m c 1 t : FVec Ideal S1x6x1024 .f32) (ix3 0 j k)
    = bM m c (ix2 ⟨(t.val - 12) / 4, by have := lt24 t; omega⟩ ⟨j.val * 1024 + k.val, by omega⟩) := by
  refine Eq.trans ?_ (mod_entry m c ⟨(t.val - 12) / 4, by have := lt24 t; omega⟩ j k)
  blk_ext [iblk, idx t]
theorem blk2 (t : Fin cfg0.N) (k : Fin 1024) (f : Fin 2816) : (iblk m c 2 t : FVec Ideal S1024x2816 .bf16) (ix2 k f) = bG m c (ix3 0 k f) := by
  refine Eq.trans ?_ (gate_entry m c k f)
  blk_ext [iblk, idx t]
theorem blk3 (t : Fin cfg0.N) (k : Fin 1024) (f : Fin 2816) : (iblk m c 3 t : FVec Ideal S1024x2816 .bf16) (ix2 k f) = bU m c (ix3 0 k f) := by
  refine Eq.trans ?_ (up_entry m c k f)
  blk_ext [iblk, idx t]
theorem blk4 (t : Fin cfg0.N) (f : Fin 2816) (o : Fin 1024) : (iblk m c 4 t : FVec Ideal S2816x1024 .bf16) (ix2 f o) = bD m c (ix3 0 f o) := by
  refine Eq.trans ?_ (down_entry m c f o)
  blk_ext [iblk, idx t]
theorem blk5 (t : Fin cfg0.N) (k : Fin 1024) : (iblk m c 5 t : FVec Ideal S1x1024 .f32) (ix2 0 k) = bLg m c (ix3 0 1 k) := by
  refine Eq.trans ?_ (lg_entry m c k)
  blk_ext [iblk, idx t]
theorem blk6 (t : Fin cfg0.N) (k : Fin 1024) : (iblk m c 6 t : FVec Ideal S1x1024 .f32) (ix2 0 k) = bLb m c (ix3 0 1 k) := by
  refine Eq.trans ?_ (lb_entry m c k)
  blk_ext [iblk, idx t]
theorem blk7 (t : Fin cfg0.N) (r : Fin 896) (o : Fin 1024) : (iblk m c 7 t : FVec Ideal S896x1024 .f32) (ix2 r o)
    = (V m c main_v14 : FVec Ideal S14336x1024 .f32) (ix2 ⟨min t.val 15 * 896 + r.val, by omega⟩ o) := by
  blk_ext [iblk, idx t]

end Cert.Kernel3Ideal.Ffn

end
-- ==== Proof.Experts.Math.lean ====
/-
  The experts' feed-forward of one row, and the two spellings of its activation.
-/
module

public import Idealize.ShloMosaic.PureOps.Ideal

@[expose] public section

set_option maxRecDepth 16384

noncomputable section

namespace Cert.Experts

open Idealize.ShloMosaic

/-- The activation `s / (1 + exp (0 - s))`. -/
def silu (s : EReal) : EReal := Ideal.div s (1 + Ideal.exp (0 - s))

/-- A row through an expert: gate and up projections, their product down again. -/
def ffn (x : Fin 1024 → EReal) (g u : Fin 1024 → Fin 1792 → EReal) (d : Fin 1792 → Fin 1024 → EReal) (o : Fin 1024) : EReal :=
  ∑ f, (silu (∑ k, x k * g k f) * ∑ k, x k * u k f) * d f o

theorem exp_nonneg (z : EReal) : 0 ≤ Ideal.exp z := by
  induction z with
  | bot => exact le_refl _
  | top => exact le_top
  | coe r => exact EReal.coe_nonneg.mpr (Real.exp_pos r).le

/-- The reference multiplies by the reciprocal; the denominator is at least one, so the two agree everywhere. -/
theorem silu_eq (s : EReal) : s * Ideal.div 1 (1 + Ideal.exp (-s)) = silu s := by
  have h : (1 : EReal) + Ideal.exp (-s) ≠ 0 := by
    have h1 : (1 : EReal) ≤ 1 + Ideal.exp (-s) := le_add_of_nonneg_right (exp_nonneg _)
    intro e
    rw [e] at h1
    exact absurd h1 (by norm_num)
  unfold silu Ideal.div
  rw [zero_sub, if_neg h, if_neg h, one_mul]

end Cert.Experts

end
-- ==== Proof.Ffn.Math.lean ====
/-
  The dense feed-forward of one row, and the normalization after it.
-/
module

public import proofs.«01_k».proof.Proof.Experts.Math
public import Idealize.ShloMosaic.Lib.Pointwise

@[expose] public section

set_option maxRecDepth 16384

noncomputable section

namespace Cert.Dense

open Idealize.ShloMosaic Cert.Experts

/-- A row's modulated input. -/
def hid (x sh sc : Fin 1024 → EReal) (k : Fin 1024) : EReal := x k * (1 + sc k) + sh k

/-- A modulated row through `n` hidden columns: gate and up projections, their product down to one output. -/
def dense {n : ℕ} (h : Fin 1024 → EReal) (g u : Fin 1024 → Fin n → EReal) (d : Fin n → EReal) : EReal :=
  ∑ f, (silu (∑ k, h k * g k f) * ∑ k, h k * u k f) * d f

/-- The scaled row plus the gated feed-forward. -/
def mix (x gt : Fin 1024 → EReal) (z : Fin 1024 → EReal) (o : Fin 1024) : EReal :=
  Ideal.ofBits .f32 0x3FB504F3#32 * x o + gt o * z o

/-- A row less its mean, and the row normalized. -/
def ctr (z : Fin 1024 → EReal) (o : Fin 1024) : EReal := z o - Ideal.div (∑ k, z k) (Ideal.ofBits .f32 0x44800000#32)
def norm (z lg lb : Fin 1024 → EReal) (o : Fin 1024) : EReal :=
  ctr z o * Ideal.rsqrt (Ideal.div (∑ k, ctr z k * ctr z k) (Ideal.ofBits .f32 0x44800000#32) + Ideal.ofBits .f32 0x3727C5AC#32) * lg o + lb o

/-- What the layer makes of one row. -/
def row (x sh sc gt lg lb : Fin 1024 → EReal) (g u : Fin 1024 → Fin 2816 → EReal) (d : Fin 2816 → Fin 1024 → EReal) (o : Fin 1024) : EReal :=
  norm (mix x gt fun o => dense (hid x sh sc) g u fun f => d f o) lg lb o

/-- The hidden columns in two halves. -/
theorem halves (h : Fin 1024 → EReal) (g u : Fin 1024 → Fin 2816 → EReal) (d : Fin 2816 → EReal) :
    dense h (fun k (f : Fin 1408) => g k ⟨f.val, by omega⟩) (fun k f => u k ⟨f.val, by omega⟩) (fun f => d ⟨f.val, by omega⟩)
      + dense h (fun k (f : Fin 1408) => g k ⟨1408 + f.val, by omega⟩) (fun k f => u k ⟨1408 + f.val, by omega⟩) (fun f => d ⟨1408 + f.val, by omega⟩)
      = dense h g u d :=
  (Fin.sum_univ_add (a := 1408) (b := 1408) fun f => (silu (∑ k, h k * g k f) * ∑ k, h k * u k f) * d f).symm

end Cert.Dense

end
-- ==== Proof.Ffn.Pay.lean ====
/-
  What the dense feed-forward's body computes, row by row.
-/
module

public import proofs.«01_k».proof.Proof.Gen.Kernel3Ideal.Skeleton
public import proofs.«01_k».proof.Proof.Ffn.Math
public import Idealize.ShloMosaic.Lib.Pointwise

@[expose] public section

set_option maxRecDepth 16384

noncomputable section

namespace Cert.Kernel3Ideal.Ffn

open Cert.Kernel3Ideal Cert.Kernel3Ideal.Gen Cert.Experts Cert.Dense
open Idealize.ShloMosaic Idealize.ShloMosaic.TcCoe Idealize.SL.Sem

/-- The hidden half's product, before the down projection. -/
theorem pay6_at (v3 v5 : FVec Ideal S1x1x1024 .f32) (v9 : FVec Ideal S512x1024 .f32) (v18 v27 : FVec Ideal S1024x1408 .bf16)
    (r : Fin 512) (f : Fin 1408) :
    k0_pay6 (F := Ideal) v3 v5 v9 v18 v27 (ix2 r f)
      = silu (∑ k : Fin 1024, (v9 (ix2 r k) * (1 + v5 (ix3 0 0 k)) + v3 (ix3 0 0 k)) * v18 (ix2 k f))
        * ∑ k : Fin 1024, (v9 (ix2 r k) * (1 + v5 (ix3 0 0 k)) + v3 (ix3 0 0 k)) * v27 (ix2 k f) := by
  unfold k0_pay6 k0_pay4 silu
  pointwise

theorem pay4_at (v3 v5 : FVec Ideal S1x1x1024 .f32) (v9 : FVec Ideal S512x1024 .f32) (r : Fin 512) (k : Fin 1024) :
    k0_pay4 (F := Ideal) v3 v5 v9 (ix2 r k) = v9 (ix2 r k) * (1 + v5 (ix3 0 0 k)) + v3 (ix3 0 0 k) := by
  unfold k0_pay4
  pointwise

/-- The row before its normalization, less its mean. -/
theorem pay9_open (v8 : FVec Ideal S1x1024 .f32) (v9 : FVec Ideal S512x1024 .f32) (v16 : FVec Ideal S512x1024 .bf16) (v17 : FVec Ideal S512x1024 .f32)
    (v31 : FVec Ideal S512x1408 .bf16) (v32 : FVec Ideal S1408x1024 .bf16) (v36 v45 : FVec Ideal S1024x1408 .bf16) (v50 : FVec Ideal S1408x1024 .bf16)
    (r : Fin 512) (o : Fin 1024) :
    k0_pay9 (F := Ideal) v8 v9 v16 v17 v31 v32 v36 v45 v50 (ix2 r o)
      = ctr (mix (fun o => v9 (ix2 r o)) (fun o => v8 (ix2 0 o)) fun o => v17 (ix2 r o) + (∑ f : Fin 1408, v31 (ix2 r f) * v32 (ix2 f o))
          + dense (fun k => v16 (ix2 r k)) (fun k f => v36 (ix2 k f)) (fun k f => v45 (ix2 k f)) (fun f : Fin 1408 => v50 (ix2 f o))) o := by
  unfold k0_pay9 ctr mix dense silu
  pointwise

theorem pay9_at (v3 v5 v7 : FVec Ideal S1x1x1024 .f32) (v9 : FVec Ideal S512x1024 .f32)
    (v18 v27 : FVec Ideal S1024x1408 .bf16) (v32 : FVec Ideal S1408x1024 .bf16) (v36 v45 : FVec Ideal S1024x1408 .bf16) (v50 : FVec Ideal S1408x1024 .bf16)
    (r : Fin 512) (o : Fin 1024) :
    k0_pay9 (F := Ideal) (k0_pay3 v7) v9 (k0_pay4 v3 v5 v9) k0_pay5 (k0_pay6 v3 v5 v9 v18 v27) v32 v36 v45 v50 (ix2 r o)
      = ctr (mix (fun o => v9 (ix2 r o)) (fun o => v7 (ix3 0 0 o)) fun o =>
          dense (hid (fun k => v9 (ix2 r k)) (fun k => v3 (ix3 0 0 k)) (fun k => v5 (ix3 0 0 k))) (fun k f => v18 (ix2 k f)) (fun k f => v27 (ix2 k f)) (fun f : Fin 1408 => v32 (ix2 f o))
          + dense (hid (fun k => v9 (ix2 r k)) (fun k => v3 (ix3 0 0 k)) (fun k => v5 (ix3 0 0 k))) (fun k f => v36 (ix2 k f)) (fun k f => v45 (ix2 k f)) (fun f : Fin 1408 => v50 (ix2 f o))) o := by
  refine (pay9_open _ _ _ _ _ _ _ _ _ r o).trans ?_
  have e3 : ∀ o : Fin 1024, (k0_pay3 (F := Ideal) v7) (ix2 0 o) = v7 (ix3 0 0 o) := fun o => by unfold k0_pay3; pointwise
  have e5 : ∀ o : Fin 1024, (k0_pay5 (F := Ideal)) (ix2 r o) = (0 : EReal) := fun o => by unfold k0_pay5; pointwise
  simp only [e3, e5, pay6_at, pay4_at, zero_add]
  rfl

theorem pay10_at (v8 : FVec Ideal S1x1024 .f32) (v9 : FVec Ideal S512x1024 .f32) (v16 : FVec Ideal S512x1024 .bf16) (v17 : FVec Ideal S512x1024 .f32)
    (v31 : FVec Ideal S512x1408 .bf16) (v32 : FVec Ideal S1408x1024 .bf16) (v36 v45 : FVec Ideal S1024x1408 .bf16) (v50 : FVec Ideal S1408x1024 .bf16)
    (r : Fin 512) (z : Fin 1) :
    k0_pay10 (F := Ideal) v8 v9 v16 v17 v31 v32 v36 v45 v50 (ix2 r z)
      = ∑ k : Fin 1024, k0_pay9 (F := Ideal) v8 v9 v16 v17 v31 v32 v36 v45 v50 (ix2 r k) * k0_pay9 (F := Ideal) v8 v9 v16 v17 v31 v32 v36 v45 v50 (ix2 r k) := by
  unfold k0_pay10
  generalize k0_pay9 (F := Ideal) v8 v9 v16 v17 v31 v32 v36 v45 v50 = w
  pointwise

theorem pay1_at (v59 v61 : FVec Ideal S1x1024 .f32) (v68 : FVec Ideal S512x1024 .f32) (v71 : FVec Ideal S512x1 .f32) (r : Fin 512) (o : Fin 1024) :
    k0_pay1 (F := Ideal) (k0_pay7 v59) (k0_pay8 v61) v68 v71 (FloatOps.ofBits .f32 1149239296#32) (ix2 r o)
      = v68 (ix2 r o) * Ideal.rsqrt (Ideal.div (v71 (ix2 r 0)) (Ideal.ofBits .f32 0x44800000#32) + Ideal.ofBits .f32 0x3727C5AC#32) * v59 (ix2 0 o) + v61 (ix2 0 o) := by
  unfold k0_pay1 k0_pay7 k0_pay8
  pointwise

/-- The cast of a block changes no entry. -/
theorem pay2_at (v : FVec Ideal S896x1024 .f32) (r : Fin 896) (o : Fin 1024) : k0_pay2 (F := Ideal) v (ix2 r o) = v (ix2 r o) := by
  unfold k0_pay2
  pointwise

end Cert.Kernel3Ideal.Ffn

end
-- ==== Proof.Ffn.Out.lean ====
/-
  What a point of the dense feed-forward's call stores: each of its rows through the layer.
-/
module

public import proofs.«01_k».proof.Proof.Ffn.Data
public import proofs.«01_k».proof.Proof.Ffn.Pay

@[expose] public section

set_option maxRecDepth 16384

noncomputable section

namespace Cert.Kernel3Ideal.Ffn

open Cert.Kernel3Ideal Cert.Kernel3Ideal.Gen Cert.Experts Cert.Dense
open Idealize.ShloMosaic Idealize.ShloMosaic.TcCoe Idealize.SL.Sem
open Idealize.ShloMosaic.Pipeline (Dat)

/-- What both kinds of point store to the output block. -/
def payOf {F : FTy → Type} [FloatOps F] (x : Ins F) : Vec F S512x1024 .f32 :=
  k0_pay1 (k0_pay7 x.x5) (k0_pay8 x.x6)
      (k0_pay9 (k0_pay3 (View.ld x.x1 (Rect.unit ![0, 5, 0] ![1, 1, 1024] inb_S1x6x1024_S1x1x1024_0_5_0))) x.x0
        (k0_pay4 (View.ld x.x1 (Rect.unit ![0, 3, 0] ![1, 1, 1024] inb_S1x6x1024_S1x1x1024_0_3_0)) (View.ld x.x1 (Rect.unit ![0, 4, 0] ![1, 1, 1024] inb_S1x6x1024_S1x1x1024_0_4_0)) x.x0) k0_pay5
        (k0_pay6 (View.ld x.x1 (Rect.unit ![0, 3, 0] ![1, 1, 1024] inb_S1x6x1024_S1x1x1024_0_3_0)) (View.ld x.x1 (Rect.unit ![0, 4, 0] ![1, 1, 1024] inb_S1x6x1024_S1x1x1024_0_4_0)) x.x0
          (View.ld x.x2 (Rect.unit ![0, 0] ![1024, 1408] inb_S1024x2816_S1024x1408_0_0)) (View.ld x.x3 (Rect.unit ![0, 0] ![1024, 1408] inb_S1024x2816_S1024x1408_0_0)))
        (View.ld x.x4 (Rect.unit ![0, 0] ![1408, 1024] inb_S2816x1024_S1408x1024_0_0)) (View.ld x.x2 (Rect.unit ![0, 1408] ![1024, 1408] inb_S1024x2816_S1024x1408_0_1408))
        (View.ld x.x3 (Rect.unit ![0, 1408] ![1024, 1408] inb_S1024x2816_S1024x1408_0_1408)) (View.ld x.x4 (Rect.unit ![1408, 0] ![1408, 1024] inb_S2816x1024_S1408x1024_1408_0)))
      (k0_pay10 (k0_pay3 (View.ld x.x1 (Rect.unit ![0, 5, 0] ![1, 1, 1024] inb_S1x6x1024_S1x1x1024_0_5_0))) x.x0
        (k0_pay4 (View.ld x.x1 (Rect.unit ![0, 3, 0] ![1, 1, 1024] inb_S1x6x1024_S1x1x1024_0_3_0)) (View.ld x.x1 (Rect.unit ![0, 4, 0] ![1, 1, 1024] inb_S1x6x1024_S1x1x1024_0_4_0)) x.x0) k0_pay5
        (k0_pay6 (View.ld x.x1 (Rect.unit ![0, 3, 0] ![1, 1, 1024] inb_S1x6x1024_S1x1x1024_0_3_0)) (View.ld x.x1 (Rect.unit ![0, 4, 0] ![1, 1, 1024] inb_S1x6x1024_S1x1x1024_0_4_0)) x.x0
          (View.ld x.x2 (Rect.unit ![0, 0] ![1024, 1408] inb_S1024x2816_S1024x1408_0_0)) (View.ld x.x3 (Rect.unit ![0, 0] ![1024, 1408] inb_S1024x2816_S1024x1408_0_0)))
        (View.ld x.x4 (Rect.unit ![0, 0] ![1408, 1024] inb_S2816x1024_S1408x1024_0_0)) (View.ld x.x2 (Rect.unit ![0, 1408] ![1024, 1408] inb_S1024x2816_S1024x1408_0_1408))
        (View.ld x.x3 (Rect.unit ![0, 1408] ![1024, 1408] inb_S1024x2816_S1024x1408_0_1408)) (View.ld x.x4 (Rect.unit ![1408, 0] ![1408, 1024] inb_S2816x1024_S1408x1024_1408_0)))
      (FloatOps.ofBits FTy.f32 1149239296#32)

theorem cast_pay (c : Dev nD) (i : grid0.Coords) (M : Bufs) (h1) (x : Ins Ideal) : outOf (castRun c i M h1 x).1 = payOf x := by
  unfold castRun; frame_out
  exact View.canon_cons_unit_lit _ _ [] (by decide)
theorem rest_pay (c : Dev nD) (i : grid0.Coords) (M : Bufs) (h1) (x : Ins Ideal) : outOf (restRun c i M h1 x).1 = payOf x := by
  unfold restRun; frame_out
  exact View.canon_cons_unit_lit _ _ [] (by decide)

/-- The body at a row and a column. -/
theorem payOf_at (x : Ins Ideal) (r : Fin 512) (o : Fin 1024) :
    (payOf x : FVec Ideal S512x1024 .f32) (ix2 r o) = row (fun k => x.x0 (ix2 r k)) (fun k => x.x1 (ix3 0 3 k)) (fun k => x.x1 (ix3 0 4 k)) (fun k => x.x1 (ix3 0 5 k))
      (fun k => x.x5 (ix2 0 k)) (fun k => x.x6 (ix2 0 k)) (fun k f => x.x2 (ix2 k f)) (fun k f => x.x3 (ix2 k f)) (fun f o => x.x4 (ix2 f o)) o := by
  have l3 : ∀ k : Fin 1024, (View.ld x.x1 (Rect.unit ![0, 3, 0] ![1, 1, 1024] inb_S1x6x1024_S1x1x1024_0_3_0)) (ix3 0 0 k) = x.x1 (ix3 0 3 k) := fun k => by pointwise
  have l4 : ∀ k : Fin 1024, (View.ld x.x1 (Rect.unit ![0, 4, 0] ![1, 1, 1024] inb_S1x6x1024_S1x1x1024_0_4_0)) (ix3 0 0 k) = x.x1 (ix3 0 4 k) := fun k => by pointwise
  have l5 : ∀ k : Fin 1024, (View.ld x.x1 (Rect.unit ![0, 5, 0] ![1, 1, 1024] inb_S1x6x1024_S1x1x1024_0_5_0)) (ix3 0 0 k) = x.x1 (ix3 0 5 k) := fun k => by pointwise
  have g0 : ∀ (k : Fin 1024) (f : Fin 1408), (View.ld x.x2 (Rect.unit ![0, 0] ![1024, 1408] inb_S1024x2816_S1024x1408_0_0)) (ix2 k f) = x.x2 (ix2 k ⟨f.val, by omega⟩) := fun k f => by pointwise
  have u0 : ∀ (k : Fin 1024) (f : Fin 1408), (View.ld x.x3 (Rect.unit ![0, 0] ![1024, 1408] inb_S1024x2816_S1024x1408_0_0)) (ix2 k f) = x.x3 (ix2 k ⟨f.val, by omega⟩) := fun k f => by pointwise
  have g1 : ∀ (k : Fin 1024) (f : Fin 1408), (View.ld x.x2 (Rect.unit ![0, 1408] ![1024, 1408] inb_S1024x2816_S1024x1408_0_1408)) (ix2 k f) = x.x2 (ix2 k ⟨1408 + f.val, by omega⟩) := fun k f => by pointwise
  have u1 : ∀ (k : Fin 1024) (f : Fin 1408), (View.ld x.x3 (Rect.unit ![0, 1408] ![1024, 1408] inb_S1024x2816_S1024x1408_0_1408)) (ix2 k f) = x.x3 (ix2 k ⟨1408 + f.val, by omega⟩) := fun k f => by pointwise
  have d0 : ∀ (f : Fin 1408) (o : Fin 1024), (View.ld x.x4 (Rect.unit ![0, 0] ![1408, 1024] inb_S2816x1024_S1408x1024_0_0)) (ix2 f o) = x.x4 (ix2 ⟨f.val, by omega⟩ o) := fun f o => by pointwise
  have d1 : ∀ (f : Fin 1408) (o : Fin 1024), (View.ld x.x4 (Rect.unit ![1408, 0] ![1408, 1024] inb_S2816x1024_S1408x1024_1408_0)) (ix2 f o) = x.x4 (ix2 ⟨1408 + f.val, by omega⟩ o) := fun f o => by pointwise
  unfold payOf
  refine (pay1_at _ _ _ _ r o).trans ?_
  simp only [pay10_at, pay9_at, l3, l4, l5, g0, u0, g1, u1, d0, d1]
  unfold row Dense.norm
  simp only [← halves]

end Cert.Kernel3Ideal.Ffn

end
-- ==== Proof.Ffn.Final.lean ====
/-
  What the dense feed-forward's call leaves in its two results.
-/
module

public import proofs.«01_k».proof.Proof.Ffn.Blocks
public import proofs.«01_k».proof.Proof.Ffn.Out

@[expose] public section

set_option maxRecDepth 16384

noncomputable section

namespace Cert.Kernel3Ideal.Ffn

open Cert.Kernel3Ideal Cert.Kernel3Ideal.Gen Cert.Experts Cert.Dense
open Idealize.ShloMosaic Idealize.ShloMosaic.TcCoe Idealize.SL.Sem
open Idealize.ShloMosaic.Pipeline (Dat)

variable (m : (ℓ : Loc nD τ sig) → Buf (Elt Ideal) ℓ) (c : Dev nD)

/-- A row's batch: the context's, or one of the two latent batches'. -/
def batch (r : Fin 12288) : Fin 3 := ⟨(r.val / 512 - 12) / 4, by omega⟩

/-- One part of a batch's modulation. -/
def part (X : FVec Ideal S3x6144 .f32) (b : Fin 3) (j : Fin 6) (k : Fin 1024) : EReal := X (ix2 b ⟨j.val * 1024 + k.val, by omega⟩)

/-- The first result, at a row and a column. -/
def outF (r : Fin 12288) (o : Fin 1024) : EReal :=
  row (fun k => bX m c (ix2 r k)) (part (bM m c) (batch r) 3) (part (bM m c) (batch r) 4) (part (bM m c) (batch r) 5)
    (fun k => bLg m c (ix3 0 1 k)) (fun k => bLb m c (ix3 0 1 k))
    (fun k f => bG m c (ix3 0 k f)) (fun k f => bU m c (ix3 0 k f)) (fun f o => bD m c (ix3 0 f o)) o

theorem outAt_pay (t : Fin cfg0.N) : outAt m c t = payOf (insOf m c t) := by
  unfold outAt
  by_cases h : t.val < 16
  · rw [dif_pos h]; exact cast_pay c (grid0.coords t) (bufs t) _ _
  · rw [dif_neg h]; exact rest_pay c (grid0.coords t) (bufs t) _ _

/-- Every point's rows are the result's. -/
theorem out_at (t : Fin cfg0.N) (r : Fin 512) (o : Fin 1024) :
    (outAt m c t : FVec Ideal S512x1024 .f32) (ix2 r o) = outF m c ⟨t.val * 512 + r.val, by have := lt24 t; omega⟩ o := by
  rw [outAt_pay]
  refine (payOf_at _ r o).trans ?_
  have hb : batch ⟨t.val * 512 + r.val, by have := lt24 t; omega⟩ = ⟨(t.val - 12) / 4, by have := lt24 t; omega⟩ :=
    Fin.ext (by show ((t.val * 512 + r.val) / 512 - 12) / 4 = (t.val - 12) / 4; omega)
  unfold outF
  rw [hb]
  congr 1
  · funext k; exact blk0 m c t r k
  · funext k; exact blk1 m c t 3 k
  · funext k; exact blk1 m c t 4 k
  · funext k; exact blk1 m c t 5 k
  · funext k; exact blk5 m c t k
  · funext k; exact blk6 m c t k
  · funext k f; exact blk2 m c t k f
  · funext k f; exact blk3 m c t k f
  · funext f o; exact blk4 m c t f o

/-- Every point's cast block is the experts' weights at its rows. -/
theorem block_at (t : Fin cfg0.N) (r : Fin 896) (o : Fin 1024) :
    (blockAt m c t : FVec Ideal S896x1024 .bf16) (ix2 r o)
      = (V m c main_v14 : FVec Ideal S14336x1024 .f32) (ix2 ⟨min t.val 15 * 896 + r.val, by omega⟩ o) := by
  unfold blockAt
  refine (pay2_at _ r o).trans ((blk7 m c (castPt t) r o).trans ?_)
  refine congrArg (fun z => (V m c main_v14 : FVec Ideal S14336x1024 .f32) (ix2 z o)) (Fin.ext ?_)
  show min (min t.val 15) 15 * 896 + r.val = min t.val 15 * 896 + r.val
  omega

/-- The first result, whole. -/
def outR : FVec Ideal S12288x1024 .f32 := fun i => outF m c (i 0) (i 1)

/-- Where the results' blocks place a point's entries. -/
theorem emb8 (t : Fin cfg0.N) (y0 : Fin 512) (y1 : Fin 1024) :
    ((cfg0.win 8).blk t).view.emb (ix2 y0 y1 : S512x1024.Idx) = (ix2 ⟨t.val * 512 + y0.val, by have := lt24 t; omega⟩ y1 : S12288x1024.Idx) := by
  blk_ext [idx t]
theorem emb9 (t : Fin cfg0.N) (y0 : Fin 896) (y1 : Fin 1024) :
    ((cfg0.win 9).blk t).view.emb (ix2 y0 y1 : S896x1024.Idx) = (ix2 ⟨min t.val 15 * 896 + y0.val, by omega⟩ y1 : S14336x1024.Idx) := by
  blk_ext [idx t]

/-- The two results after the run. -/
theorem final8 : (dats m 0 c).arrAt 8 (cfgs 0).N = outR m c := by
  refine (dats m 0 c).arrAt_eq_of_covers 8 _ (by decide +kernel) fun t _ y => ?_
  blk_simp
  rw [after8]
  have hy : ∃ (y0 : Fin 512) (y1 : Fin 1024), y = (ix2 y0 y1 : S512x1024.Idx) :=
    ⟨y (0 : Fin 2), y (1 : Fin 2), by funext a; match a with | ⟨0, _⟩ => rfl | ⟨1, _⟩ => rfl⟩
  obtain ⟨y0, y1, rfl⟩ := hy
  exact (out_at m c t y0 y1).trans (congrArg (outR m c) (emb8 t y0 y1)).symm

theorem final9 : (dats m 0 c).arrAt 9 (cfgs 0).N = (V m c main_v14 : FVec Ideal S14336x1024 .f32) := by
  refine (dats m 0 c).arrAt_eq_of_covers 9 _ (by decide +kernel) fun t _ y => ?_
  blk_simp
  rw [after9]
  have hy : ∃ (y0 : Fin 896) (y1 : Fin 1024), y = (ix2 y0 y1 : S896x1024.Idx) :=
    ⟨y (0 : Fin 2), y (1 : Fin 2), by funext a; match a with | ⟨0, _⟩ => rfl | ⟨1, _⟩ => rfl⟩
  obtain ⟨y0, y1, rfl⟩ := hy
  exact (block_at m c t y0 y1).trans (congrArg (V m c main_v14 : FVec Ideal S14336x1024 .f32) (emb9 t y0 y1)).symm

end Cert.Kernel3Ideal.Ffn

end
-- ==== Proof.Ffn.RefDef.lean ====
/-
  The reference of the dense feed-forward's call, its composed term put together of the layer's steps.
-/
module

public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Reference3Ideal.Ffn

open Cert.Reference3Ideal Cert.Reference3Ideal.Gen
open Idealize.ShloMosaic Idealize.ShloMosaic.TcCoe Idealize.SL.Sem

/-- The parts of the reference on the context's rows: a projection into the hidden width and back, the activation. -/
def intoC (h : FVec Ideal S32x256x1024 .f32) (w : FVec Ideal S1024x2816 .f32) : FVec Ideal S32x256x2816 .f32 :=
  Host.dotGeneral dot_S32x256x1024_S1024x2816_S32x256x2816_2_0_01_1_n_n none h w
def backC (z : FVec Ideal S32x256x2816 .f32) (w : FVec Ideal S2816x1024 .f32) : FVec Ideal S32x256x1024 .f32 :=
  Host.dotGeneral dot_S32x256x2816_S2816x1024_S32x256x1024_2_0_01_1_n_n none z w
def actC (s : FVec Ideal S32x256x2816 .f32) : FVec Ideal S32x256x2816 .f32 :=
  mulf s (Host.divf (broadcastInDim S32x256x2816 ![] bcast_S_S32x256x2816 (constant S_ .f32 0x3F800000#32))
    (addf (broadcastInDim S32x256x2816 ![] bcast_S_S32x256x2816 (constant S_ .f32 0x3F800000#32)) (Host.exp (Host.negf s))))

/-- The scaled input plus the gated feed-forward of the modulated input. -/
def ffnC (x sc sh : FVec Ideal S32x256x1024 .f32) (g u : FVec Ideal S1024x2816 .f32) (d : FVec Ideal S2816x1024 .f32) : FVec Ideal S32x256x1024 .f32 :=
  backC (mulf (actC (intoC (addf (mulf x sc) sh) g)) (intoC (addf (mulf x sc) sh) u)) d
def mixC (x gt z : FVec Ideal S32x256x1024 .f32) : FVec Ideal S32x256x1024 .f32 :=
  addf (mulf (broadcastInDim S32x256x1024 ![] bcast_S_S32x256x1024 (constant S_ .f32 0x3FB504F3#32)) x) (mulf gt z)

/-- The mean over a row, a row less its mean, and the normalization. -/
def meanC (z : FVec Ideal S32x256x1024 .f32) : FVec Ideal S32x256x1 .f32 :=
  Host.divf (broadcastInDim S32x256x1 ![0, 1] bcast_S32x256_S32x256x1_0_1 (Host.reduceAdd z (constant S_ .f32 0x00000000#32) reducesTo_S32x256x1024_S32x256_d2 h_S_))
    (broadcastInDim S32x256x1 ![] bcast_S_S32x256x1 (constant S_ .f32 0x44800000#32))
def ctrC (z : FVec Ideal S32x256x1024 .f32) : FVec Ideal S32x256x1024 .f32 := subf z (broadcastInDim S32x256x1024 ![0, 1, 2] bcast_S32x256x1_S32x256x1024_0_1_2 (meanC z))
def normC (w lg lb : FVec Ideal S32x256x1024 .f32) : FVec Ideal S32x256x1024 .f32 :=
  addf (mulf (mulf w (broadcastInDim S32x256x1024 ![0, 1, 2] bcast_S32x256x1_S32x256x1024_0_1_2
    (Host.rsqrt (addf (meanC (mulf w w)) (broadcastInDim S32x256x1 ![] bcast_S_S32x256x1 (constant S_ .f32 0x3727C5AC#32)))))) lg) lb

/-- One row of the normalization's arrays, along every row. -/
def lineC (l : FVec Ideal S2x2x1024 .f32) : FVec Ideal S32x256x1024 .f32 :=
  broadcastInDim S32x256x1024 ![0, 1, 2] bcast_S1x1x1024_S32x256x1024_0_1_2 (broadcastInDim S1x1x1024 ![2] bcast_S1024_S1x1x1024_2
    (shapeCast _ (extractStridedSlice S1x1x1024 ![0, 1, 0] l slices_S2x2x1024_S1x1x1024_0_1_0) shapeCasts_S1x1x1024_S1024))

/-- The parts of the reference on the latents' rows: a projection into the hidden width and back, the activation. -/
def intoL (h : FVec Ideal S2x2048x1024 .f32) (w : FVec Ideal S1024x2816 .f32) : FVec Ideal S2x2048x2816 .f32 :=
  Host.dotGeneral dot_S2x2048x1024_S1024x2816_S2x2048x2816_2_0_01_1_n_n none h w
def backL (z : FVec Ideal S2x2048x2816 .f32) (w : FVec Ideal S2816x1024 .f32) : FVec Ideal S2x2048x1024 .f32 :=
  Host.dotGeneral dot_S2x2048x2816_S2816x1024_S2x2048x1024_2_0_01_1_n_n none z w
def actL (s : FVec Ideal S2x2048x2816 .f32) : FVec Ideal S2x2048x2816 .f32 :=
  mulf s (Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf s))))

/-- The scaled input plus the gated feed-forward of the modulated input. -/
def ffnL (x sc sh : FVec Ideal S2x2048x1024 .f32) (g u : FVec Ideal S1024x2816 .f32) (d : FVec Ideal S2816x1024 .f32) : FVec Ideal S2x2048x1024 .f32 :=
  backL (mulf (actL (intoL (addf (mulf x sc) sh) g)) (intoL (addf (mulf x sc) sh) u)) d
def mixL (x gt z : FVec Ideal S2x2048x1024 .f32) : FVec Ideal S2x2048x1024 .f32 :=
  addf (mulf (broadcastInDim S2x2048x1024 ![] bcast_S_S2x2048x1024 (constant S_ .f32 0x3FB504F3#32)) x) (mulf gt z)

/-- The mean over a row, a row less its mean, and the normalization. -/
def meanL (z : FVec Ideal S2x2048x1024 .f32) : FVec Ideal S2x2048x1 .f32 :=
  Host.divf (broadcastInDim S2x2048x1 ![0, 1] bcast_S2x2048_S2x2048x1_0_1 (Host.reduceAdd z (constant S_ .f32 0x00000000#32) reducesTo_S2x2048x1024_S2x2048_d2 h_S_))
    (broadcastInDim S2x2048x1 ![] bcast_S_S2x2048x1 (constant S_ .f32 0x44800000#32))
def ctrL (z : FVec Ideal S2x2048x1024 .f32) : FVec Ideal S2x2048x1024 .f32 := subf z (broadcastInDim S2x2048x1024 ![0, 1, 2] bcast_S2x2048x1_S2x2048x1024_0_1_2 (meanL z))
def normL (w lg lb : FVec Ideal S2x2048x1024 .f32) : FVec Ideal S2x2048x1024 .f32 :=
  addf (mulf (mulf w (broadcastInDim S2x2048x1024 ![0, 1, 2] bcast_S2x2048x1_S2x2048x1024_0_1_2
    (Host.rsqrt (addf (meanL (mulf w w)) (broadcastInDim S2x2048x1 ![] bcast_S_S2x2048x1 (constant S_ .f32 0x3727C5AC#32)))))) lg) lb

/-- One row of the normalization's arrays, along every row. -/
def lineL (l : FVec Ideal S2x2x1024 .f32) : FVec Ideal S2x2048x1024 .f32 :=
  broadcastInDim S2x2048x1024 ![0, 1, 2] bcast_S1x1x1024_S2x2048x1024_0_1_2 (broadcastInDim S1x1x1024 ![2] bcast_S1024_S1x1x1024_2
    (shapeCast _ (extractStridedSlice S1x1x1024 ![0, 1, 0] l slices_S2x2x1024_S1x1x1024_0_1_0) shapeCasts_S1x1x1024_S1024))

/-- The context's part of the modulation, along its rows; plain, and with one added. -/
def modC (v : FVec Ideal S3x6144 .f32) (off : Fin 1 → ℕ) (h : S6144.Slices off S1024) : FVec Ideal S1x1024 .f32 :=
  broadcastInDim S1x1024 ![1] bcast_S1024_S1x1024_1 (extractStridedSlice S1024 off
    (shapeCast _ (extractStridedSlice S1x6144 ![0, 0] v slices_S3x6144_S1x6144_0_0) shapeCasts_S1x6144_S6144) h)
def wideC (v : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 v)
def plusC (v : FVec Ideal S1x1024 .f32) : FVec Ideal S1x1024 .f32 := addf (broadcastInDim S1x1024 ![] bcast_S_S1x1024 (constant S_ .f32 0x3F800000#32)) v

/-- The latents' parts of the modulation, likewise. -/
def modL (v : FVec Ideal S3x6144 .f32) (off : Fin 2 → ℕ) (h : S2x6144.Slices off S2x1024) : FVec Ideal S2x1x1024 .f32 :=
  broadcastInDim S2x1x1024 ![0, 2] bcast_S2x1024_S2x1x1024_0_2 (extractStridedSlice S2x1024 off
    (extractStridedSlice S2x6144 ![1, 0] v slices_S3x6144_S2x6144_1_0) h)
def wideL (v : FVec Ideal S2x1x1024 .f32) : FVec Ideal S2x2048x1024 .f32 :=
  broadcastInDim S2x2048x1024 ![0, 1, 2] bcast_S2x1x1024_S2x2048x1024_0_1_2 v
def plusL (v : FVec Ideal S2x1x1024 .f32) : FVec Ideal S2x1x1024 .f32 := addf (broadcastInDim S2x1x1024 ![] bcast_S_S2x1x1024 (constant S_ .f32 0x3F800000#32)) v

variable (m : (ℓ : Loc nD τ sig) → Buf (Elt Ideal) ℓ) (c : Dev nD)

abbrev aX : FVec Ideal S12288x1024 .f32 := m ((c.tc : Thread nD τ).loc main_arg0)
abbrev aM : FVec Ideal S3x6144 .f32 := m ((c.tc : Thread nD τ).loc main_arg1)
abbrev aG : FVec Ideal S1x1024x2816 .f32 := m ((c.tc : Thread nD τ).loc main_arg2)
abbrev aU : FVec Ideal S1x1024x2816 .f32 := m ((c.tc : Thread nD τ).loc main_arg3)
abbrev aD : FVec Ideal S1x2816x1024 .f32 := m ((c.tc : Thread nD τ).loc main_arg4)
abbrev aLg : FVec Ideal S2x2x1024 .f32 := m ((c.tc : Thread nD τ).loc main_arg5)
abbrev aLb : FVec Ideal S2x2x1024 .f32 := m ((c.tc : Thread nD τ).loc main_arg6)
abbrev aE : FVec Ideal S1x8x1792x1024 .f32 := m ((c.tc : Thread nD τ).loc main_arg7)

/-- The weights as matrices, the rows of the context and of the latents. -/
def wG : FVec Ideal S1024x2816 .f32 := shapeCast _ (aG m c) shapeCasts_S1x1024x2816_S1024x2816
def wU : FVec Ideal S1024x2816 .f32 := shapeCast _ (aU m c) shapeCasts_S1x1024x2816_S1024x2816
def wD : FVec Ideal S2816x1024 .f32 := shapeCast _ (aD m c) shapeCasts_S1x2816x1024_S2816x1024
def xC : FVec Ideal S32x256x1024 .f32 :=
  shapeCast _ (extractStridedSlice S8192x1024 ![0, 0] (aX m c) slices_S12288x1024_S8192x1024_0_0) shapeCasts_S8192x1024_S32x256x1024
def xL : FVec Ideal S2x2048x1024 .f32 :=
  shapeCast _ (extractStridedSlice S4096x1024 ![8192, 0] (aX m c) slices_S12288x1024_S4096x1024_8192_0) shapeCasts_S4096x1024_S2x2048x1024

def shC : FVec Ideal S32x256x1024 .f32 := wideC (modC (aM m c) ![3072] slices_S6144_S1024_3072)
def scC : FVec Ideal S32x256x1024 .f32 := wideC (plusC (modC (aM m c) ![4096] slices_S6144_S1024_4096))
def gtC : FVec Ideal S32x256x1024 .f32 := wideC (modC (aM m c) ![5120] slices_S6144_S1024_5120)
def shL : FVec Ideal S2x2048x1024 .f32 := wideL (modL (aM m c) ![0, 3072] slices_S2x6144_S2x1024_0_3072)
def scL : FVec Ideal S2x2048x1024 .f32 := wideL (plusL (modL (aM m c) ![0, 4096] slices_S2x6144_S2x1024_0_4096))
def gtL : FVec Ideal S2x2048x1024 .f32 := wideL (modL (aM m c) ![0, 5120] slices_S2x6144_S2x1024_0_5120)

/-- What is normalized, and the two groups' results. -/
def zC : FVec Ideal S32x256x1024 .f32 := mixC (xC m c) (gtC m c) (ffnC (xC m c) (scC m c) (shC m c) (wG m c) (wU m c) (wD m c))
def zL : FVec Ideal S2x2048x1024 .f32 := mixL (xL m c) (gtL m c) (ffnL (xL m c) (scL m c) (shL m c) (wG m c) (wU m c) (wD m c))
def oC : FVec Ideal S32x256x1024 .f32 := normC (ctrC (zC m c)) (lineC (aLg m c)) (lineC (aLb m c))
def oL : FVec Ideal S2x2048x1024 .f32 := normL (ctrL (zL m c)) (lineL (aLg m c)) (lineL (aLb m c))

theorem res_eq : (Value.res_main_v118 m c : FVec Ideal S12288x1024 .f32)
    = concatenate S12288x1024 0 [⟨S8192x1024, shapeCast _ (oC m c) shapeCasts_S32x256x1024_S8192x1024⟩,
        ⟨S4096x1024, shapeCast _ (oL m c) shapeCasts_S2x2048x1024_S4096x1024⟩] concatenates_S8192x1024_S4096x1024_S12288x1024_d0 := rfl

end Cert.Reference3Ideal.Ffn

end
-- ==== Proof.Ffn.RefRead.lean ====
/-
  The reference of the dense feed-forward's call, an entry at a time.
-/
module

public import proofs.«01_k».proof.Proof.Ffn.RefDef
public import proofs.«01_k».proof.Proof.Ffn.Math

@[expose] public section

set_option maxRecDepth 16384

noncomputable section

namespace Cert.Reference3Ideal.Ffn

open Cert.Reference3Ideal Cert.Reference3Ideal.Gen Cert.Experts Cert.Dense
open Idealize.ShloMosaic Idealize.ShloMosaic.TcCoe Idealize.SL.Sem

/-- One part of a batch's modulation. -/
def part (X : FVec Ideal S3x6144 .f32) (b : Fin 3) (j : Fin 6) (k : Fin 1024) : EReal := X (ix2 b ⟨j.val * 1024 + k.val, by omega⟩)

variable (m : (ℓ : Loc nD τ sig) → Buf (Elt Ideal) ℓ) (c : Dev nD)

theorem wG_at (k : Fin 1024) (f : Fin 2816) : wG m c (ix2 k f) = aG m c (ix3 0 k f) := by
  pointwise [wG]
theorem wU_at (k : Fin 1024) (f : Fin 2816) : wU m c (ix2 k f) = aU m c (ix3 0 k f) := by
  pointwise [wU]
theorem wD_at (f : Fin 2816) (o : Fin 1024) : wD m c (ix2 f o) = aD m c (ix3 0 f o) := by
  pointwise [wD]

/-! The context's rows. -/

theorem ffnC_at (x sc sh : FVec Ideal S32x256x1024 .f32) (g u : FVec Ideal S1024x2816 .f32) (d : FVec Ideal S2816x1024 .f32)
    (a : Fin 32) (b : Fin 256) (o : Fin 1024) :
    ffnC x sc sh g u d (ix3 a b o)
      = dense (fun k => x (ix3 a b k) * sc (ix3 a b k) + sh (ix3 a b k)) (fun k f => g (ix2 k f)) (fun k f => u (ix2 k f)) (fun f => d (ix2 f o)) := by
  unfold dense
  simp only [← silu_eq]
  pointwise [ffnC, backC, actC, intoC]

theorem mixC_at (x gt z : FVec Ideal S32x256x1024 .f32) (a : Fin 32) (b : Fin 256) (o : Fin 1024) :
    mixC x gt z (ix3 a b o) = mix (fun k => x (ix3 a b k)) (fun k => gt (ix3 a b k)) (fun k => z (ix3 a b k)) o := by
  unfold mix
  pointwise [mixC]

theorem ctrC_at (z : FVec Ideal S32x256x1024 .f32) (a : Fin 32) (b : Fin 256) (o : Fin 1024) :
    ctrC z (ix3 a b o) = ctr (fun k => z (ix3 a b k)) o := by
  unfold ctr
  pointwise [ctrC, meanC]

theorem normC_at (z lg lb : FVec Ideal S32x256x1024 .f32) (a : Fin 32) (b : Fin 256) (o : Fin 1024) :
    normC (ctrC z) lg lb (ix3 a b o)
      = Dense.norm (fun k => z (ix3 a b k)) (fun k => lg (ix3 a b k)) (fun k => lb (ix3 a b k)) o := by
  unfold Dense.norm
  simp only [← ctrC_at]
  generalize ctrC z = w
  pointwise [normC, meanC]

theorem lineC_at (l : FVec Ideal S2x2x1024 .f32) (a : Fin 32) (b : Fin 256) (k : Fin 1024) : lineC l (ix3 a b k) = l (ix3 0 1 k) := by
  pointwise [lineC]
theorem xC_at (a : Fin 32) (b : Fin 256) (k : Fin 1024) : xC m c (ix3 a b k) = aX m c (ix2 ⟨a.val * 256 + b.val, by omega⟩ k) := by
  pointwise [xC]
theorem shC_at (a : Fin 32) (b : Fin 256) (k : Fin 1024) : shC m c (ix3 a b k) = part (aM m c) 0 3 k := by
  unfold part
  pointwise [shC, wideC, modC, plusC]
theorem scC_at (a : Fin 32) (b : Fin 256) (k : Fin 1024) : scC m c (ix3 a b k) = 1 + part (aM m c) 0 4 k := by
  unfold part
  pointwise [scC, wideC, modC, plusC]
theorem gtC_at (a : Fin 32) (b : Fin 256) (k : Fin 1024) : gtC m c (ix3 a b k) = part (aM m c) 0 5 k := by
  unfold part
  pointwise [gtC, wideC, modC, plusC]

theorem oC_at (a : Fin 32) (b : Fin 256) (o : Fin 1024) :
    oC m c (ix3 a b o) = row (fun k => aX m c (ix2 ⟨a.val * 256 + b.val, by omega⟩ k)) (part (aM m c) 0 3) (part (aM m c) 0 4) (part (aM m c) 0 5)
      (fun k => aLg m c (ix3 0 1 k)) (fun k => aLb m c (ix3 0 1 k))
      (fun k f => aG m c (ix3 0 k f)) (fun k f => aU m c (ix3 0 k f)) (fun f o => aD m c (ix3 0 f o)) o := by
  unfold oC zC
  rw [normC_at]
  simp only [mixC_at, ffnC_at, lineC_at, xC_at, shC_at, scC_at, gtC_at, wG_at, wU_at, wD_at]
  rfl

/-! The latents' rows. -/

theorem ffnL_at (x sc sh : FVec Ideal S2x2048x1024 .f32) (g u : FVec Ideal S1024x2816 .f32) (d : FVec Ideal S2816x1024 .f32)
    (a : Fin 2) (b : Fin 2048) (o : Fin 1024) :
    ffnL x sc sh g u d (ix3 a b o)
      = dense (fun k => x (ix3 a b k) * sc (ix3 a b k) + sh (ix3 a b k)) (fun k f => g (ix2 k f)) (fun k f => u (ix2 k f)) (fun f => d (ix2 f o)) := by
  unfold dense
  simp only [← silu_eq]
  pointwise [ffnL, backL, actL, intoL]

theorem mixL_at (x gt z : FVec Ideal S2x2048x1024 .f32) (a : Fin 2) (b : Fin 2048) (o : Fin 1024) :
    mixL x gt z (ix3 a b o) = mix (fun k => x (ix3 a b k)) (fun k => gt (ix3 a b k)) (fun k => z (ix3 a b k)) o := by
  unfold mix
  pointwise [mixL]

theorem ctrL_at (z : FVec Ideal S2x2048x1024 .f32) (a : Fin 2) (b : Fin 2048) (o : Fin 1024) :
    ctrL z (ix3 a b o) = ctr (fun k => z (ix3 a b k)) o := by
  unfold ctr
  pointwise [ctrL, meanL]

theorem normL_at (z lg lb : FVec Ideal S2x2048x1024 .f32) (a : Fin 2) (b : Fin 2048) (o : Fin 1024) :
    normL (ctrL z) lg lb (ix3 a b o)
      = Dense.norm (fun k => z (ix3 a b k)) (fun k => lg (ix3 a b k)) (fun k => lb (ix3 a b k)) o := by
  unfold Dense.norm
  simp only [← ctrL_at]
  generalize ctrL z = w
  pointwise [normL, meanL]

theorem lineL_at (l : FVec Ideal S2x2x1024 .f32) (a : Fin 2) (b : Fin 2048) (k : Fin 1024) : lineL l (ix3 a b k) = l (ix3 0 1 k) := by
  pointwise [lineL]
theorem xL_at (a : Fin 2) (b : Fin 2048) (k : Fin 1024) : xL m c (ix3 a b k) = aX m c (ix2 ⟨8192 + (a.val * 2048 + b.val), by omega⟩ k) := by
  pointwise [xL]
theorem shL_at (a : Fin 2) (b : Fin 2048) (k : Fin 1024) : shL m c (ix3 a b k) = part (aM m c) ⟨1 + a.val, by omega⟩ 3 k := by
  unfold part
  pointwise [shL, wideL, modL, plusL]
theorem scL_at (a : Fin 2) (b : Fin 2048) (k : Fin 1024) : scL m c (ix3 a b k) = 1 + part (aM m c) ⟨1 + a.val, by omega⟩ 4 k := by
  unfold part
  pointwise [scL, wideL, modL, plusL]
theorem gtL_at (a : Fin 2) (b : Fin 2048) (k : Fin 1024) : gtL m c (ix3 a b k) = part (aM m c) ⟨1 + a.val, by omega⟩ 5 k := by
  unfold part
  pointwise [gtL, wideL, modL, plusL]

theorem oL_at (a : Fin 2) (b : Fin 2048) (o : Fin 1024) :
    oL m c (ix3 a b o) = row (fun k => aX m c (ix2 ⟨8192 + (a.val * 2048 + b.val), by omega⟩ k)) (part (aM m c) ⟨1 + a.val, by omega⟩ 3) (part (aM m c) ⟨1 + a.val, by omega⟩ 4) (part (aM m c) ⟨1 + a.val, by omega⟩ 5)
      (fun k => aLg m c (ix3 0 1 k)) (fun k => aLb m c (ix3 0 1 k))
      (fun k f => aG m c (ix3 0 k f)) (fun k f => aU m c (ix3 0 k f)) (fun f o => aD m c (ix3 0 f o)) o := by
  unfold oL zL
  rw [normL_at]
  simp only [mixL_at, ffnL_at, lineL_at, xL_at, shL_at, scL_at, gtL_at, wG_at, wU_at, wD_at]
  rfl

/-- The first result: the context's rows, then the latents'. -/
theorem res_at (r : Fin 12288) (o : Fin 1024) : (Value.res_main_v118 m c : FVec Ideal S12288x1024 .f32) (ix2 r o)
    = if h : r.val < 8192 then oC m c (ix3 ⟨r.val / 256, by omega⟩ ⟨r.val % 256, by omega⟩ o)
      else oL m c (ix3 ⟨(r.val - 8192) / 2048, by omega⟩ ⟨(r.val - 8192) % 2048, by omega⟩ o) := by
  rw [res_eq]
  pointwise

/-- The second result: the experts' weights as one matrix. -/
theorem cast_at (r : Fin 14336) (o : Fin 1024) :
    (truncf .bf16 (shapeCast _ (shapeCast _ (aE m c) shapeCasts_S1x8x1792x1024_S8x1792x1024) shapeCasts_S8x1792x1024_S14336x1024 : FVec Ideal S14336x1024 .f32)
      bitsLt_bf16_f32 : FVec Ideal S14336x1024 .bf16) (ix2 r o) = aE m c (ix4 0 ⟨r.val / 1792, by omega⟩ ⟨r.val % 1792, by omega⟩ o) := by
  pointwise

end Cert.Reference3Ideal.Ffn

end
-- ==== Proof.Ffn.Join.lean ====
/-
  The two results of the dense feed-forward's call are the reference's.
-/
module

public import proofs.«01_k».proof.Proof.Ffn.Final
public import proofs.«01_k».proof.Proof.Ffn.RefRead

@[expose] public section

set_option maxRecDepth 16384

noncomputable section

namespace Cert.Kernel3Ideal.Ffn

open Cert.Kernel3Ideal Cert.Kernel3Ideal.Gen Cert.Experts Cert.Dense
open Idealize.ShloMosaic Idealize.ShloMosaic.TcCoe Idealize.SL.Sem
open Idealize.ShloMosaic.Pipeline (Dat)

variable (m : (ℓ : Loc nD τ sig) → Buf (Elt Ideal) ℓ)
  (m' : (ℓ : Loc Cert.Reference3Ideal.nD Cert.Reference3Ideal.τ Cert.Reference3Ideal.sig) → Buf (Elt Ideal) ℓ) (c : Dev nD)

open Cert.Reference3Ideal.Ffn (aX aM aG aU aD aLg aLb aE)

/-- A row of the layer depends on its row and batch alone. -/
theorem outF_eq (h0 : aX m' c = bX m c) (h1 : aM m' c = bM m c) (h2 : aG m' c = bG m c) (h3 : aU m' c = bU m c)
    (h4 : aD m' c = bD m c) (h5 : aLg m' c = bLg m c) (h6 : aLb m' c = bLb m c) (r : Fin 12288) (o : Fin 1024)
    (q : Fin 12288) (b : Fin 3) (hq : q = r) (hb : b = batch r) :
    row (fun k => aX m' c (ix2 q k)) (Cert.Reference3Ideal.Ffn.part (aM m' c) b 3) (Cert.Reference3Ideal.Ffn.part (aM m' c) b 4)
      (Cert.Reference3Ideal.Ffn.part (aM m' c) b 5) (fun k => aLg m' c (ix3 0 1 k)) (fun k => aLb m' c (ix3 0 1 k))
      (fun k f => aG m' c (ix3 0 k f)) (fun k f => aU m' c (ix3 0 k f)) (fun f o => aD m' c (ix3 0 f o)) o = outF m c r o := by
  subst hq hb
  rw [h0, h1, h2, h3, h4, h5, h6]
  rfl

/-- The first result. -/
theorem result_eq (h0 : aX m' c = bX m c) (h1 : aM m' c = bM m c) (h2 : aG m' c = bG m c) (h3 : aU m' c = bU m c)
    (h4 : aD m' c = bD m c) (h5 : aLg m' c = bLg m c) (h6 : aLb m' c = bLb m c) :
    (Cert.Reference3Ideal.Value.res_main_v118 m' c : FVec Ideal S12288x1024 .f32) = outR m c := by
  funext i
  have hi : ∃ (r : Fin 12288) (o : Fin 1024), i = (ix2 r o : S12288x1024.Idx) :=
    ⟨i (0 : Fin 2), i (1 : Fin 2), by funext a; match a with | ⟨0, _⟩ => rfl | ⟨1, _⟩ => rfl⟩
  obtain ⟨r, o, rfl⟩ := hi
  refine (Cert.Reference3Ideal.Ffn.res_at m' c r o).trans ?_
  show _ = outF m c r o
  have hr := r.isLt
  by_cases h : r.val < 8192
  · rw [dif_pos h]
    refine (Cert.Reference3Ideal.Ffn.oC_at m' c _ _ o).trans (outF_eq m m' c h0 h1 h2 h3 h4 h5 h6 r o _ _ (Fin.ext ?_) (Fin.ext ?_))
    · show r.val / 256 * 256 + r.val % 256 = r.val
      omega
    · show 0 = (r.val / 512 - 12) / 4
      omega
  · rw [dif_neg h]
    refine (Cert.Reference3Ideal.Ffn.oL_at m' c _ _ o).trans (outF_eq m m' c h0 h1 h2 h3 h4 h5 h6 r o _ _ (Fin.ext ?_) (Fin.ext ?_))
    · show 8192 + ((r.val - 8192) / 2048 * 2048 + (r.val - 8192) % 2048) = r.val
      omega
    · show 1 + (r.val - 8192) / 2048 = (r.val / 512 - 12) / 4
      omega

/-- The second result. -/
theorem cast_eq (h7 : aE m' c = bE m c) :
    (truncf .bf16 (shapeCast _ (shapeCast _ (aE m' c) Cert.Reference3Ideal.Gen.shapeCasts_S1x8x1792x1024_S8x1792x1024)
      Cert.Reference3Ideal.Gen.shapeCasts_S8x1792x1024_S14336x1024 : FVec Ideal S14336x1024 .f32)
      Cert.Reference3Ideal.Gen.bitsLt_bf16_f32 : FVec Ideal S14336x1024 .bf16) = (V m c main_v14 : FVec Ideal S14336x1024 .f32) := by
  funext i
  have hi : ∃ (r : Fin 14336) (o : Fin 1024), i = (ix2 r o : S14336x1024.Idx) :=
    ⟨i (0 : Fin 2), i (1 : Fin 2), by funext a; match a with | ⟨0, _⟩ => rfl | ⟨1, _⟩ => rfl⟩
  obtain ⟨r, o, rfl⟩ := hi
  rw [moe_entry, ← h7]
  exact Cert.Reference3Ideal.Ffn.cast_at m' c r o

end Cert.Kernel3Ideal.Ffn

end
-- ==== Proof.Attn.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the kernel body is called with: each window's staging buffer and the three scratch
buffers, all of them whole. -/
structure Bufs where
  a1 : Memref sig .tc .vmem S256x2048 .bf16
  h1 : a1.IsWhole
  a2 : Memref sig .tc .vmem S2048x256 .f32
  h2 : a2.IsWhole
  a3 : Memref sig .tc .vmem S2048x128 .f32
  h3 : a3.IsWhole
  a4 : Memref sig .tc .vmem S512x2048 .bf16
  h4 : a4.IsWhole
  a5 : Memref sig .tc .vmem S256x256 .f32
  h5 : a5.IsWhole
  a6 : Memref sig .tc .vmem S256x128 .f32
  h6 : a6.IsWhole
  a7 : Memref sig .tc .vmem S1x512x256 .f32
  h7 : a7.IsWhole
  a8 : Memref sig .tc .vmem S1x512x128 .f32
  h8 : a8.IsWhole
  a9 : Memref sig .tc .vmem S256x2048 .bf16
  h9 : a9.IsWhole
  a10 : Memref sig .tc .vmem S256x1024 .bf16
  h10 : a10.IsWhole
  a11 : Memref sig .tc .vmem S256x3072 .bf16
  h11 : a11.IsWhole
  a12 : Memref sig .tc .vmem S2560x3072 .bf16
  h12 : a12.IsWhole
  a13 : Memref sig .tc .vmem S256x1024 .bf16
  h13 : a13.IsWhole

/-- What the nine input windows' staging buffers hold when the body starts. -/
structure Ins (F : FTy → Type) [FloatOps F] where
  x0 : Vec F S256x2048 .bf16
  x1 : Vec F S2048x256 .f32
  x2 : Vec F S2048x128 .f32
  x3 : Vec F S512x2048 .bf16
  x4 : Vec F S256x256 .f32
  x5 : Vec F S256x128 .f32
  x6 : Vec F S1x512x256 .f32
  x7 : Vec F S1x512x128 .f32
  x8 : Vec F S256x2048 .bf16

/-- The kernel body on these buffers. -/
def bodyOn (i : grid0.Coords) (M : Bufs) :=
  cc0_attention (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13

/-- The nine input buffers hold their blocks. -/
def insAt (c : Dev nD) (M : Bufs) (x : Ins F) : sProp 𝕄 :=
  iprop(owns (c : Thread nD τ) M.a1 fullShare x.x0 ∗ owns (c : Thread nD τ) M.a2 fullShare x.x1 ∗ owns (c : Thread nD τ) M.a3 fullShare x.x2 ∗ owns (c : Thread nD τ) M.a4 fullShare x.x3 ∗ owns (c : Thread nD τ) M.a5 fullShare x.x4 ∗ owns (c : Thread nD τ) M.a6 fullShare x.x5 ∗ owns (c : Thread nD τ) M.a7 fullShare x.x6 ∗ owns (c : Thread nD τ) M.a8 fullShare x.x7 ∗ owns (c : Thread nD τ) M.a9 fullShare x.x8)

/-! ## The branch conditions, in closed form over the grid -/

theorem N48 : cfg0.N = 48 := N_0

/-- The first 32 points attend over the context tokens. -/
theorem ctx_iff : ∀ t : Fin cfg0.N, k0_cond1 (grid0.coords t) = 1#1 ↔ t.val < 32 :=
  (by decide +kernel : ∀ t : Fin grid0.N, k0_cond1 (grid0.coords t) = 1#1 ↔ t.val < 32)
/-- The even points after them attend over a latent batch, two query tiles at once. -/
theorem pair_iff : ∀ t : Fin cfg0.N, k0_cond2 (grid0.coords t) = 1#1 ↔ 32 ≤ t.val ∧ t.val % 2 = 0 :=
  (by decide +kernel : ∀ t : Fin grid0.N, k0_cond2 (grid0.coords t) = 1#1 ↔ 32 ≤ t.val ∧ t.val % 2 = 0)
/-- The odd points after them store what the point before held back. -/
theorem odd_iff : ∀ t : Fin cfg0.N, k0_cond4 (grid0.coords t) = 1#1 ↔ 32 ≤ t.val ∧ t.val % 2 = 1 :=
  (by decide +kernel : ∀ t : Fin grid0.N, k0_cond4 (grid0.coords t) = 1#1 ↔ 32 ≤ t.val ∧ t.val % 2 = 1)
/-- The test for the first point of a batch, from the coordinates. -/
abbrev freshCond (i : grid0.Coords) : Prop := (Scalar.cmpi .ne (Scalar.extui (Scalar.cmpi .eq (Scalar.remsi (Scalar.subi (BitVec.ofNat 32 (i 0).val) 32#32) 8#32) 0#32)) 0#32) = 1#1
/-- A latent batch's keys and values are expanded at every eighth point. -/
theorem fresh_iff : ∀ t : Fin cfg0.N, freshCond (grid0.coords t) ↔ t.val % 8 = 0 :=
  (by decide +kernel : ∀ t : Fin grid0.N, freshCond (grid0.coords t) ↔ t.val % 8 = 0)

end Cert.KernelIdeal.Attn

end
-- ==== Proof.Attn.RunCtx.lean ====
module

public import proofs.«01_k».proof.Proof.Attn.Base

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A context point: the token tile's keys and values are expanded into the first scratch and its queries attend over them; the pieces the output block ends with are what the run finds. -/
def ctxRun (c : Dev nD) (i : grid0.Coords) (M : Bufs) (h1 : k0_cond1 i = 1#1) (h2 : ¬k0_cond2 i = 1#1) (h4 : ¬k0_cond4 i = 1#1)
    (x : Ins F) :
    Σ' (L9 : List (View.Piece (Elt F) S256x1024 .bf16)), { L10 : List (View.Piece (Elt F) S256x3072 .bf16) //
      ∀ (E : Set ℕ) (K : PUnit → sProp 𝕄),
        iprop(insAt c M x ∗ (∃ d, owns (c : Thread nD τ) M.a10 fullShare d) ∗ (∃ d, owns (c : Thread nD τ) M.a11 fullShare d) ∗ (∃ d, owns (c : Thread nD τ) M.a12 fullShare d) ∗ (∃ d, owns (c : Thread nD τ) M.a13 fullShare d)
            ∗ (iprop(insAt c M x ∗ (∃ f, M.a10.view.loc (c : Thread nD τ) ↦[M.a10.view.set]{fullShare} M.a10.view.writes (Elt F) f L9) ∗ (∃ f, M.a11.view.loc (c : Thread nD τ) ↦[M.a11.view.set]{fullShare} M.a11.view.writes (Elt F) f L10) ∗ (∃ d, owns (c : Thread nD τ) M.a12 fullShare d) ∗ (∃ d, owns (c : Thread nD τ) M.a13 fullShare d)) -∗ K ⟨⟩))
          ⊢ wp frame (wpE (defs₀ (F := F)) Variants.none c none) E (bodyOn i M) K } := by
  refine ⟨?_, ?_, fun E K => ?run⟩
  case run =>
    unfold bodyOn; simp only [cc0_attention_eq_skeleton]; unfold cc0_attention_skel
    simp only [k0_part1_eq_skeleton, k0_part2_eq_skeleton, k0_part3_eq_skeleton, k0_part4_eq_skeleton, k0_part5_eq_skeleton, k0_part6_eq_skeleton]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8
    sl_exec (disch := first | sl_exact h1 | sl_exact h2 | sl_exact h4)
    sl_step
    iapply Hk
    isplitl [H0 H1 H2 H3 H4 H5 H6 H7 H8]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      isplitl [H7]
      · iexists _; isplitr; · ipureintro; exact M.h8.read_unread _
        iexact H7
      iexists _; isplitr; · ipureintro; exact M.h9.read_unread _
      iexact H8
    isplitl [H9]
    · iexists _; iexact H9
    isplitl [H10]
    · iexists _; iexact H10
    isplitl [H11]
    · iexists _, _; isplitr; swap; · iexact H11
      ipureintro; rfl
    iexists _, _; isplitr; swap; · iexact H12
    ipureintro; rfl

end Cert.KernelIdeal.Attn

end
-- ==== Proof.Attn.RunFresh.lean ====
module

public import proofs.«01_k».proof.Proof.Attn.RunCtx

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of a latent batch: the batch's keys and values are expanded into the second scratch, then two query tiles attend over them, the first stored and the second held back. -/
def freshRun (c : Dev nD) (i : grid0.Coords) (M : Bufs) (h1 : ¬k0_cond1 i = 1#1) (h2 : k0_cond2 i = 1#1) (h4 : ¬k0_cond4 i = 1#1) (h3 : freshCond i)
    (x : Ins F) :
    Σ' (L9 : List (View.Piece (Elt F) S256x1024 .bf16)), Σ' (L11 : List (View.Piece (Elt F) S2560x3072 .bf16)), { L12 : List (View.Piece (Elt F) S256x1024 .bf16) //
      ∀ (E : Set ℕ) (K : PUnit → sProp 𝕄),
        iprop(insAt c M x ∗ (∃ d, owns (c : Thread nD τ) M.a10 fullShare d) ∗ (∃ d, owns (c : Thread nD τ) M.a11 fullShare d) ∗ (∃ d, owns (c : Thread nD τ) M.a12 fullShare d) ∗ (∃ d, owns (c : Thread nD τ) M.a13 fullShare d)
            ∗ (iprop(insAt c M x ∗ (∃ f, M.a10.view.loc (c : Thread nD τ) ↦[M.a10.view.set]{fullShare} M.a10.view.writes (Elt F) f L9) ∗ (∃ d, owns (c : Thread nD τ) M.a11 fullShare d) ∗ (∃ f, M.a12.view.loc (c : Thread nD τ) ↦[M.a12.view.set]{fullShare} M.a12.view.writes (Elt F) f L11) ∗ (∃ f, M.a13.view.loc (c : Thread nD τ) ↦[M.a13.view.set]{fullShare} M.a13.view.writes (Elt F) f L12)) -∗ K ⟨⟩))
          ⊢ wp frame (wpE (defs₀ (F := F)) Variants.none c none) E (bodyOn i M) K } := by
  refine ⟨?_, ?_, ?_, fun E K => ?run⟩
  case run =>
    unfold bodyOn; simp only [cc0_attention_eq_skeleton]; unfold cc0_attention_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8
    sl_exec (disch := first | sl_exact h1 | sl_exact h2 | sl_exact h3 | sl_exact h4)
    sl_step
    iapply Hk
    isplitl [H0 H1 H2 H3 H4 H5 H6 H7 H8]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      isplitl [H7]
      · iexists _; isplitr; · ipureintro; exact M.h8.read_unread _
        iexact H7
      iexists _; isplitr; · ipureintro; exact M.h9.read_unread _
      iexact H8
    isplitl [H9]
    · iexists _; iexact H9
    isplitl [H10]
    · iexists _, _; isplitr; swap; · iexact H10
      ipureintro; rfl
    isplitl [H11]
    · iexists _; iexact H11
    iexists _; iexact H12

end Cert.KernelIdeal.Attn

end
-- ==== Proof.Attn.RunKeep.lean ====
module

public import proofs.«01_k».proof.Proof.Attn.RunFresh

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later even point of a latent batch: two query tiles attend over the keys and values `X` the batch's first point left. -/
def keepRun (c : Dev nD) (i : grid0.Coords) (M : Bufs) (h1 : ¬k0_cond1 i = 1#1) (h2 : k0_cond2 i = 1#1) (h4 : ¬k0_cond4 i = 1#1) (h3 : ¬freshCond i)
    (x : Ins F) (X : Vec F S2560x3072 .bf16) :
    Σ' (L9 : List (View.Piece (Elt F) S256x1024 .bf16)), { L12 : List (View.Piece (Elt F) S256x1024 .bf16) //
      ∀ (E : Set ℕ) (K : PUnit → sProp 𝕄),
        iprop(insAt c M x ∗ (∃ d, owns (c : Thread nD τ) M.a10 fullShare d) ∗ (∃ d, owns (c : Thread nD τ) M.a11 fullShare d) ∗ owns (c : Thread nD τ) M.a12 fullShare X ∗ (∃ d, owns (c : Thread nD τ) M.a13 fullShare d)
            ∗ (iprop(insAt c M x ∗ (∃ f, M.a10.view.loc (c : Thread nD τ) ↦[M.a10.view.set]{fullShare} M.a10.view.writes (Elt F) f L9) ∗ (∃ d, owns (c : Thread nD τ) M.a11 fullShare d) ∗ owns (c : Thread nD τ) M.a12 fullShare X ∗ (∃ f, M.a13.view.loc (c : Thread nD τ) ↦[M.a13.view.set]{fullShare} M.a13.view.writes (Elt F) f L12)) -∗ K ⟨⟩))
          ⊢ wp frame (wpE (defs₀ (F := F)) Variants.none c none) E (bodyOn i M) K } := by
  refine ⟨?_, ?_, fun E K => ?run⟩
  case run =>
    unfold bodyOn; simp only [cc0_attention_eq_skeleton]; unfold cc0_attention_skel
    simp only [k0_part17_eq_skeleton, k0_part18_eq_skeleton, k0_part19_eq_skeleton, k0_part20_eq_skeleton, k0_part21_eq_skeleton]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%f11, %hf11, H11⟩, ⟨%d12, %f12, -, H12⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8; obtain rfl := M.h12.eq_unread hf11
    sl_exec (disch := first | sl_exact h1 | sl_exact h2 | sl_exact h3 | sl_exact h4)
    sl_step
    iapply Hk
    isplitl [H0 H1 H2 H3 H4 H5 H6 H7 H8]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      isplitl [H7]
      · iexists _; isplitr; · ipureintro; exact M.h8.read_unread _
        iexact H7
      iexists _; isplitr; · ipureintro; exact M.h9.read_unread _
      iexact H8
    isplitl [H9]
    · iexists _; iexact H9
    isplitl [H10]
    · iexists _, _; isplitr; swap; · iexact H10
      ipureintro; rfl
    isplitl [H11]
    · iexists _; isplitr; · ipureintro; exact M.h12.read_unread _
      iexact H11
    iexists _; iexact H12

end Cert.KernelIdeal.Attn

end
-- ==== Proof.Attn.RunOdd.lean ====
module

public import proofs.«01_k».proof.Proof.Attn.RunKeep

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- An odd point of a latent batch: the held tile `Y` is stored. -/
def oddRun (c : Dev nD) (i : grid0.Coords) (M : Bufs) (h1 : ¬k0_cond1 i = 1#1) (h2 : ¬k0_cond2 i = 1#1) (h4 : k0_cond4 i = 1#1)
    (x : Ins F) (X : Vec F S2560x3072 .bf16) (Y : Vec F S256x1024 .bf16) :
    { L9 : List (View.Piece (Elt F) S256x1024 .bf16) //
      ∀ (E : Set ℕ) (K : PUnit → sProp 𝕄),
        iprop(insAt c M x ∗ (∃ d, owns (c : Thread nD τ) M.a10 fullShare d) ∗ (∃ d, owns (c : Thread nD τ) M.a11 fullShare d) ∗ owns (c : Thread nD τ) M.a12 fullShare X ∗ owns (c : Thread nD τ) M.a13 fullShare Y
            ∗ (iprop(insAt c M x ∗ (∃ f, M.a10.view.loc (c : Thread nD τ) ↦[M.a10.view.set]{fullShare} M.a10.view.writes (Elt F) f L9) ∗ (∃ d, owns (c : Thread nD τ) M.a11 fullShare d) ∗ owns (c : Thread nD τ) M.a12 fullShare X ∗ owns (c : Thread nD τ) M.a13 fullShare Y) -∗ K ⟨⟩))
          ⊢ wp frame (wpE (defs₀ (F := F)) Variants.none c none) E (bodyOn i M) K } := by
  refine ⟨?_, fun E K => ?run⟩
  case run =>
    unfold bodyOn; simp only [cc0_attention_eq_skeleton]; unfold cc0_attention_skel
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%f11, %hf11, H11⟩, ⟨%f12, %hf12, H12⟩, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8; obtain rfl := M.h12.eq_unread hf11; obtain rfl := M.h13.eq_unread hf12
    sl_exec (disch := first | sl_exact h1 | sl_exact h2 | sl_exact h4)
    sl_step
    iapply Hk
    isplitl [H0 H1 H2 H3 H4 H5 H6 H7 H8]
    · isplitl [H0]
      · iexists _; isplitr; · ipureintro; exact M.h1.read_unread _
        iexact H0
      isplitl [H1]
      · iexists _; isplitr; · ipureintro; exact M.h2.read_unread _
        iexact H1
      isplitl [H2]
      · iexists _; isplitr; · ipureintro; exact M.h3.read_unread _
        iexact H2
      isplitl [H3]
      · iexists _; isplitr; · ipureintro; exact M.h4.read_unread _
        iexact H3
      isplitl [H4]
      · iexists _; isplitr; · ipureintro; exact M.h5.read_unread _
        iexact H4
      isplitl [H5]
      · iexists _; isplitr; · ipureintro; exact M.h6.read_unread _
        iexact H5
      isplitl [H6]
      · iexists _; isplitr; · ipureintro; exact M.h7.read_unread _
        iexact H6
      isplitl [H7]
      · iexists _; isplitr; · ipureintro; exact M.h8.read_unread _
        iexact H7
      iexists _; isplitr; · ipureintro; exact M.h9.read_unread _
      iexact H8
    isplitl [H9]
    · iexists _; iexact H9
    isplitl [H10]
    · iexists _, _; isplitr; swap; · iexact H10
      ipureintro; rfl
    isplitl [H11]
    · iexists _; isplitr; · ipureintro; exact M.h12.read_unread _
      iexact H11
    iexists _; isplitr; · ipureintro; exact M.h13.read_unread _
    iexact H12

end Cert.KernelIdeal.Attn

end
-- ==== Proof.Attn.Data.lean ====
module

public import proofs.«01_k».proof.Proof.Attn.RunOdd
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers and blocks of a point -/

/-- Window 0's current staging buffer at point `t`. -/
abbrev stg0 (t : Fin cfg0.N) : Memref sig .tc .vmem S256x2048 .bf16 := win0_0.stage (cfg0.slots t 0)
theorem stg0_whole (t : Fin cfg0.N) : (stg0 t).IsWhole := hstage0_0 ((cfg0.slots t 0).cast nbuf0_0)
/-- Window 1's current staging buffer at point `t`. -/
abbrev stg1 (t : Fin cfg0.N) : Memref sig .tc .vmem S2048x256 .f32 := win0_1.stage (cfg0.slots t 1)
theorem stg1_whole (t : Fin cfg0.N) : (stg1 t).IsWhole := hstage0_1 ((cfg0.slots t 1).cast nbuf0_1)
/-- Window 2's current staging buffer at point `t`. -/
abbrev stg2 (t : Fin cfg0.N) : Memref sig .tc .vmem S2048x128 .f32 := win0_2.stage (cfg0.slots t 2)
theorem stg2_whole (t : Fin cfg0.N) : (stg2 t).IsWhole := hstage0_2 ((cfg0.slots t 2).cast nbuf0_2)
/-- Window 3's current staging buffer at point `t`. -/
abbrev stg3 (t : Fin cfg0.N) : Memref sig .tc .vmem S512x2048 .bf16 := win0_3.stage (cfg0.slots t 3)
theorem stg3_whole (t : Fin cfg0.N) : (stg3 t).IsWhole := hstage0_3 ((cfg0.slots t 3).cast nbuf0_3)
/-- Window 4's current staging buffer at point `t`. -/
abbrev stg4 (t : Fin cfg0.N) : Memref sig .tc .vmem S256x256 .f32 := win0_4.stage (cfg0.slots t 4)
theorem stg4_whole (t : Fin cfg0.N) : (stg4 t).IsWhole := hstage0_4 ((cfg0.slots t 4).cast nbuf0_4)
/-- Window 5's current staging buffer at point `t`. -/
abbrev stg5 (t : Fin cfg0.N) : Memref sig .tc .vmem S256x128 .f32 := win0_5.stage (cfg0.slots t 5)
theorem stg5_whole (t : Fin cfg0.N) : (stg5 t).IsWhole := hstage0_5 ((cfg0.slots t 5).cast nbuf0_5)
/-- Window 6's current staging buffer at point `t`. -/
abbrev stg6 (t : Fin cfg0.N) : Memref sig .tc .vmem S1x512x256 .f32 := win0_6.stage (cfg0.slots t 6)
theorem stg6_whole (t : Fin cfg0.N) : (stg6 t).IsWhole := hstage0_6 ((cfg0.slots t 6).cast nbuf0_6)
/-- Window 7's current staging buffer at point `t`. -/
abbrev stg7 (t : Fin cfg0.N) : Memref sig .tc .vmem S1x512x128 .f32 := win0_7.stage (cfg0.slots t 7)
theorem stg7_whole (t : Fin cfg0.N) : (stg7 t).IsWhole := hstage0_7 ((cfg0.slots t 7).cast nbuf0_7)
/-- Window 8's current staging buffer at point `t`. -/
abbrev stg8 (t : Fin cfg0.N) : Memref sig .tc .vmem S256x2048 .bf16 := win0_8.stage (cfg0.slots t 8)
theorem stg8_whole (t : Fin cfg0.N) : (stg8 t).IsWhole := hstage0_8 ((cfg0.slots t 8).cast nbuf0_8)
/-- Window 9's current staging buffer at point `t`. -/
abbrev stg9 (t : Fin cfg0.N) : Memref sig .tc .vmem S256x1024 .bf16 := win0_9.stage (cfg0.slots t 9)
theorem stg9_whole (t : Fin cfg0.N) : (stg9 t).IsWhole := hstage0_9 ((cfg0.slots t 9).cast nbuf0_9)
/-- The three scratch buffers. -/
abbrev scr0 : Memref sig .tc .vmem S256x3072 .bf16 := Memref.whole cc0_scratch0
abbrev scr1 : Memref sig .tc .vmem S2560x3072 .bf16 := Memref.whole cc0_scratch1
abbrev scr2 : Memref sig .tc .vmem S256x1024 .bf16 := Memref.whole cc0_scratch2

/-- The buffers the body is called with at point `t`. -/
abbrev bufs (t : Fin cfg0.N) : Bufs :=
  ⟨stg0 t, stg0_whole t, stg1 t, stg1_whole t, stg2 t, stg2_whole t, stg3 t, stg3_whole t, stg4 t, stg4_whole t, stg5 t, stg5_whole t, stg6 t, stg6_whole t, stg7 t, stg7_whole t, stg8 t, stg8_whole t, stg9 t, stg9_whole t,
    scr0, Memref.isWhole_whole _, scr1, Memref.isWhole_whole _, scr2, Memref.isWhole_whole _⟩

/-- The nine input blocks of point `t`. -/
abbrev insOf (c : Dev nD) (t : Fin cfg0.N) : Ins F := ⟨iblk m c 0 t, iblk m c 1 t, iblk m c 2 t, iblk m c 3 t, iblk m c 4 t, iblk m c 5 t, iblk m c 6 t, iblk m c 7 t, iblk m c 8 t⟩

/-- What a list of stored pieces leaves in a buffer of the output block's shape, of the latent scratch's shape. -/
abbrev outOf (L : List (View.Piece (Elt F) S256x1024 .bf16)) : Vec F S256x1024 .bf16 :=
  scr2.view.read (Elt F) (scr2.view.writes (Elt F) scr2.view.junk L)
abbrev kvsOf (L : List (View.Piece (Elt F) S2560x3072 .bf16)) : Vec F S2560x3072 .bf16 :=
  scr1.view.read (Elt F) (scr1.view.writes (Elt F) scr1.view.junk L)

/-! ## The three kinds of point, in closed form -/

theorem lt48 (t : Fin cfg0.N) : t.val < 48 := lt_of_lt_of_eq t.isLt N48

/-- A context point. -/
abbrev IsCtx (t : Fin cfg0.N) : Prop := t.val < 32
/-- The first point of a latent batch. -/
abbrev IsFresh (t : Fin cfg0.N) : Prop := 32 ≤ t.val ∧ t.val % 8 = 0
/-- A later even point of a latent batch. -/
abbrev IsKeep (t : Fin cfg0.N) : Prop := 32 ≤ t.val ∧ t.val % 2 = 0 ∧ ¬t.val % 8 = 0
/-- An odd point of a latent batch. -/
abbrev IsOdd (t : Fin cfg0.N) : Prop := 32 ≤ t.val ∧ t.val % 2 = 1

/-- The context point's run at its own buffers and blocks. -/
abbrev ctxAt (c : Dev nD) (t : Fin cfg0.N) (h : IsCtx t) (x : Ins F) :=
  ctxRun c (grid0.coords t) (bufs t) ((ctx_iff t).mpr h)
    (fun e => by have := (pair_iff t).mp e; omega) (fun e => by have := (odd_iff t).mp e; omega) x
/-- The batch's first point's run. -/
abbrev freshAt (c : Dev nD) (t : Fin cfg0.N) (h : IsFresh t) (x : Ins F) :=
  freshRun c (grid0.coords t) (bufs t) (fun e => by have := (ctx_iff t).mp e; omega)
    ((pair_iff t).mpr ⟨h.1, by omega⟩) (fun e => by have := (odd_iff t).mp e; omega) ((fresh_iff t).mpr h.2) x
/-- A later even point's run. -/
abbrev keepAt (c : Dev nD) (t : Fin cfg0.N) (h : IsKeep t) (x : Ins F) (X : Vec F S2560x3072 .bf16) :=
  keepRun c (grid0.coords t) (bufs t) (fun e => by have := (ctx_iff t).mp e; omega)
    ((pair_iff t).mpr ⟨h.1, h.2.1⟩) (fun e => by have := (odd_iff t).mp e; omega)
    (fun e => h.2.2 ((fresh_iff t).mp e)) x X
/-- An odd point's run. -/
abbrev oddAt (c : Dev nD) (t : Fin cfg0.N) (h : IsOdd t) (x : Ins F) (X : Vec F S2560x3072 .bf16)
    (Y : Vec F S256x1024 .bf16) :=
  oddRun c (grid0.coords t) (bufs t) (fun e => by have := (ctx_iff t).mp e; omega)
    (fun e => by have := (pair_iff t).mp e; omega) ((odd_iff t).mpr h) x X Y

/-! ## What is stored covers its buffer -/

theorem ctx_cover (c : Dev nD) (t : Fin cfg0.N) (h : IsCtx t) (x : Ins F) (y : S256x1024.Idx) :
    ∃ pc ∈ (ctxAt c t h x).1, y ∈ pc.1.set :=
  View.cover_of_tiledL (ctxAt c t h x).1 S256x128.size (by sl_kernel_rfl) y
theorem fresh_cover (c : Dev nD) (t : Fin cfg0.N) (h : IsFresh t) (x : Ins F) (y : S256x1024.Idx) :
    ∃ pc ∈ (freshAt c t h x).1, y ∈ pc.1.set :=
  View.cover_of_tiledL (freshAt c t h x).1 S256x128.size (by sl_kernel_rfl) y
theorem fresh_cover_kvs (c : Dev nD) (t : Fin cfg0.N) (h : IsFresh t) (x : Ins F) (y : S2560x3072.Idx) :
    ∃ pc ∈ (freshAt c t h x).2.1, y ∈ pc.1.set :=
  View.cover_of_tiledBy (freshAt c t h x).2.1 ![512, 128] (by sl_kernel_rfl) y
theorem fresh_cover_held (c : Dev nD) (t : Fin cfg0.N) (h : IsFresh t) (x : Ins F) (y : S256x1024.Idx) :
    ∃ pc ∈ (freshAt c t h x).2.2.1, y ∈ pc.1.set :=
  View.cover_of_tiledL (freshAt c t h x).2.2.1 S256x128.size (by sl_kernel_rfl) y
theorem keep_cover (c : Dev nD) (t : Fin cfg0.N) (h : IsKeep t) (x : Ins F) (X) (y : S256x1024.Idx) :
    ∃ pc ∈ (keepAt c t h x X).1, y ∈ pc.1.set :=
  View.cover_of_tiledL (keepAt c t h x X).1 S256x128.size (by sl_kernel_rfl) y
theorem keep_cover_held (c : Dev nD) (t : Fin cfg0.N) (h : IsKeep t) (x : Ins F) (X) (y : S256x1024.Idx) :
    ∃ pc ∈ (keepAt c t h x X).2.1, y ∈ pc.1.set :=
  View.cover_of_tiledL (keepAt c t h x X).2.1 S256x128.size (by sl_kernel_rfl) y
theorem odd_cover (c : Dev nD) (t : Fin cfg0.N) (h : IsOdd t) (x : Ins F) (X Y) (y : S256x1024.Idx) :
    ∃ pc ∈ (oddAt c t h x X Y).1, y ∈ pc.1.set :=
  View.cover_of_tiledL (oddAt c t h x X Y).1 S256x1024.size (by sl_kernel_rfl) y

/-! ## What each point leaves -/

/-- The first point of the batch the point belongs to, and the even point of its pair. -/
def batchPt (t : Fin cfg0.N) : Fin cfg0.N := ⟨32 + (t.val - 32) / 8 * 8, lt_of_lt_of_eq (by have := lt48 t; omega) N48.symm⟩
def pairPt (t : Fin cfg0.N) : Fin cfg0.N := ⟨32 + (t.val - 32) / 2 * 2, lt_of_lt_of_eq (by have := lt48 t; omega) N48.symm⟩
theorem batchPt_fresh (t : Fin cfg0.N) : IsFresh (batchPt t) := by
  have := lt48 t; unfold batchPt; dsimp only [IsFresh]; omega
theorem pairPt_even (t : Fin cfg0.N) : 32 ≤ (pairPt t).val ∧ (pairPt t).val % 2 = 0 := by
  have := lt48 t; unfold pairPt; dsimp only; omega
theorem batchPt_self (t : Fin cfg0.N) (h : IsFresh t) : batchPt t = t := by
  apply Fin.ext; have := lt48 t; unfold batchPt; dsimp only; omega
theorem pairPt_self (t : Fin cfg0.N) (h : 32 ≤ t.val ∧ t.val % 2 = 0) : pairPt t = t := by
  apply Fin.ext; have := lt48 t; unfold pairPt; dsimp only; omega

/-- The batch's keys and values, as its first point leaves them. -/
def kvsAt (c : Dev nD) (t : Fin cfg0.N) : Vec F S2560x3072 .bf16 :=
  kvsOf (freshAt c (batchPt t) (batchPt_fresh t) (insOf m c (batchPt t))).2.1

/-- The two tiles an even point computes: the one stored and the one held back. -/
def pairAt (c : Dev nD) (t : Fin cfg0.N) (h : 32 ≤ t.val ∧ t.val % 2 = 0) :
    Vec F S256x1024 .bf16 × Vec F S256x1024 .bf16 :=
  if h8 : t.val % 8 = 0 then
    (outOf (freshAt c t ⟨h.1, h8⟩ (insOf m c t)).1, outOf (freshAt c t ⟨h.1, h8⟩ (insOf m c t)).2.2.1)
  else
    (outOf (keepAt c t ⟨h.1, h.2, h8⟩ (insOf m c t) (kvsAt m c t)).1,
      outOf (keepAt c t ⟨h.1, h.2, h8⟩ (insOf m c t) (kvsAt m c t)).2.1)

/-- The tile held back after point `t`. -/
def heldAt (c : Dev nD) (t : Fin cfg0.N) : Vec F S256x1024 .bf16 :=
  (pairAt m c (pairPt t) (pairPt_even t)).2

/-- What the output block holds after point `t`. -/
def outAt (c : Dev nD) (t : Fin cfg0.N) : Vec F S256x1024 .bf16 :=
  if h : t.val < 32 then outOf (ctxAt c t h (insOf m c t)).1
  else if h2 : t.val % 2 = 0 then (pairAt m c t ⟨by omega, h2⟩).1
  else heldAt m c t

theorem kvsAt_congr (c : Dev nD) (s t : Fin cfg0.N) (e : batchPt s = batchPt t) : kvsAt m c s = kvsAt m c t := by
  have key : ∀ (a b : Fin cfg0.N) (ha : IsFresh a) (hb : IsFresh b), a = b →
      kvsOf (freshAt c a ha (insOf m c a)).2.1 = kvsOf (freshAt c b hb (insOf m c b)).2.1 := by
    rintro a b ha hb rfl; rfl
  exact key _ _ _ _ e
theorem kvsAt_fresh (c : Dev nD) (t : Fin cfg0.N) (h : IsFresh t) :
    kvsAt m c t = kvsOf (freshAt c t h (insOf m c t)).2.1 := by
  have key : ∀ (a b : Fin cfg0.N) (ha : IsFresh a) (hb : IsFresh b), a = b →
      kvsOf (freshAt c a ha (insOf m c a)).2.1 = kvsOf (freshAt c b hb (insOf m c b)).2.1 := by
    rintro a b ha hb rfl; rfl
  exact key _ _ _ _ (batchPt_self t h)
theorem heldAt_congr (c : Dev nD) (s t : Fin cfg0.N) (e : pairPt s = pairPt t) : heldAt m c s = heldAt m c t := by
  have key : ∀ (a b : Fin cfg0.N) (ha hb), a = b → (pairAt m c a ha).2 = (pairAt m c b hb).2 := by
    rintro a b ha hb rfl; rfl
  exact key _ _ _ _ e
theorem heldAt_even (c : Dev nD) (t : Fin cfg0.N) (h : 32 ≤ t.val ∧ t.val % 2 = 0) :
    heldAt m c t = (pairAt m c t h).2 := by
  have key : ∀ (a b : Fin cfg0.N) (ha hb), a = b → (pairAt m c a ha).2 = (pairAt m c b hb).2 := by
    rintro a b ha hb rfl; rfl
  exact key _ _ _ _ (pairPt_self t h)
theorem heldAt_fresh (c : Dev nD) (t : Fin cfg0.N) (h : IsFresh t) :
    heldAt m c t = outOf (freshAt c t h (insOf m c t)).2.2.1 := by
  rw [heldAt_even m c t ⟨h.1, by omega⟩]; unfold pairAt; rw [dif_pos h.2]
theorem heldAt_keep (c : Dev nD) (t : Fin cfg0.N) (h : IsKeep t) :
    heldAt m c t = outOf (keepAt c t h (insOf m c t) (kvsAt m c t)).2.1 := by
  rw [heldAt_even m c t ⟨h.1, h.2.1⟩]; unfold pairAt; rw [dif_neg h.2.2]
theorem outAt_ctx (c : Dev nD) (t : Fin cfg0.N) (h : IsCtx t) :
    outAt m c t = outOf (ctxAt c t h (insOf m c t)).1 := by
  unfold outAt; rw [dif_pos h]
theorem outAt_fresh (c : Dev nD) (t : Fin cfg0.N) (h : IsFresh t) :
    outAt m c t = outOf (freshAt c t h (insOf m c t)).1 := by
  unfold outAt; rw [dif_neg (by omega), dif_pos (by omega)]; unfold pairAt; rw [dif_pos h.2]
theorem outAt_keep (c : Dev nD) (t : Fin cfg0.N) (h : IsKeep t) :
    outAt m c t = outOf (keepAt c t h (insOf m c t) (kvsAt m c t)).1 := by
  unfold outAt; rw [dif_neg (by omega), dif_pos (by omega)]; unfold pairAt; rw [dif_neg h.2.2]
theorem outAt_odd (c : Dev nD) (t : Fin cfg0.N) (h : IsOdd t) : outAt m c t = heldAt m c t := by
  unfold outAt; rw [dif_neg (by omega), dif_neg (by omega)]

/-! ## The invariant and the proof data -/

/-- The class invariant with the scratch buffers owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- What is known before position `n`: nothing of the scratch through the context points; afterwards the batch's keys
and values and the tile held back, as the point before left them. -/
def PhiS (c : Dev nD) (n : ℕ) (hn : n ≤ cfg0.N) : sProp 𝕄 :=
  if h : n ≤ 32 then Pipeline.ΦA spec0 c
  else iprop(iprop((∃ d, owns (c : Thread nD τ) scr0 fullShare d)
      ∗ owns (c : Thread nD τ) scr1 fullShare (kvsAt m c ⟨n - 1, by omega⟩)
      ∗ owns (c : Thread nD τ) scr2 fullShare (heldAt m c ⟨n - 1, by omega⟩)) ∗ (∃ r, prngReg c r))

theorem PhiS_ctx (c : Dev nD) (n : ℕ) (hn : n ≤ cfg0.N) (h : n ≤ 32) : PhiS m c n hn = Pipeline.ΦA spec0 c := by
  unfold PhiS; rw [dif_pos h]
theorem PhiS_lat (c : Dev nD) (n : ℕ) (hn : n ≤ cfg0.N) (h : ¬n ≤ 32) :
    PhiS m c n hn = iprop(iprop((∃ d, owns (c : Thread nD τ) scr0 fullShare d)
      ∗ owns (c : Thread nD τ) scr1 fullShare (kvsAt m c ⟨n - 1, by omega⟩)
      ∗ owns (c : Thread nD τ) scr2 fullShare (heldAt m c ⟨n - 1, by omega⟩)) ∗ (∃ r, prngReg c r)) := by
  unfold PhiS; rw [dif_neg h]
theorem PhiS_succ (c : Dev nD) (t : Fin cfg0.N) (h : 32 ≤ t.val) :
    PhiS m c (t.val + 1) t.isLt = iprop(iprop((∃ d, owns (c : Thread nD τ) scr0 fullShare d)
      ∗ owns (c : Thread nD τ) scr1 fullShare (kvsAt m c t)
      ∗ owns (c : Thread nD τ) scr2 fullShare (heldAt m c t)) ∗ (∃ r, prngReg c r)) :=
  PhiS_lat m c _ _ (by omega)

/-- What is known at any position gives the class invariant back. -/
theorem PhiS_forget (c : Dev nD) (n : ℕ) (hn : n ≤ cfg0.N) : PhiS m c n hn ⊢ Pipeline.ΦA spec0 c := by
  by_cases h : n ≤ 32
  · rw [PhiS_ctx m c n hn h]
  · rw [PhiS_lat m c n hn h, PhiA_eq]
    iintro ⟨⟨HS0, HS1, HS2⟩, Hg⟩
    isplitl [HS0 HS1 HS2]
    · isplitl [HS0]
      · iexact HS0
      isplitl [HS1]
      · iexists _; iexact HS1
      iexists _; iexact HS2
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- The output window is stored at every point. -/
theorem live9 : ∀ t : Fin cfg0.N, cfg0.idle 9 (grid0.coords t) = false :=
  (by decide +kernel : ∀ t : Fin grid0.N, cfg0.idle 9 (grid0.coords t) = false)
theorem leaves0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (stg8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (stg9 t) fullShare (outAt m c t) := by
  unfold Dat.leavesExact; rw [live9 t, after9]

end Cert.KernelIdeal.Attn

end
-- ==== Proof.Attn.Frame.lean ====
module

public import Idealize.ShloMosaic.Lib.Pipeline.ValueKit
public import proofs.«01_k».proof.Proof.Attn.Data
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))
/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An odd point leaves the held tile in the output block. -/
theorem odd_out (c : Dev nD) (t : Fin cfg0.N) (h : IsOdd t) (x : Ins F) (X Y) :
    outOf (oddAt c t h x X Y).1 = Y := by
  unfold oddAt; frame_out; exact (Memref.isWhole_whole cc0_scratch2).read_unread Y

set_option maxHeartbeats 4000000 in
/-- The body at any point: the closed forms say which kind of point it is; that kind's run applies, on the scratch as the
invariant hands it, and leaves the scratch and the output block as the proof data say. -/
theorem sound_body (c : Dev nD) (t : Fin cfg0.N) :
    bodyPre m c t ⊢ wp frame (wpE (defs₀ (F := F)) Variants.none c none) Set.univ (bodyOn (grid0.coords t) (bufs t)) (fun _ => bodyPost m c t) := by
  unfold bodyPre bodyPost
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl]
  rw [leaves0, leaves1, leaves2, leaves3, leaves4, leaves5, leaves6, leaves7, leaves8, leaves9, Phi_castSucc m c t]
  have hN : t.val < 48 := lt48 t
  by_cases hctx : IsCtx t
  · rw [PhiS_ctx m c _ _ (by omega), PhiS_ctx m c _ _ (by omega), PhiA_eq, outAt_ctx m c t hctx]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((ctxAt c t hctx (insOf m c t)).2.2 Set.univ _)
    isplitl [H0 H1 H2 H3 H4 H5 H6 H7 H8]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [HS0]; · iexact HS0
    isplitl [HS1]; · iexact HS1
    isplitl [HS2]; · iexact HS2
    unfold insAt
    iintro ⟨⟨H0, H1, H2, H3, H4, H5, H6, H7, H8⟩, ⟨%e9, H9⟩, ⟨%e0, HS0⟩, HS1, HS2⟩
    isplitl [HS0 HS1 HS2 Hg]
    · isplitl [HS0 HS1 HS2]
      · isplitl [HS0]
        · iexists _; unfold owns; iexists _; isplitr
          swap; · iexact HS0
          ipureintro; rfl
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (ctx_cover c t hctx _)
  by_cases hodd : t.val % 2 = 1
  · have ho : IsOdd t := ⟨by omega, hodd⟩
    rw [PhiS_lat m c t.val _ (by omega), PhiS_succ m c t (by omega), outAt_odd m c t ho]
    rw [kvsAt_congr m c ⟨t.val - 1, by omega⟩ t (by apply Fin.ext; unfold batchPt; dsimp only; omega)]
    rw [heldAt_congr m c ⟨t.val - 1, by omega⟩ t (by apply Fin.ext; unfold pairPt; dsimp only; omega)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((oddAt c t ho (insOf m c t) (kvsAt m c t) (heldAt m c t)).2 Set.univ _)
    isplitl [H0 H1 H2 H3 H4 H5 H6 H7 H8]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [HS0]; · iexact HS0
    isplitl [HS1]; · iexact HS1
    isplitl [HS2]; · iexact HS2
    unfold insAt
    iintro ⟨⟨H0, H1, H2, H3, H4, H5, H6, H7, H8⟩, ⟨%e9, H9⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact (View.read_writes_of_cover _ _ _ _ _ (odd_cover c t ho _ _ _)).trans (odd_out c t ho _ _ _)
  by_cases h8 : t.val % 8 = 0
  · have hf : IsFresh t := ⟨by omega, h8⟩
    refine (sep_mono (PhiS_forget m c t.val _) .rfl).trans ?_
    rw [PhiA_eq, PhiS_succ m c t (by omega), outAt_fresh m c t hf, heldAt_fresh m c t hf, kvsAt_fresh m c t hf]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((freshAt c t hf (insOf m c t)).2.2.2 Set.univ _)
    isplitl [H0 H1 H2 H3 H4 H5 H6 H7 H8]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [HS0]; · iexact HS0
    isplitl [HS1]; · iexact HS1
    isplitl [HS2]; · iexact HS2
    unfold insAt
    iintro ⟨⟨H0, H1, H2, H3, H4, H5, H6, H7, H8⟩, ⟨%e9, H9⟩, HS0, ⟨%e1, HS1⟩, ⟨%e2, HS2⟩⟩
    isplitl [HS0 HS1 HS2 Hg]
    · isplitl [HS0 HS1 HS2]
      · isplitl [HS0]; · iexact HS0
        isplitl [HS1]
        · unfold owns; iexists _; isplitr
          swap; · iexact HS1
          ipureintro; exact View.read_writes_of_cover _ _ _ _ _ (fresh_cover_kvs c t hf _)
        unfold owns; iexists _; isplitr
        swap; · iexact HS2
        ipureintro; exact View.read_writes_of_cover _ _ _ _ _ (fresh_cover_held c t hf _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (fresh_cover c t hf _)
  have hk : IsKeep t := ⟨by omega, by omega, h8⟩
  rw [PhiS_lat m c t.val _ (by omega), PhiS_succ m c t (by omega), outAt_keep m c t hk, heldAt_keep m c t hk]
  rw [kvsAt_congr m c ⟨t.val - 1, by omega⟩ t (by apply Fin.ext; unfold batchPt; dsimp only; omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((keepAt c t hk (insOf m c t) (kvsAt m c t)).2.2 Set.univ _)
  isplitl [H0 H1 H2 H3 H4 H5 H6 H7 H8]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [HS0]; · iexact HS0
  isplitl [HS1]; · iexact HS1
  isplitl [HS2]; · iexists _; iexact HS2
  unfold insAt
  iintro ⟨⟨H0, H1, H2, H3, H4, H5, H6, H7, H8⟩, ⟨%e9, H9⟩, HS0, HS1, ⟨%e2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact View.read_writes_of_cover _ _ _ _ _ (keep_cover_held c t hk _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (keep_cover c t hk _ _)

theorem defs₀_row (c : Dev nD) (t : Fin cfg0.N) :
    (defs₀ (F := F)) .tc cfg0.body (cfg0.bodyArgs t (cfg0.slots t)) = bodyOn (grid0.coords t) (bufs t) := by
  unfold defs₀; rw [Defs.onTc_tc]; rfl

/-- The pipeline's body obligation, at every point. -/
theorem body_obligation (c : Dev nD) : BodyObligation (dats (F := F) m 0 c) (defs₀ (F := F)) Variants.none () Set.univ := fun t => by
  rw [bigSep_W0, bigSep_W0, defs₀_row c]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_ctx m c 0 _ (by omega)]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

set_option backward.isDefEq.respectTransparency.types false in
/-- Every weakly fair execution of @main terminates, with the pipeline's arrays at what the proof data give, every other
buffer as the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, for any values: the argument arrays end unchanged and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_main_quiescent m ρ))

end Cert.KernelIdeal.Attn

end
-- ==== Proof.Attn.Math.lean ====
module

public import Idealize.ShloMosaic.Lib.Pipeline.ValueKit
public import Idealize.ShloMosaic.Lib.Pointwise

@[expose] public section

set_option maxRecDepth 16384

noncomputable section

namespace Cert.Softmax

open Idealize.ShloMosaic Idealize.ShloMosaic.TcCoe Idealize.SL.Sem
open Idealize.ShloMosaic.Pipeline (Dat)

/-- A sum of reals, over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real that is a real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩
theorem IsR.max {x y : EReal} (hx : IsR x) (hy : IsR y) : IsR (max x y) := by
  rcases le_total x y with h | h
  · rw [max_eq_right h]; exact hy
  · rw [max_eq_left h]; exact hx

/-- The word of minus infinity. -/
theorem ofBits_bot : Ideal.ofBits FTy.f32 4286578688#32 = ⊥ := by
  simp [Ideal.ofBits, Ideal.ieee, -EReal.coe_mul]

/-- The maximum of some reals, folded from minus infinity, is a real, if there is one at all. -/
theorem IsR.fold {ι : Type} (s : Finset ι) (f : ι → EReal) (h : ∀ i, IsR (f i)) (hs : s.Nonempty) :
    IsR (Finset.fold Max.max ⊥ f s) := by
  classical
  induction hs using Finset.Nonempty.cons_induction with
  | singleton a => rw [Finset.fold_singleton, max_bot_right]; exact h a
  | cons a s ha hs ih => rw [Finset.fold_cons]; exact (h a).max ih

/-- A reduction by maxima over one axis of an array of reals gives reals. -/
theorem reduce_real {s t u : Shape} {a : Fin s.rank} (x : FVec Ideal s .f32) (hx : ∀ i, IsR (x i)) (init : FVec Ideal u .f32)
    (h' : s.ReducesTo [a] t) (h : s.Reduces [a] t) (hu : 0 < u.numel) (hi : init (Shape.Idx.first hu) = (⊥ : EReal))
    (ha : 0 < s.size a) (j : t.Idx) : IsR (Host.reduce (FloatOps.maximumf (F := Ideal) (φ := .f32)) x init h' hu j) := by
  rw [Host.reduce_eq_fold_single (FloatOps.maximumf (F := Ideal) (φ := .f32)) x init h' h hu j, hi]
  exact IsR.fold _ _ (fun k => hx _) ⟨⟨0, ha⟩, Finset.mem_univ _⟩

/-- One query's softmax-weighed values, as the reference computes them: relative to some real `M`. -/
def softE {N : ℕ} (s v : Fin N → EReal) (M : EReal) : EReal :=
  ∑ j : Fin N, v j * Ideal.div (Ideal.exp (s j - M)) (∑ k : Fin N, Ideal.exp (s k - M))

/-- One query's attention, as the kernel computes it: the scores' powers of two relative to their maximum weigh the
values, and the weighted sum is divided by the weights' sum. -/
def softF {N : ℕ} (s v : Fin N → EReal) : EReal :=
  Ideal.div
    (∑ j : Fin N, FloatOps.exp2 (F := Ideal) (φ := .f32)
      (s j - Finset.fold max (Ideal.ofBits FTy.f32 4286578688#32) s Finset.univ) * v j)
    (∑ j : Fin N, FloatOps.exp2 (F := Ideal) (φ := .f32)
      (s j - Finset.fold max (Ideal.ofBits FTy.f32 4286578688#32) s Finset.univ))

/-- Equal scores and values give equal attention. -/
theorem softF_congr {N : ℕ} {s s' v v' : Fin N → EReal} (hs : ∀ j, s j = s' j) (hv : ∀ j, v j = v' j) :
    softF s v = softF s' v' := by
  obtain rfl : s = s' := funext hs
  obtain rfl : v = v' := funext hv
  rfl

/-- Powers of two of scores over `log 2`, normalised after the weighing, are exponentials of the scores normalised
before it; what either is taken relative to cancels. -/
theorem soft_eq {N : ℕ} (hN : 0 < N) (s v : Fin N → EReal) (s2 : Fin N → EReal) (M : EReal) (hM : IsR M)
    (hv : ∀ j, IsR (v j)) (a : Fin N → ℝ) (hs : ∀ j, s j = (a j : EReal))
    (h2 : ∀ j, s2 j = ((a j / Real.log 2 : ℝ) : EReal)) : softF s2 v = softE s v M := by
  choose b hb using hv
  obtain rfl : v = fun j => (b j : EReal) := funext hb
  obtain rfl : s = fun j => (a j : EReal) := funext hs
  obtain rfl : s2 = fun j => ((a j / Real.log 2 : ℝ) : EReal) := funext h2
  obtain ⟨M, rfl⟩ := hM
  have hl : Real.log 2 ≠ 0 := (Real.log_pos (by norm_num)).ne'
  obtain ⟨T, hT⟩ := IsR.fold (Finset.univ : Finset (Fin N)) (fun j => ((a j / Real.log 2 : ℝ) : EReal)) (fun j => ⟨_, rfl⟩)
    ⟨⟨0, hN⟩, Finset.mem_univ _⟩
  have key : ∀ j, Real.rpow 2 (a j / Real.log 2 - T) = Real.exp (a j - M) * Real.exp (M - T * Real.log 2) := by
    intro j
    rw [← Real.exp_add]
    show (2 : ℝ) ^ (a j / Real.log 2 - T : ℝ) = _
    rw [Real.rpow_def_of_pos (by norm_num)]
    congr 1
    field_simp
    ring
  have pos : 0 < ∑ j : Fin N, Real.exp (a j - M) :=
    Finset.sum_pos (fun j _ => Real.exp_pos _) ⟨⟨0, hN⟩, Finset.mem_univ _⟩
  have ne1 : (∑ j : Fin N, Real.exp (a j - M)) ≠ 0 := pos.ne'
  have ne2 : (∑ j : Fin N, Real.exp (a j - M)) * Real.exp (M - T * Real.log 2) ≠ 0 := (mul_pos pos (Real.exp_pos _)).ne'
  have e2 : ∀ j, FloatOps.exp2 (F := Ideal) (φ := .f32) (((a j / Real.log 2 : ℝ) : EReal) - (T : EReal))
      = ((Real.exp (a j - M) * Real.exp (M - T * Real.log 2) : ℝ) : EReal) := by
    intro j
    rw [← EReal.coe_sub]
    exact congrArg (fun r : ℝ => (r : EReal)) (key j)
  have e1 : ∀ j, Ideal.exp ((a j : EReal) - (M : EReal)) = ((Real.exp (a j - M) : ℝ) : EReal) := by
    intro j; rw [← EReal.coe_sub]; rfl
  unfold softF softE
  rw [ofBits_bot, hT]
  simp only [e1, e2, ← EReal.coe_mul, coe_sum]
  rw [← Finset.sum_mul, Ideal.div_coe ne2, ← EReal.coe_mul]
  simp only [Ideal.div_coe ne1, ← EReal.coe_mul, coe_sum]
  congr 1
  rw [Finset.sum_mul]
  refine Finset.sum_congr rfl fun j _ => ?_
  have := (Real.exp_pos (M - T * Real.log 2)).ne'
  field_simp

end Cert.Softmax

end
-- ==== Proof.Attn.Finite.lean ====
module

public import proofs.«01_k».proof.Pre_finite_inputs
public import proofs.«01_k».proof.Proof.Attn.Math
public import Idealize.ShloMosaic.Lib.ReduceAll
public import Idealize.ShloMosaic.Lib.Affine

@[expose] public section

set_option maxRecDepth 16384

noncomputable section

namespace Cert.Pre_finite_inputs.Attn

open Cert.Pre_finite_inputs Cert.Softmax
open Idealize.ShloMosaic Idealize.ShloMosaic.TcCoe Idealize.SL.Sem
open Idealize.ShloMosaic.Pipeline (Dat)

theorem top_bits : Ideal.ofBits FTy.f32 2139095040#32 = ⊤ := by
  simp [Ideal.ofBits, Ideal.ieee, -EReal.coe_mul]

instance : Subsingleton S_.Idx := ⟨fun a b => funext fun i => i.elim0⟩

/-- An extended real whose absolute value is below infinity is a real. -/
theorem real_of_abs (x : EReal) (h : Ideal.cmp .olt (max x (-x)) ⊤ = 1#1) : IsR x := by
  have h' : max x (-x) < ⊤ := by
    by_contra hc
    simp [Ideal.cmp, hc] at h
  refine ⟨x.toReal, (EReal.coe_toReal ?_ ?_).symm⟩
  · rintro rfl; simp at h'
  · rintro rfl; simp at h'

/-- Every entry of an array whose absolute values all lie below infinity is a real. -/
theorem all_real {s : Shape} {axes : List (Fin s.rank)} (x : FVec Ideal s .f32) (hb : S_.BroadcastsInDim s (![] : Fin 0 → Fin s.rank))
    (h' : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h' hu j = 1#1) (i : s.Idx) : IsR (x i) := by
  have k := Host.reduce_andi_all _ _ h' hu j e i
  have k' : Ideal.cmp .olt (max (x i) (-(x i))) (Ideal.ofBits FTy.f32 2139095040#32) = 1#1 := k
  rw [top_bits] at k'
  exact real_of_abs _ k'

/-- What the precondition says: every entry of every argument is a real. -/
theorem reals [Facts] (a0 : FVec Ideal S12288x8x192 .f32) (a1 : FVec Ideal S12288x256 .f32) (a2 : FVec Ideal S12288x64 .f32)
    (a3 : FVec Ideal S2x1x512x256 .f32) (a4 : FVec Ideal S2x1x512x64 .f32) (a5 : FVec Ideal S1x256x2048 .f32)
    (h : fn (F := Ideal) a0 a1 a2 a3 a4 a5 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) := by
  have e := congrFun h (fun a => a.elim0)
  unfold fn fn_part1 at e
  dsimp only at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨_, e0⟩ := IntOp.andi_eq_one.mp e
  exact ⟨all_real a0 _ _ _ _ e0, all_real a1 _ _ _ _ e1, all_real a2 _ _ _ _ e2, all_real a3 _ _ _ _ e3,
    all_real a4 _ _ _ _ e4, all_real a5 _ _ _ _ e5⟩

end Cert.Pre_finite_inputs.Attn

end
-- ==== Proof.Attn.Host.lean ====
module

public import proofs.«01_k».proof.Proof.Attn.Data
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the call, at their shapes. -/
abbrev bQ : FVec Ideal S12288x8x192 .f32 := m ((c : Thread nD τ).loc main_arg0)
abbrev bL : FVec Ideal S12288x256 .f32 := m ((c : Thread nD τ).loc main_arg1)
abbrev bP : FVec Ideal S12288x64 .f32 := m ((c : Thread nD τ).loc main_arg2)
abbrev bCL : FVec Ideal S2x1x512x256 .f32 := m ((c : Thread nD τ).loc main_arg3)
abbrev bCP : FVec Ideal S2x1x512x64 .f32 := m ((c : Thread nD τ).loc main_arg4)
abbrev bW : FVec Ideal S1x256x2048 .f32 := m ((c : Thread nD τ).loc main_arg5)

/-- The padding value the host lines convert from an integer is zero. -/
theorem sitofp_zero : FloatOps.sitofp (F := Ideal) .f32 (0#32 : BitVec 32) = (0 : EReal) := by
  change (((0#32 : BitVec 32).toInt : ℝ) : EReal) = 0
  simp

theorem q_pad (r : Fin 12288) (h : Fin 8) (d : Fin 256) :
    pad S12288x8x256 ![0, 0, 0] ![0, 0, 64] ![0, 0, 0] (bQ m c) (sitofp .f32 (constantI S_ 32 0#32) : FVec Ideal S_ .f32)
      pads_S12288x8x192_S12288x8x256_000_000_0640 h_S_ (ix3 r h d)
      = if h' : d.val < 192 then bQ m c (ix3 r h ⟨d.val, h'⟩) else 0 := by
  pointwise
  rw [sitofp_zero]

theorem kpe_pad (r : Fin 12288) (d : Fin 128) :
    (V m c main_v8 : FVec Ideal S12288x128 .f32) (ix2 r d)
      = if h' : d.val < 64 then bP m c (ix2 r ⟨d.val, h'⟩) else 0 := by
  simp only [V, hostOps0, hostOps0_1, hostOps0_2, hostOps0_3, hostOps0_4, hostOps0_5, hostOps0_6, List.flatten_cons,
    List.flatten_nil, List.append_nil, List.cons_append, List.nil_append]
  entry_read
  change pad S12288x128 ![0, 0] ![0, 64] ![0, 0] (bP m c) (sitofp .f32 (constantI S_ 32 0#32) : FVec Ideal S_ .f32)
      pads_S12288x64_S12288x128_000_0640 h_S_ (ix2 r d) = _
  pointwise
  rw [sitofp_zero]

theorem cpe_pad (b : Fin 2) (r : Fin 512) (d : Fin 128) :
    (V m c main_v18 : FVec Ideal S2x512x128 .f32) (ix3 b r d)
      = if h' : d.val < 64 then bCP m c (ix4 b 0 r ⟨d.val, h'⟩) else 0 := by
  simp only [V, hostOps0, hostOps0_1, hostOps0_2, hostOps0_3, hostOps0_4, hostOps0_5, hostOps0_6, List.flatten_cons,
    List.flatten_nil, List.append_nil, List.cons_append, List.nil_append]
  entry_read
  change pad S2x512x128 ![0, 0, 0] ![0, 0, 64] ![0, 0, 0] (shapeCast S2x512x64 (bCP m c) shapeCasts_S2x1x512x64_S2x512x64)
      (sitofp .f32 (constantI S_ 32 0#32) : FVec Ideal S_ .f32)
      pads_S2x512x64_S2x512x128_000_000_0640 h_S_ (ix3 b r d) = _
  pointwise
  rw [sitofp_zero]

theorem query_entry (r : Fin 12288) (o : Fin 2048) :
    (V m c main_v7 : FVec Ideal S12288x2048 .bf16) (ix2 r o)
      = Ideal.div ((if h' : o.val % 256 < 192 then bQ m c (ix3 r ⟨o.val / 256, by omega⟩ ⟨o.val % 256, h'⟩) else 0)
          * Ideal.ofBits .f32 1033096506#32) (Ideal.log (Ideal.ofBits .f32 1073741824#32)) := by
  simp only [V, hostOps0, hostOps0_1, hostOps0_2, hostOps0_3, hostOps0_4, hostOps0_5, hostOps0_6, List.flatten_cons,
    List.flatten_nil, List.append_nil, List.cons_append, List.nil_append]
  entry_read
  pointwise
  refine congrArg (fun z => Ideal.div (z * _) _) ?_
  exact q_pad m c r ⟨o.val / 256, by omega⟩ ⟨o.val % 256, by omega⟩

theorem weight_key (k : Fin 256) (o : Fin 2048) (ho : o.val < 1024) :
    (V m c main_v16 : FVec Ideal S256x2048 .bf16) (ix2 k o)
      = bW m c (ix3 0 k ⟨o.val / 128 * 256 + o.val % 128, by omega⟩) := by
  simp only [V, hostOps0, hostOps0_1, hostOps0_2, hostOps0_3, hostOps0_4, hostOps0_5, hostOps0_6, List.flatten_cons,
    List.flatten_nil, List.append_nil, List.cons_append, List.nil_append]
  entry_read
  pointwise
  rw [dif_pos ho]

theorem weight_val (k : Fin 256) (o : Fin 2048) (ho : ¬ o.val < 1024) :
    (V m c main_v16 : FVec Ideal S256x2048 .bf16) (ix2 k o)
      = bW m c (ix3 0 k ⟨(o.val - 1024) / 128 * 256 + (128 + (o.val - 1024) % 128), by omega⟩) := by
  simp only [V, hostOps0, hostOps0_1, hostOps0_2, hostOps0_3, hostOps0_4, hostOps0_5, hostOps0_6, List.flatten_cons,
    List.flatten_nil, List.append_nil, List.cons_append, List.nil_append]
  entry_read
  pointwise
  rw [dif_neg ho]

theorem cached_entry (b : Fin 2) (r : Fin 512) (o : Fin 256) :
    (V m c main_v19 : FVec Ideal S2x512x256 .f32) (ix3 b r o) = bCL m c (ix4 b 0 r o) := by
  simp only [V, hostOps0, hostOps0_1, hostOps0_2, hostOps0_3, hostOps0_4, hostOps0_5, hostOps0_6, List.flatten_cons,
    List.flatten_nil, List.append_nil, List.cons_append, List.nil_append]
  entry_read
  pointwise

end Cert.KernelIdeal.Attn

end
-- ==== Proof.Attn.Blocks.lean ====
module

public import proofs.«01_k».proof.Proof.Attn.Host
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block of a point lies. -/
theorem idx : ∀ t : Fin cfg0.N, win0_0.index t = ![min t.val 31, 0] ∧ win0_1.index t = ![4 + (t.val - 32) / 8, 0]
    ∧ win0_2.index t = ![4 + (t.val - 32) / 8, 0] ∧ win0_3.index t = ![16 + (t.val - 32) / 2, 0]
    ∧ win0_4.index t = ![min t.val 31, 0] ∧ win0_5.index t = ![min t.val 31, 0]
    ∧ win0_6.index t = ![(t.val - 32) / 8, 0, 0] ∧ win0_7.index t = ![(t.val - 32) / 8, 0, 0]
    ∧ win0_8.index t = ![0, 0] ∧ win0_9.index t = ![t.val, 0] :=
  (by decide +kernel : ∀ t : Fin grid0.N, _)

/-- The scaled, padded query matrix. -/
def qF (r : Fin 12288) (o : Fin 2048) : EReal :=
  Ideal.div ((if h' : o.val % 256 < 192 then bQ m c (ix3 r ⟨o.val / 256, by omega⟩ ⟨o.val % 256, h'⟩) else 0)
    * Ideal.ofBits .f32 1033096506#32) (Ideal.log (Ideal.ofBits .f32 1073741824#32))
/-- The padded positional parts, new and cached. -/
def pF (r : Fin 12288) (d : Fin 128) : EReal := if h' : d.val < 64 then bP m c (ix2 r ⟨d.val, h'⟩) else 0
def pO (b : Fin 2) (r : Fin 512) (d : Fin 128) : EReal := if h' : d.val < 64 then bCP m c (ix4 b 0 r ⟨d.val, h'⟩) else 0

/-- The blocks of a context chunk: queries, latents, positional parts. -/
def qC (p : Fin 32) : FVec Ideal S256x2048 .bf16 := fun i => qF m c ⟨p.val * 256 + (i 0).val, by have := (i 0).isLt; dsimp at this; omega⟩ (i 1)
def lC (p : Fin 32) : FVec Ideal S256x256 .f32 := fun i => bL m c (ix2 ⟨p.val * 256 + (i 0).val, by have := (i 0).isLt; dsimp at this; omega⟩ (i 1))
def pC (p : Fin 32) : FVec Ideal S256x128 .f32 := fun i => pF m c ⟨p.val * 256 + (i 0).val, by have := (i 0).isLt; dsimp at this; omega⟩ (i 1)
/-- The blocks of a latent batch: a pair of query tiles, new latents and positional parts, cached ones. -/
def qS (e : Fin 8) : FVec Ideal S512x2048 .bf16 := fun i => qF m c ⟨8192 + e.val * 512 + (i 0).val, by have := (i 0).isLt; dsimp at this; omega⟩ (i 1)
def lS (b : Fin 2) : FVec Ideal S2048x256 .f32 := fun i => bL m c (ix2 ⟨8192 + b.val * 2048 + (i 0).val, by have := (i 0).isLt; dsimp at this; omega⟩ (i 1))
def pS (b : Fin 2) : FVec Ideal S2048x128 .f32 := fun i => pF m c ⟨8192 + b.val * 2048 + (i 0).val, by have := (i 0).isLt; dsimp at this; omega⟩ (i 1)
def oL (b : Fin 2) : FVec Ideal S1x512x256 .f32 := fun i => bCL m c (ix4 b 0 (i 1) (i 2))
def oP (b : Fin 2) : FVec Ideal S1x512x128 .f32 := fun i => pO m c b (i 1) (i 2)
/-- The up-projection, heads' keys first. -/
def wA : FVec Ideal S256x2048 .bf16 := V m c main_v16

theorem blk0 (t : Fin cfg0.N) (h : t.val < 32) : (iblk m c 0 t : FVec Ideal S256x2048 .bf16) = qC m c ⟨t.val, h⟩ := by
  funext y
  obtain ⟨y0, y1, rfl⟩ : ∃ y0 y1, y = ix2 y0 y1 := ⟨y 0, y 1, by funext a; fin_cases a <;> rfl⟩
  refine Eq.trans ?_ (query_entry m c ⟨t.val * 256 + y0.val, by omega⟩ y1)
  have e : min t.val 31 = t.val := by omega
  blk_ext [iblk, idx t, e]

theorem blk3 (t : Fin cfg0.N) : (iblk m c 3 t : FVec Ideal S512x2048 .bf16) = qS m c ⟨(t.val - 32) / 2, by have := lt48 t; omega⟩ := by
  funext y
  obtain ⟨y0, y1, rfl⟩ : ∃ y0 y1, y = ix2 y0 y1 := ⟨y 0, y 1, by funext a; fin_cases a <;> rfl⟩
  refine Eq.trans ?_ (query_entry m c ⟨8192 + (t.val - 32) / 2 * 512 + y0.val, by have := lt48 t; omega⟩ y1)
  blk_ext [iblk, idx t]

theorem blk4 (t : Fin cfg0.N) (h : t.val < 32) : (iblk m c 4 t : FVec Ideal S256x256 .f32) = lC m c ⟨t.val, h⟩ := by
  funext y
  obtain ⟨y0, y1, rfl⟩ : ∃ y0 y1, y = ix2 y0 y1 := ⟨y 0, y 1, by funext a; fin_cases a <;> rfl⟩
  have e : min t.val 31 = t.val := by omega
  refine Eq.trans ?_ (congrFun (V_main_arg1 m c) (ix2 ⟨t.val * 256 + y0.val, by omega⟩ y1))
  blk_ext [iblk, idx t, e]

theorem blk5 (t : Fin cfg0.N) (h : t.val < 32) : (iblk m c 5 t : FVec Ideal S256x128 .f32) = pC m c ⟨t.val, h⟩ := by
  funext y
  obtain ⟨y0, y1, rfl⟩ : ∃ y0 y1, y = ix2 y0 y1 := ⟨y 0, y 1, by funext a; fin_cases a <;> rfl⟩
  have e : min t.val 31 = t.val := by omega
  refine Eq.trans ?_ (kpe_pad m c ⟨t.val * 256 + y0.val, by omega⟩ y1)
  blk_ext [iblk, idx t, e]

theorem blk1 (t : Fin cfg0.N) : (iblk m c 1 t : FVec Ideal S2048x256 .f32) = lS m c ⟨(t.val - 32) / 8, by have := lt48 t; omega⟩ := by
  funext y
  obtain ⟨y0, y1, rfl⟩ : ∃ y0 y1, y = ix2 y0 y1 := ⟨y 0, y 1, by funext a; fin_cases a <;> rfl⟩
  refine Eq.trans ?_ (congrFun (V_main_arg1 m c) (ix2 ⟨8192 + (t.val - 32) / 8 * 2048 + y0.val, by have := lt48 t; omega⟩ y1))
  blk_ext [iblk, idx t]

theorem blk2 (t : Fin cfg0.N) : (iblk m c 2 t : FVec Ideal S2048x128 .f32) = pS m c ⟨(t.val - 32) / 8, by have := lt48 t; omega⟩ := by
  funext y
  obtain ⟨y0, y1, rfl⟩ : ∃ y0 y1, y = ix2 y0 y1 := ⟨y 0, y 1, by funext a; fin_cases a <;> rfl⟩
  refine Eq.trans ?_ (kpe_pad m c ⟨8192 + (t.val - 32) / 8 * 2048 + y0.val, by have := lt48 t; omega⟩ y1)
  blk_ext [iblk, idx t]

theorem blk6 (t : Fin cfg0.N) : (iblk m c 6 t : FVec Ideal S1x512x256 .f32) = oL m c ⟨(t.val - 32) / 8, by have := lt48 t; omega⟩ := by
  funext y
  obtain ⟨z, y0, y1, rfl⟩ : ∃ z y0 y1, y = ix3 z y0 y1 := ⟨y 0, y 1, y 2, by funext a; fin_cases a <;> rfl⟩
  refine Eq.trans ?_ (cached_entry m c ⟨(t.val - 32) / 8, by have := lt48 t; omega⟩ y0 y1)
  blk_ext [iblk, idx t]

theorem blk7 (t : Fin cfg0.N) : (iblk m c 7 t : FVec Ideal S1x512x128 .f32) = oP m c ⟨(t.val - 32) / 8, by have := lt48 t; omega⟩ := by
  funext y
  obtain ⟨z, y0, y1, rfl⟩ : ∃ z y0 y1, y = ix3 z y0 y1 := ⟨y 0, y 1, y 2, by funext a; fin_cases a <;> rfl⟩
  refine Eq.trans ?_ (cpe_pad m c ⟨(t.val - 32) / 8, by have := lt48 t; omega⟩ y0 y1)
  blk_ext [iblk, idx t]

theorem blk8 (t : Fin cfg0.N) : (iblk m c 8 t : FVec Ideal S256x2048 .bf16) = wA m c := by
  funext y
  obtain ⟨y0, y1, rfl⟩ : ∃ y0 y1, y = ix2 y0 y1 := ⟨y 0, y 1, by funext a; fin_cases a <;> rfl⟩
  unfold wA
  blk_ext [iblk, idx t]

end Cert.KernelIdeal.Attn

end
-- ==== Proof.Attn.Kvs.lean ====
module

public import proofs.«01_k».proof.Proof.Attn.Frame
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

/-- The keys and values of `n` tokens, as the kernel lays them out in a row of 3072 columns: per head 256 columns, the
token's latent projected on the first 128 and its positional part (padded to 128) on the rest; then the 8 heads' values,
128 columns each. -/
def kvF {n : ℕ} (ckv : FVec Ideal ⟨2, ![n, 256]⟩ .f32) (kpe : FVec Ideal ⟨2, ![n, 128]⟩ .f32)
    (w : FVec Ideal S256x2048 .bf16) (r : Fin n) (o : ℕ) : EReal :=
  if o < 2048 then
    if o % 256 < 128 then ∑ k : Fin 256, ckv (ix2 r k) * w (ix2 k ⟨(o / 256 * 128 + o % 256) % 2048, by omega⟩)
    else kpe (ix2 r ⟨(o % 256 - 128) % 128, by omega⟩)
  else ∑ k : Fin 256, ckv (ix2 r k) * w (ix2 k ⟨(o - 1024) % 2048, by omega⟩)

/-- A projected latent of a head's keys is the row's entry there. -/
theorem kvF_key {n : ℕ} (ckv : FVec Ideal ⟨2, ![n, 256]⟩ .f32) (kpe : FVec Ideal ⟨2, ![n, 128]⟩ .f32)
    (w : FVec Ideal S256x2048 .bf16) (r r' : Fin n) (o : ℕ) (i : Fin 2048) (hr : r.val = r'.val) (ho : o < 2048)
    (hm : o % 256 < 128) (hi : i.val = o / 256 * 128 + o % 256) :
    ∑ k : Fin 256, ckv (ix2 r' k) * w (ix2 k i) = kvF ckv kpe w r o := by
  obtain rfl : r = r' := Fin.ext hr
  have e : (⟨(o / 256 * 128 + o % 256) % 2048, by omega⟩ : Fin 2048) = i := Fin.ext (by dsimp only; omega)
  rw [kvF, if_pos ho, if_pos hm, e]

/-- A positional part is the row's entry on the second half of a head's keys. -/
theorem kvF_pos {n : ℕ} (ckv : FVec Ideal ⟨2, ![n, 256]⟩ .f32) (kpe : FVec Ideal ⟨2, ![n, 128]⟩ .f32)
    (w : FVec Ideal S256x2048 .bf16) (r r' : Fin n) (o : ℕ) (i : Fin 128) (hr : r.val = r'.val) (ho : o < 2048)
    (hi : 128 + i.val = o % 256) : kpe (ix2 r' i) = kvF ckv kpe w r o := by
  obtain rfl : r = r' := Fin.ext hr
  have e : (⟨(o % 256 - 128) % 128, by omega⟩ : Fin 128) = i := Fin.ext (by dsimp only; omega)
  rw [kvF, if_pos ho, if_neg (by omega), e]

/-- A projected latent of the values is the row's entry there. -/
theorem kvF_val {n : ℕ} (ckv : FVec Ideal ⟨2, ![n, 256]⟩ .f32) (kpe : FVec Ideal ⟨2, ![n, 128]⟩ .f32)
    (w : FVec Ideal S256x2048 .bf16) (r r' : Fin n) (o : ℕ) (i : Fin 2048) (hr : r.val = r'.val)
    (hi : 1024 + i.val = o) (h1 : 1024 ≤ i.val) :
    ∑ k : Fin 256, ckv (ix2 r' k) * w (ix2 k i) = kvF ckv kpe w r o := by
  obtain rfl : r = r' := Fin.ext hr
  have e : (⟨(o - 1024) % 2048, by omega⟩ : Fin 2048) = i := Fin.ext (by dsimp only; omega)
  rw [kvF, if_neg (by omega), e]

set_option maxHeartbeats 400000 in
/-- The expanded keys and values of a context tile. -/
theorem ctx_kvs (c : Dev nD) (t : Fin cfg0.N) (h : IsCtx t) (x : Ins Ideal) (y0 : Fin 256) (y1 : Fin 3072) :
    View.canon (ctxAt c t h x).2.1 (ix2 y0 y1) = kvF x.x4 x.x5 x.x8 y0 y1.val := by
  unfold ctxAt
  frame_out
  canon_tiles z hz using View.cover_of_tiledBy _ ![256, 128] (by sl_kernel_rfl) _
  all_goals idx_vars z
  all_goals open_payloads
  all_goals pointwise
  all_goals first
    | exact kvF_val _ _ _ _ _ _ _ hz0 (by dsimp only; omega) (by dsimp only; omega)
    | exact kvF_pos _ _ _ _ _ _ _ hz0 (by omega) (by omega)
    | exact kvF_key _ _ _ _ _ _ _ hz0 (by omega) (by omega) (by dsimp only; omega)

end Cert.KernelIdeal.Attn

end
-- ==== Proof.Attn.KvsL.lean ====
module

public import proofs.«01_k».proof.Proof.Attn.Kvs

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

/-- The 2560 latents a latent tile attends to: the batch's 512 cached ones, then its 2048 new ones. -/
def catL (old : FVec Ideal S1x512x256 .f32) (new : FVec Ideal S2048x256 .f32) : FVec Ideal ⟨2, ![2560, 256]⟩ .f32 :=
  fun i => if h : (i 0).val < 512 then old (ix3 0 ⟨(i 0).val, h⟩ (i 1))
    else new (ix2 ⟨(i 0).val - 512, Nat.sub_lt_left_of_lt_add (not_lt.mp h) (i 0).isLt⟩ (i 1))

/-- Their positional parts. -/
def catP (old : FVec Ideal S1x512x128 .f32) (new : FVec Ideal S2048x128 .f32) : FVec Ideal ⟨2, ![2560, 128]⟩ .f32 :=
  fun i => if h : (i 0).val < 512 then old (ix3 0 ⟨(i 0).val, h⟩ (i 1))
    else new (ix2 ⟨(i 0).val - 512, Nat.sub_lt_left_of_lt_add (not_lt.mp h) (i 0).isLt⟩ (i 1))

theorem catL_old (old : FVec Ideal S1x512x256 .f32) (new : FVec Ideal S2048x256 .f32) (r : Fin 2560) (q : Fin 512)
    (h : r.val = q.val) (k : Fin 256) : catL old new (ix2 r k) = old (ix3 0 q k) := by
  have hr : r.val < 512 := h ▸ q.isLt
  have e : (⟨r.val, hr⟩ : Fin 512) = q := Fin.ext h
  rw [← e]; exact dif_pos hr

theorem catL_new (old : FVec Ideal S1x512x256 .f32) (new : FVec Ideal S2048x256 .f32) (r : Fin 2560) (q : Fin 2048)
    (h : r.val = 512 + q.val) (k : Fin 256) : catL old new (ix2 r k) = new (ix2 q k) := by
  have hr : ¬ r.val < 512 := by omega
  have e : (⟨r.val - 512, by omega⟩ : Fin 2048) = q := Fin.ext (by dsimp only; omega)
  rw [← e]; exact dif_neg hr

theorem catP_old (old : FVec Ideal S1x512x128 .f32) (new : FVec Ideal S2048x128 .f32) (r : Fin 2560) (q : Fin 512)
    (h : r.val = q.val) (k : Fin 128) : catP old new (ix2 r k) = old (ix3 0 q k) := by
  have hr : r.val < 512 := h ▸ q.isLt
  have e : (⟨r.val, hr⟩ : Fin 512) = q := Fin.ext h
  rw [← e]; exact dif_pos hr

theorem catP_new (old : FVec Ideal S1x512x128 .f32) (new : FVec Ideal S2048x128 .f32) (r : Fin 2560) (q : Fin 2048)
    (h : r.val = 512 + q.val) (k : Fin 128) : catP old new (ix2 r k) = new (ix2 q k) := by
  have hr : ¬ r.val < 512 := by omega
  have e : (⟨r.val - 512, by omega⟩ : Fin 2048) = q := Fin.ext (by dsimp only; omega)
  rw [← e]; exact dif_neg hr

/-- A projected latent, of a cached or a new token, is the entry of the latent tile's keys or values. -/
theorem latent_entry (x : Ins Ideal) (r : Fin 2560) (o : ℕ) (i : Fin 2048) (f : Fin 256 → EReal)
    (hf : ∀ k, catL x.x6 x.x1 (ix2 r k) = f k)
    (ho : (o < 2048 ∧ o % 256 < 128 ∧ i.val = o / 256 * 128 + o % 256) ∨ (1024 + i.val = o ∧ 1024 ≤ i.val)) :
    ∑ k : Fin 256, f k * x.x8 (ix2 k i) = kvF (catL x.x6 x.x1) (catP x.x7 x.x2) x.x8 r o := by
  have e : ∑ k : Fin 256, catL x.x6 x.x1 (ix2 r k) * x.x8 (ix2 k i) = ∑ k : Fin 256, f k * x.x8 (ix2 k i) :=
    Finset.sum_congr rfl fun k _ => by rw [hf]
  rw [← e]
  rcases ho with ⟨h1, h2, h3⟩ | ⟨h1, h2⟩
  · exact kvF_key _ _ _ _ _ _ _ rfl h1 h2 h3
  · exact kvF_val _ _ _ _ _ _ _ rfl h1 h2

set_option maxHeartbeats 2000000 in
/-- The expanded keys and values a batch's first tile stores: the 512 cached tokens', then the 2048 new ones'. -/
theorem fresh_kvs (c : Dev nD) (t : Fin cfg0.N) (h : IsFresh t) (x : Ins Ideal) (y0 : Fin 2560) (y1 : Fin 3072) :
    View.canon (freshAt c t h x).2.1 (ix2 y0 y1)
      = kvF (catL x.x6 x.x1) (catP x.x7 x.x2) x.x8 y0 y1.val := by
  unfold freshAt
  frame_out
  canon_tiles z hz using View.cover_of_tiledBy _ ![512, 128] (by sl_kernel_rfl) _
  all_goals idx_vars z
  all_goals open_payloads
  all_goals pointwise
  all_goals first
    | exact latent_entry x y0 _ _ _ (fun k => catL_old _ _ _ _ hz0 k) (by dsimp only; omega)
    | exact latent_entry x y0 _ _ _ (fun k => catL_new _ _ _ _ (by dsimp only; omega) k) (by dsimp only; omega)
    | exact (catP_old _ _ _ _ hz0 _).symm.trans (kvF_pos _ _ _ _ _ _ _ rfl (by omega) (by omega))
    | exact (catP_new _ _ _ _ (by dsimp only; omega) _).symm.trans (kvF_pos _ _ _ _ _ _ _ rfl (by omega) (by omega))

end Cert.KernelIdeal.Attn

end
-- ==== Proof.Attn.Att.lean ====
module

public import proofs.«01_k».proof.Proof.Attn.KvsL
public import proofs.«01_k».proof.Proof.Attn.Math

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

open Cert.Softmax

/-- The attention of query row `r` at output column `o` (head `o / 128`): 256 columns of the query against the keys,
128 columns of the values. -/
def attF {n N : ℕ} (q : FVec Ideal ⟨2, ![n, 2048]⟩ .bf16) (X : Fin N → ℕ → EReal) (r : Fin n) (o : ℕ) : EReal :=
  softF (fun j => ∑ k : Fin 256, q (ix2 r ⟨(o / 128 * 256 + k.val) % 2048, Nat.mod_lt _ (by norm_num)⟩)
      * X j (o / 128 * 256 + k.val))
    (fun j => X j (2048 + o))

/-- An entry of a matrix at equal coordinates. -/
theorem at_ix2 {a b : ℕ} {α : Type} (q : (⟨2, ![a, b]⟩ : Shape).Idx → α) {r r' : Fin a} {i i' : Fin b}
    (hr : r.val = r'.val) (hi : i.val = i'.val) : q (ix2 r i) = q (ix2 r' i') := by
  obtain rfl := Fin.ext hr
  obtain rfl := Fin.ext hi
  rfl

/-- What the latent scratch reads as when it holds `X`. -/
theorem scr1_read (X : FVec Ideal S2560x3072 .bf16) (K : Fin 2560 → ℕ → EReal)
    (hX : ∀ j (i : Fin 3072), X (ix2 j i) = K j i.val) (j : Fin 2560) (i : Fin 3072) :
    View.read (Elt Ideal) (View.whole cc0_scratch1) ((Memref.isWhole_whole cc0_scratch1).unread X) (ix2 j i) = K j i.val :=
  (congrFun ((Memref.isWhole_whole cc0_scratch1).read_unread (Val := Elt Ideal) X) (ix2 j i)).trans (hX j i)

set_option maxHeartbeats 2000000 in
/-- The tile a later even point stores: the first half of its pair of query tiles against the batch's keys and values. -/
theorem keep_out (c : Dev nD) (t : Fin cfg0.N) (h : IsKeep t) (x : Ins Ideal) (X : FVec Ideal S2560x3072 .bf16)
    (K : Fin 2560 → ℕ → EReal) (hX : ∀ j (i : Fin 3072), X (ix2 j i) = K j i.val) (y0 : Fin 256) (y1 : Fin 1024) :
    View.canon (keepAt c t h x X).1 (ix2 y0 y1) = attF x.x3 K ⟨y0.val, by omega⟩ y1.val := by
  have hXv := scr1_read X K hX
  unfold keepAt
  frame_out
  generalize View.read (Elt Ideal) (View.whole cc0_scratch1) ((Memref.isWhole_whole cc0_scratch1).unread X) = Xv at hXv ⊢
  canon_tiles z hz using View.cover_of_tiledBy _ ![256, 128] (by sl_kernel_rfl) _
  all_goals
    idx_vars z
    open_payloads
    pointwise
    change softF _ _ = _
    refine softF_congr (fun j => Finset.sum_congr rfl fun k _ => Ideal.mul_congr ?_ ?_) (fun j => ?_)
    · exact at_ix2 x.x3 (by dsimp only; omega) (by dsimp only; omega)
    · exact (hXv _ _).trans (congrArg (K j) (by dsimp only; omega))
    · exact (hXv _ _).trans (congrArg (K j) (by dsimp only; omega))

set_option maxHeartbeats 2000000 in
/-- The tile a later even point holds back: the second half of its pair of query tiles. -/
theorem keep_held (c : Dev nD) (t : Fin cfg0.N) (h : IsKeep t) (x : Ins Ideal) (X : FVec Ideal S2560x3072 .bf16)
    (K : Fin 2560 → ℕ → EReal) (hX : ∀ j (i : Fin 3072), X (ix2 j i) = K j i.val) (y0 : Fin 256) (y1 : Fin 1024) :
    View.canon (keepAt c t h x X).2.1 (ix2 y0 y1) = attF x.x3 K ⟨256 + y0.val, by omega⟩ y1.val := by
  have hXv := scr1_read X K hX
  unfold keepAt
  frame_out
  generalize View.read (Elt Ideal) (View.whole cc0_scratch1) ((Memref.isWhole_whole cc0_scratch1).unread X) = Xv at hXv ⊢
  canon_tiles z hz using View.cover_of_tiledBy _ ![256, 128] (by sl_kernel_rfl) _
  all_goals
    idx_vars z
    open_payloads
    pointwise
    change softF _ _ = _
    refine softF_congr (fun j => Finset.sum_congr rfl fun k _ => Ideal.mul_congr ?_ ?_) (fun j => ?_)
    · exact at_ix2 x.x3 (by dsimp only; omega) (by dsimp only; omega)
    · exact (hXv _ _).trans (congrArg (K j) (by dsimp only; omega))
    · exact (hXv _ _).trans (congrArg (K j) (by dsimp only; omega))

end Cert.KernelIdeal.Attn

end
-- ==== Proof.Attn.AttC.lean ====
module

public import proofs.«01_k».proof.Proof.Attn.Att

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

open Cert.Softmax

/-- The context scratch is stored whole. -/
theorem ctx_kvs_cover (c : Dev nD) (t : Fin cfg0.N) (h : IsCtx t) (x : Ins Ideal) (y : S256x3072.Idx) :
    ∃ pc ∈ (ctxAt c t h x).2.1, y ∈ pc.1.set :=
  View.cover_of_tiledBy (ctxAt c t h x).2.1 ![256, 128] (by sl_kernel_rfl) y

/-- What a context point reads back from its scratch: the expanded keys and values it stored there. -/
theorem ctx_scratch (c : Dev nD) (t : Fin cfg0.N) (h : IsCtx t) (x : Ins Ideal) :
    ∃ Xv : FVec Ideal S256x3072 .bf16, (∀ (j : Fin 256) (i : Fin 3072), Xv (ix2 j i) = kvF x.x4 x.x5 x.x8 j i.val)
      ∧ ∀ r : Rect S256x3072, scr0.view.readCov (ctxAt c t h x).2.1 r.toLoadRect = View.ld Xv r :=
  ⟨View.canon (ctxAt c t h x).2.1, fun j i => ctx_kvs c t h x j i,
    fun r => View.readCov_eq_canon_ld _ _ _ (ctx_kvs_cover c t h x)⟩

set_option maxHeartbeats 2000000 in
/-- The tile a context point stores: its 256 queries against its 256 tokens. -/
theorem ctx_out (c : Dev nD) (t : Fin cfg0.N) (h : IsCtx t) (x : Ins Ideal) (y0 : Fin 256) (y1 : Fin 1024) :
    View.canon (ctxAt c t h x).1 (ix2 y0 y1) = attF x.x0 (kvF x.x4 x.x5 x.x8) y0 y1.val := by
  obtain ⟨Xv, hXv, key⟩ := ctx_scratch c t h x
  unfold ctxAt at key ⊢
  frame_open at key
  frame_open
  simp only [key]
  clear key
  frame_out
  canon_tiles z hz using View.cover_of_tiledBy _ ![256, 128] (by sl_kernel_rfl) _
  all_goals
    idx_vars z
    open_payloads
    pointwise
    change softF _ _ = _
    refine softF_congr (fun j => Finset.sum_congr rfl fun k _ => Ideal.mul_congr ?_ ?_) (fun j => ?_)
    · exact at_ix2 x.x0 (by first | omega | (dsimp only; omega)) (by dsimp only; omega)
    · exact (hXv _ _).trans (congrArg (kvF x.x4 x.x5 x.x8 j) (by dsimp only; omega))
    · exact (hXv _ _).trans (congrArg (kvF x.x4 x.x5 x.x8 j) (by dsimp only; omega))

/-- What a batch's first point reads back from its scratch: the expanded keys and values it stored there. -/
theorem fresh_scratch (c : Dev nD) (t : Fin cfg0.N) (h : IsFresh t) (x : Ins Ideal) :
    ∃ Xv : FVec Ideal S2560x3072 .bf16,
      (∀ (j : Fin 2560) (i : Fin 3072), Xv (ix2 j i) = kvF (catL x.x6 x.x1) (catP x.x7 x.x2) x.x8 j i.val)
      ∧ ∀ r : Rect S2560x3072, scr1.view.readCov (freshAt c t h x).2.1 r.toLoadRect = View.ld Xv r :=
  ⟨View.canon (freshAt c t h x).2.1, fun j i => fresh_kvs c t h x j i,
    fun r => View.readCov_eq_canon_ld _ _ _ (fresh_cover_kvs c t h x)⟩

set_option maxHeartbeats 2000000 in
/-- The tile a batch's first point stores: the first half of its pair of query tiles. -/
theorem fresh_out (c : Dev nD) (t : Fin cfg0.N) (h : IsFresh t) (x : Ins Ideal) (y0 : Fin 256) (y1 : Fin 1024) :
    View.canon (freshAt c t h x).1 (ix2 y0 y1) = attF x.x3 (kvF (catL x.x6 x.x1) (catP x.x7 x.x2) x.x8) ⟨y0.val, by omega⟩ y1.val := by
  obtain ⟨Xv, hXv, key⟩ := fresh_scratch c t h x
  unfold freshAt at key ⊢
  frame_open at key
  frame_open
  simp only [key]
  clear key
  frame_out
  canon_tiles z hz using View.cover_of_tiledBy _ ![256, 128] (by sl_kernel_rfl) _
  all_goals
    idx_vars z
    open_payloads
    pointwise
    change softF _ _ = _
    refine softF_congr (fun j => Finset.sum_congr rfl fun k _ => Ideal.mul_congr ?_ ?_) (fun j => ?_)
    · exact at_ix2 x.x3 (by first | omega | (dsimp only; omega)) (by dsimp only; omega)
    · exact (hXv _ _).trans (congrArg (kvF (catL x.x6 x.x1) (catP x.x7 x.x2) x.x8 j) (by dsimp only; omega))
    · exact (hXv _ _).trans (congrArg (kvF (catL x.x6 x.x1) (catP x.x7 x.x2) x.x8 j) (by dsimp only; omega))

set_option maxHeartbeats 2000000 in
/-- The tile a batch's first point holds back: the second half of its pair of query tiles. -/
theorem fresh_held (c : Dev nD) (t : Fin cfg0.N) (h : IsFresh t) (x : Ins Ideal) (y0 : Fin 256) (y1 : Fin 1024) :
    View.canon (freshAt c t h x).2.2.1 (ix2 y0 y1) = attF x.x3 (kvF (catL x.x6 x.x1) (catP x.x7 x.x2) x.x8) ⟨256 + y0.val, by omega⟩ y1.val := by
  obtain ⟨Xv, hXv, key⟩ := fresh_scratch c t h x
  unfold freshAt at key ⊢
  frame_open at key
  frame_open
  simp only [key]
  clear key
  frame_out
  canon_tiles z hz using View.cover_of_tiledBy _ ![256, 128] (by sl_kernel_rfl) _
  all_goals
    idx_vars z
    open_payloads
    pointwise
    change softF _ _ = _
    refine softF_congr (fun j => Finset.sum_congr rfl fun k _ => Ideal.mul_congr ?_ ?_) (fun j => ?_)
    · exact at_ix2 x.x3 (by first | omega | (dsimp only; omega)) (by dsimp only; omega)
    · exact (hXv _ _).trans (congrArg (kvF (catL x.x6 x.x1) (catP x.x7 x.x2) x.x8 j) (by dsimp only; omega))
    · exact (hXv _ _).trans (congrArg (kvF (catL x.x6 x.x1) (catP x.x7 x.x2) x.x8 j) (by dsimp only; omega))

end Cert.KernelIdeal.Attn

end
-- ==== Proof.Attn.Final.lean ====
module

public import proofs.«01_k».proof.Proof.Attn.Blocks
public import proofs.«01_k».proof.Proof.Attn.AttC
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The keys and values of a context chunk, and of a latent batch. -/
def kvC (p : Fin 32) : Fin 256 → ℕ → EReal := kvF (lC m c p) (pC m c p) (wA m c)
def kvS (b : Fin 2) : Fin 2560 → ℕ → EReal := kvF (catL (oL m c b) (lS m c b)) (catP (oP m c b) (pS m c b)) (wA m c)

/-- What the call computes, at a row and a column. -/
def outF (r o : ℕ) : EReal :=
  if r < 8192 then attF (qC m c ⟨r / 256 % 32, by omega⟩) (kvC m c ⟨r / 256 % 32, by omega⟩) ⟨r % 256, by omega⟩ o
  else attF (qS m c ⟨(r - 8192) / 512 % 8, by omega⟩) (kvS m c ⟨(r - 8192) / 2048 % 2, by omega⟩) ⟨(r - 8192) % 512, by omega⟩ o

theorem insOf_ctx (t : Fin cfg0.N) (h : t.val < 32) : (insOf m c t).x0 = qC m c ⟨t.val, h⟩
    ∧ kvF (insOf m c t).x4 (insOf m c t).x5 (insOf m c t).x8 = kvC m c ⟨t.val, h⟩ := by
  refine ⟨blk0 m c t h, ?_⟩
  change kvF (iblk m c 4 t) (iblk m c 5 t) (iblk m c 8 t) = _
  rw [blk4 m c t h, blk5 m c t h, blk8]; rfl

theorem insOf_lat (t : Fin cfg0.N) :
    kvF (catL (insOf m c t).x6 (insOf m c t).x1) (catP (insOf m c t).x7 (insOf m c t).x2) (insOf m c t).x8
      = kvS m c ⟨(t.val - 32) / 8, by have := lt48 t; omega⟩ := by
  change kvF (catL (iblk m c 6 t) (iblk m c 1 t)) (catP (iblk m c 7 t) (iblk m c 2 t)) (iblk m c 8 t) = _
  rw [blk6, blk1, blk7, blk2, blk8]; rfl

theorem insOf_q (t : Fin cfg0.N) : (insOf m c t).x3 = qS m c ⟨(t.val - 32) / 2, by have := lt48 t; omega⟩ := blk3 m c t

/-- The batch's keys and values, as its first point leaves them. -/
theorem kvsAt_entry (t : Fin cfg0.N) (j : Fin 2560) (i : Fin 3072) :
    (kvsAt m c t : FVec Ideal S2560x3072 .bf16) (ix2 j i) = kvS m c ⟨(t.val - 32) / 8, by have := lt48 t; omega⟩ j i.val := by
  unfold kvsAt kvsOf
  rw [View.read_writes_junk_eq_canon, fresh_kvs, insOf_lat]
  refine congrArg (fun b => kvS m c b j i.val) (Fin.ext ?_)
  have := lt48 t; unfold batchPt; dsimp only; omega

/-- A context point's tile. -/
theorem out_ctx (t : Fin cfg0.N) (h : IsCtx t) (y0 : Fin 256) (y1 : Fin 1024) :
    (outAt m c t : FVec Ideal S256x1024 .bf16) (ix2 y0 y1) = outF m c (t.val * 256 + y0.val) y1.val := by
  rw [outAt_ctx m c t h]; unfold outOf
  rw [View.read_writes_junk_eq_canon, ctx_out, (insOf_ctx m c t h).1, (insOf_ctx m c t h).2, outF, if_pos (by omega)]
  have e : (⟨(t.val * 256 + y0.val) / 256 % 32, by omega⟩ : Fin 32) = ⟨t.val, h⟩ := Fin.ext (by dsimp only; omega)
  have e2 : (⟨(t.val * 256 + y0.val) % 256, by omega⟩ : Fin 256) = y0 := Fin.ext (by dsimp only; omega)
  rw [e, e2]

/-- The tile of a pair at a row of the pair is the output there. -/
theorem pair_at (t : Fin cfg0.N) (h : 32 ≤ t.val) (k : Fin 512) (r : ℕ) (o : ℕ) (hr : r = 8192 + (t.val - 32) / 2 * 512 + k.val) :
    attF (qS m c ⟨(t.val - 32) / 2, by have := lt48 t; omega⟩) (kvS m c ⟨(t.val - 32) / 8, by have := lt48 t; omega⟩) k o
      = outF m c r o := by
  have h48 := lt48 t
  have e1 : (⟨(r - 8192) / 512 % 8, by omega⟩ : Fin 8) = ⟨(t.val - 32) / 2, by omega⟩ := Fin.ext (by dsimp only; omega)
  have e2 : (⟨(r - 8192) / 2048 % 2, by omega⟩ : Fin 2) = ⟨(t.val - 32) / 8, by omega⟩ := Fin.ext (by dsimp only; omega)
  have e3 : (⟨(r - 8192) % 512, by omega⟩ : Fin 512) = k := Fin.ext (by dsimp only; omega)
  rw [outF, if_neg (by omega), e1, e2, e3]

/-- An even point's tile, and the tile it holds back. -/
theorem out_even (t : Fin cfg0.N) (h : 32 ≤ t.val) (h2 : t.val % 2 = 0) (y0 : Fin 256) (y1 : Fin 1024) :
    (outAt m c t : FVec Ideal S256x1024 .bf16) (ix2 y0 y1) = outF m c (t.val * 256 + y0.val) y1.val
    ∧ (heldAt m c t : FVec Ideal S256x1024 .bf16) (ix2 y0 y1) = outF m c (t.val * 256 + 256 + y0.val) y1.val := by
  by_cases h8 : t.val % 8 = 0
  · rw [outAt_fresh m c t ⟨h, h8⟩, heldAt_fresh m c t ⟨h, h8⟩]; unfold outOf
    rw [View.read_writes_junk_eq_canon, View.read_writes_junk_eq_canon, fresh_out, fresh_held, insOf_lat, insOf_q]
    exact ⟨pair_at m c t h _ _ _ (by dsimp only; omega), pair_at m c t h _ _ _ (by dsimp only; omega)⟩
  · rw [outAt_keep m c t ⟨h, h2, h8⟩, heldAt_keep m c t ⟨h, h2, h8⟩]; unfold outOf
    rw [View.read_writes_junk_eq_canon, View.read_writes_junk_eq_canon,
      keep_out c t _ _ _ _ (fun j i => kvsAt_entry m c t j i), keep_held c t _ _ _ _ (fun j i => kvsAt_entry m c t j i), insOf_q]
    exact ⟨pair_at m c t h _ _ _ (by dsimp only; omega), pair_at m c t h _ _ _ (by dsimp only; omega)⟩

/-- Every point's tile is the output at its rows. -/
theorem out_at (t : Fin cfg0.N) (y0 : Fin 256) (y1 : Fin 1024) :
    (outAt m c t : FVec Ideal S256x1024 .bf16) (ix2 y0 y1) = outF m c (t.val * 256 + y0.val) y1.val := by
  by_cases h : t.val < 32
  · exact out_ctx m c t h y0 y1
  by_cases h2 : t.val % 2 = 0
  · exact (out_even m c t (by omega) h2 y0 y1).1
  have hp : (pairPt t).val = t.val - 1 := by unfold pairPt; dsimp only; omega
  rw [outAt_odd m c t ⟨by omega, by omega⟩, heldAt_congr m c t (pairPt t) (by
    apply Fin.ext; have := lt48 t; unfold pairPt; dsimp only; omega)]
  refine (out_even m c (pairPt t) (pairPt_even t).1 (pairPt_even t).2 y0 y1).2.trans ?_
  refine congrArg (fun r => outF m c r y1.val) ?_
  omega

/-- The result after the run. -/
theorem final : (dats m 0 c).arrAt 9 (cfgs 0).N = fun i : S12288x1024.Idx => outF m c (i 0).val (i 1).val := by
  refine (dats m 0 c).arrAt_eq_of_covers 9 _ (by decide +kernel) fun t _ y => ?_
  blk_simp [idx t]
  rw [after9]
  obtain ⟨y0, y1, rfl⟩ : ∃ (y0 : Fin 256) (y1 : Fin 1024), y = ix2 y0 y1 := ⟨y 0, y 1, by funext a; fin_cases a <;> rfl⟩
  refine (out_at m c t y0 y1).trans ?_
  rfl

end Cert.KernelIdeal.Attn

end
-- ==== Proof.Attn.Rows.lean ====
module

public import proofs.«01_k».proof.Proof.Attn.Math

@[expose] public section

set_option maxRecDepth 16384

noncomputable section

namespace Cert.Softmax

open Idealize.ShloMosaic Idealize.ShloMosaic.TcCoe Idealize.SL.Sem
open Idealize.ShloMosaic.Pipeline (Dat)

/-- One row of a head's keys, from a token's latents and positional part. -/
def keyR (L : Fin 256 → EReal) (P : Fin 64 → EReal) (w : (⟨3, ![1, 256, 2048]⟩ : Shape).Idx → EReal) (h : ℕ) (d : Fin 192) : EReal :=
  if h' : d.val < 128 then ∑ x : Fin 256, L x * w (ix3 0 x ⟨(h * 256 + d.val) % 2048, Nat.mod_lt _ (by norm_num)⟩)
  else P ⟨d.val - 128, by omega⟩
/-- One entry of a token's values, at an output column. -/
def valR (L : Fin 256 → EReal) (w : (⟨3, ![1, 256, 2048]⟩ : Shape).Idx → EReal) (o : ℕ) : EReal :=
  ∑ x : Fin 256, L x * w (ix3 0 x ⟨(o / 128 * 256 + (128 + o % 128)) % 2048, Nat.mod_lt _ (by norm_num)⟩)
/-- A scaled score. -/
def scoreR (q K : Fin 192 → EReal) : EReal := (∑ d : Fin 192, q d * K d) * Ideal.ofBits .f32 1033096506#32

/-- The scale is a real, and the logarithm of two is what the host line takes. -/
theorem scale_real : IsR (Ideal.ofBits .f32 1033096506#32) := by
  simp only [Ideal.ofBits, Ideal.ieee]
  rw [if_neg (by decide), if_neg (by decide)]
  exact ⟨_, rfl⟩
theorem two_bits : Ideal.ofBits .f32 1073741824#32 = ((2 : ℝ) : EReal) := by
  simp [Ideal.ofBits, Ideal.ieee, -EReal.coe_mul]; norm_num
theorem log_two : Ideal.log (Ideal.ofBits .f32 1073741824#32) = ((Real.log 2 : ℝ) : EReal) := by
  rw [two_bits, Ideal.log_coe, if_neg (by norm_num)]

theorem keyR_real (L P w) (hL : ∀ x, IsR (L x)) (hP : ∀ d, IsR (P d)) (hw : ∀ i, IsR (w i)) (h d) : IsR (keyR L P w h d) := by
  unfold keyR; split
  · exact IsR.sum _ _ fun x => (hL x).mul (hw _)
  · exact hP _
theorem valR_real (L w) (hL : ∀ x, IsR (L x)) (hw : ∀ i, IsR (w i)) (o) : IsR (valR L w o) :=
  IsR.sum _ _ fun x => (hL x).mul (hw _)
theorem scoreR_real (q K) (hq : ∀ x, IsR (q x)) (hK : ∀ d, IsR (K d)) : IsR (scoreR q K) :=
  (IsR.sum _ _ fun x => (hq x).mul (hK _)).mul scale_real

/-- The padded, prescaled query against a padded key is the score over `log 2`: the padding adds nothing. -/
theorem padded (q K : Fin 192 → ℝ) (s : ℝ) (qp Kp : Fin 256 → EReal)
    (hq : ∀ k, qp k = Ideal.div ((if h : k.val < 192 then (q ⟨k.val, h⟩ : EReal) else 0) * (s : EReal)) ((Real.log 2 : ℝ) : EReal))
    (hK : ∀ k (h : k.val < 192), Kp k = (K ⟨k.val, h⟩ : EReal)) :
    ∑ k : Fin 256, qp k * Kp k = (((∑ d : Fin 192, q d * K d) * s / Real.log 2 : ℝ) : EReal) := by
  have hl : Real.log 2 ≠ 0 := (Real.log_pos (by norm_num)).ne'
  refine (Fin.sum_univ_add (a := 192) (b := 64) (fun k => qp k * Kp k)).trans ?_
  have h0 : ∀ j : Fin 64, qp (Fin.natAdd 192 j) * Kp (Fin.natAdd 192 j) = 0 := fun j => by
    have e : ¬ (Fin.natAdd 192 j : Fin 256).val < 192 := by simp
    rw [hq, dif_neg e, zero_mul, Ideal.div_coe hl, zero_mul, zero_mul]
  have h1 : ∀ j : Fin 192, qp (Fin.castAdd 64 j) * Kp (Fin.castAdd 64 j)
      = ((q j * K j * (s * (1 / Real.log 2)) : ℝ) : EReal) := fun j => by
    have e : (Fin.castAdd 64 j : Fin 256).val < 192 := j.isLt
    rw [hq, dif_pos e, hK _ e, Ideal.div_coe hl, ← EReal.coe_mul, ← EReal.coe_mul, ← EReal.coe_mul]
    refine congrArg _ ?_
    change q j * s * (1 / Real.log 2) * K j = _
    ring
  rw [Finset.sum_congr rfl (fun j _ => h1 j), Finset.sum_congr rfl (fun j _ => h0 j), coe_sum, Finset.sum_const_zero, add_zero,
    ← Finset.sum_mul]
  refine congrArg _ ?_
  ring

/-- The kernel's attention of a padded, prescaled query is the reference's of the query itself. -/
theorem attend {N : ℕ} (hN : 0 < N) (q : Fin 192 → EReal) (K : Fin N → Fin 192 → EReal) (v : Fin N → EReal) (M : EReal)
    (hq' : ∀ d, IsR (q d)) (hK' : ∀ j d, IsR (K j d)) (hv : ∀ j, IsR (v j)) (hM : IsR M)
    (qp : Fin 256 → EReal) (Kp : Fin N → Fin 256 → EReal)
    (hq : ∀ k, qp k = Ideal.div ((if h : k.val < 192 then q ⟨k.val, h⟩ else 0) * Ideal.ofBits .f32 1033096506#32)
      (Ideal.log (Ideal.ofBits .f32 1073741824#32)))
    (hK : ∀ j k (h : k.val < 192), Kp j k = K j ⟨k.val, h⟩) :
    softF (fun j => ∑ k : Fin 256, qp k * Kp j k) v = softE (fun j => scoreR q (K j)) v M := by
  choose a ha using hq'
  choose b hb using hK'
  obtain ⟨s, hs⟩ := scale_real
  obtain rfl : q = fun d => (a d : EReal) := funext ha
  obtain rfl : K = fun j d => (b j d : EReal) := funext fun j => funext fun d => hb j d
  refine soft_eq hN _ v _ M hM hv (fun j => (∑ d : Fin 192, a d * b j d) * s) (fun j => ?_) (fun j => ?_)
  · simp only [scoreR, hs, ← EReal.coe_mul, coe_sum]
  · refine padded a (b j) s qp (Kp j) (fun k => ?_) (fun k h => hK j k h)
    rw [hq, log_two, hs]

end Cert.Softmax

end
-- ==== Proof.Attn.Core.lean ====
module

public import proofs.«01_k».proof.Proof.Attn.Att
public import proofs.«01_k».proof.Proof.Attn.Rows

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

open Cert.Softmax

/-- The kernel's attention at a row and a column, over tokens whose latents and positional parts are reals, is the
reference's there. -/
theorem attF_eq {n N : ℕ} (hN : 0 < N) (qm : FVec Ideal ⟨2, ![n, 2048]⟩ .bf16) (ckv : FVec Ideal ⟨2, ![N, 256]⟩ .f32)
    (kpe : FVec Ideal ⟨2, ![N, 128]⟩ .f32) (wk : FVec Ideal S256x2048 .bf16) (r : Fin n) (o : ℕ) (ho : o < 1024)
    (q : Fin 192 → EReal) (L : Fin N → Fin 256 → EReal) (P : Fin N → Fin 64 → EReal)
    (w : (⟨3, ![1, 256, 2048]⟩ : Shape).Idx → EReal) (M : EReal)
    (hq : ∀ (k : Fin 256) (i : Fin 2048), i.val = o / 128 * 256 + k.val → qm (ix2 r i)
      = Ideal.div ((if h : k.val < 192 then q ⟨k.val, h⟩ else 0) * Ideal.ofBits .f32 1033096506#32)
        (Ideal.log (Ideal.ofBits .f32 1073741824#32)))
    (hL : ∀ j x, ckv (ix2 j x) = L j x) (hP : ∀ j (d : Fin 128) (h : d.val < 64), kpe (ix2 j d) = P j ⟨d.val, h⟩)
    (hwk : ∀ (k : Fin 256) (o : Fin 2048) (i : Fin 2048), o.val < 1024 → i.val = o.val / 128 * 256 + o.val % 128 →
      wk (ix2 k o) = w (ix3 0 k i))
    (hwv : ∀ (k : Fin 256) (o : Fin 2048) (i : Fin 2048), ¬ o.val < 1024 →
      i.val = (o.val - 1024) / 128 * 256 + (128 + (o.val - 1024) % 128) → wk (ix2 k o) = w (ix3 0 k i))
    (rq : ∀ d, IsR (q d)) (rL : ∀ j x, IsR (L j x)) (rP : ∀ j d, IsR (P j d)) (rw' : ∀ i, IsR (w i)) (rM : IsR M) :
    attF qm (kvF ckv kpe wk) r o
      = softE (fun j => scoreR q (keyR (L j) (P j) w (o / 128))) (fun j => valR (L j) w o) M := by
  have hv : ∀ j, kvF ckv kpe wk j (2048 + o) = valR (L j) w o := fun j => by
    unfold kvF valR
    rw [if_neg (by omega)]
    refine Finset.sum_congr rfl fun x _ => Ideal.mul_congr (hL j x) ?_
    exact hwv _ _ _ (by dsimp only; omega) (by dsimp only; omega)
  unfold attF
  rw [softF_congr (fun j => rfl) hv]
  refine attend hN q (fun j => keyR (L j) (P j) w (o / 128)) (fun j => valR (L j) w o) M rq
    (fun j d => keyR_real _ _ _ (rL j) (rP j) rw' _ _) (fun j => valR_real _ _ (rL j) rw' _) rM _ _ (fun k => ?_) (fun j k h => ?_)
  · exact hq k _ (by dsimp only; omega)
  · unfold kvF keyR
    rw [if_pos (by omega)]
    by_cases hk : k.val < 128
    · rw [if_pos (by omega), dif_pos hk]
      refine Finset.sum_congr rfl fun x _ => Ideal.mul_congr (hL j x) ?_
      exact hwk _ _ _ (by dsimp only; omega) (by dsimp only; omega)
    · rw [if_neg (by omega), dif_neg hk, hP j _ (by dsimp only; omega)]
      refine congrArg (P j) (Fin.ext ?_)
      dsimp only; omega

end Cert.KernelIdeal.Attn

end
-- ==== Proof.Attn.RefDef.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem
open Idealize.ShloMosaic.Pipeline (Dat)

/-- A context batch: the projected latents, per head 128 columns of keys and 128 of values. -/
def projC (l : FVec Ideal S32x256x256 .f32) (w : FVec Ideal S256x2048 .f32) : FVec Ideal S32x256x8x256 .f32 :=
  shapeCast _ (Host.dotGeneral dot_S32x256x256_S256x2048_S32x256x2048_2_0_01_1_n_n none l w)
    shapeCasts_S32x256x2048_S32x256x8x256

/-- The keys: the projection's first half beside the positional part, the same for every head. -/
def keysC (y : FVec Ideal S32x256x8x256 .f32) (p : FVec Ideal S32x256x64 .f32) : FVec Ideal S32x256x8x192 .f32 :=
  concatenate S32x256x8x192 3 [⟨S32x256x8x128, (extractStridedSlice S32x256x8x128 ![0, 0, 0, 0] y slices_S32x256x8x256_S32x256x8x128_0_0_0_0)⟩,
    ⟨S32x256x8x64, (broadcastInDim S32x256x8x64 ![0, 1, 2, 3] bcast_S32x256x1x64_S32x256x8x64_0_1_2_3
      (broadcastInDim S32x256x1x64 ![0, 1, 3] bcast_S32x256x64_S32x256x1x64_0_1_3 p))⟩]
    concatenates_S32x256x8x128_S32x256x8x64_S32x256x8x192_d3

/-- The values: the projection's second half. -/
def valsC (y : FVec Ideal S32x256x8x256 .f32) : FVec Ideal S32x256x8x128 .f32 :=
  extractStridedSlice S32x256x8x128 ![0, 0, 0, 128] y slices_S32x256x8x256_S32x256x8x128_0_0_0_128

/-- The cached tokens: the projected latents, per head 128 columns of keys and 128 of values. -/
def projP (l : FVec Ideal S2x512x256 .f32) (w : FVec Ideal S256x2048 .f32) : FVec Ideal S2x512x8x256 .f32 :=
  shapeCast _ (Host.dotGeneral dot_S2x512x256_S256x2048_S2x512x2048_2_0_01_1_n_n none l w)
    shapeCasts_S2x512x2048_S2x512x8x256

/-- The keys: the projection's first half beside the positional part, the same for every head. -/
def keysP (y : FVec Ideal S2x512x8x256 .f32) (p : FVec Ideal S2x512x64 .f32) : FVec Ideal S2x512x8x192 .f32 :=
  concatenate S2x512x8x192 3 [⟨S2x512x8x128, (extractStridedSlice S2x512x8x128 ![0, 0, 0, 0] y slices_S2x512x8x256_S2x512x8x128_0_0_0_0)⟩,
    ⟨S2x512x8x64, (broadcastInDim S2x512x8x64 ![0, 1, 2, 3] bcast_S2x512x1x64_S2x512x8x64_0_1_2_3
      (broadcastInDim S2x512x1x64 ![0, 1, 3] bcast_S2x512x64_S2x512x1x64_0_1_3 p))⟩]
    concatenates_S2x512x8x128_S2x512x8x64_S2x512x8x192_d3

/-- The values: the projection's second half. -/
def valsP (y : FVec Ideal S2x512x8x256 .f32) : FVec Ideal S2x512x8x128 .f32 :=
  extractStridedSlice S2x512x8x128 ![0, 0, 0, 128] y slices_S2x512x8x256_S2x512x8x128_0_0_0_128

/-- The new latent tokens: the projected latents, per head 128 columns of keys and 128 of values. -/
def projL (l : FVec Ideal S2x2048x256 .f32) (w : FVec Ideal S256x2048 .f32) : FVec Ideal S2x2048x8x256 .f32 :=
  shapeCast _ (Host.dotGeneral dot_S2x2048x256_S256x2048_S2x2048x2048_2_0_01_1_n_n none l w)
    shapeCasts_S2x2048x2048_S2x2048x8x256

/-- The keys: the projection's first half beside the positional part, the same for every head. -/
def keysL (y : FVec Ideal S2x2048x8x256 .f32) (p : FVec Ideal S2x2048x64 .f32) : FVec Ideal S2x2048x8x192 .f32 :=
  concatenate S2x2048x8x192 3 [⟨S2x2048x8x128, (extractStridedSlice S2x2048x8x128 ![0, 0, 0, 0] y slices_S2x2048x8x256_S2x2048x8x128_0_0_0_0)⟩,
    ⟨S2x2048x8x64, (broadcastInDim S2x2048x8x64 ![0, 1, 2, 3] bcast_S2x2048x1x64_S2x2048x8x64_0_1_2_3
      (broadcastInDim S2x2048x1x64 ![0, 1, 3] bcast_S2x2048x64_S2x2048x1x64_0_1_3 p))⟩]
    concatenates_S2x2048x8x128_S2x2048x8x64_S2x2048x8x192_d3

/-- The values: the projection's second half. -/
def valsL (y : FVec Ideal S2x2048x8x256 .f32) : FVec Ideal S2x2048x8x128 .f32 :=
  extractStridedSlice S2x2048x8x128 ![0, 0, 0, 128] y slices_S2x2048x8x256_S2x2048x8x128_0_0_0_128

/-- The context batches: the scaled scores of its queries against its keys. -/
def scoreC (q : FVec Ideal S32x256x8x192 .f32) (k : FVec Ideal S32x256x8x192 .f32) : FVec Ideal S32x8x256x256 .f32 :=
  mulf (Host.dotGeneral dot_S32x256x8x192_S32x256x8x192_S32x8x256x256_3_3_1_1_02_02 none q k)
    (broadcastInDim S32x8x256x256 ![] bcast_S_S32x8x256x256 (constant S_ .f32 0x3D93CD3A#32))

/-- The scores' maximum per query. -/
def topC (s : FVec Ideal S32x8x256x256 .f32) : FVec Ideal S32x8x256 .f32 :=
  maximumf (broadcastInDim S32x8x256 ![] bcast_S_S32x8x256 (constant S_ .f32 0xFF800000#32))
    (Host.reduce FloatOps.maximumf s (constant S_ .f32 0xFF800000#32) reducesTo_S32x8x256x256_S32x8x256_d3 h_S_)

/-- The exponentials of the scores relative to a bound per query. -/
def expoC (s : FVec Ideal S32x8x256x256 .f32) (M : FVec Ideal S32x8x256 .f32) : FVec Ideal S32x8x256x256 .f32 :=
  Host.exp (subf s (broadcastInDim S32x8x256x256 ![0, 1, 2, 3] bcast_S32x8x256x1_S32x8x256x256_0_1_2_3
    (broadcastInDim S32x8x256x1 ![0, 1, 2] bcast_S32x8x256_S32x8x256x1_0_1_2 M)))

/-- The exponentials' sum per query. -/
def totC (e : FVec Ideal S32x8x256x256 .f32) : FVec Ideal S32x8x256 .f32 :=
  Host.reduceAdd e (constant S_ .f32 0x00000000#32) reducesTo_S32x8x256x256_S32x8x256_d3 h_S_

/-- The exponentials over their sum. -/
def probC (e : FVec Ideal S32x8x256x256 .f32) (D : FVec Ideal S32x8x256 .f32) : FVec Ideal S32x8x256x256 .f32 :=
  Host.divf e (broadcastInDim S32x8x256x256 ![0, 1, 2, 3] bcast_S32x8x256x1_S32x8x256x256_0_1_2_3
    (broadcastInDim S32x8x256x1 ![0, 1, 2] bcast_S32x8x256_S32x8x256x1_0_1_2 D))

/-- The values weighed by the probabilities, one row of 8 heads per query. -/
def mixC (v : FVec Ideal S32x256x8x128 .f32) (p : FVec Ideal S32x8x256x256 .f32) : FVec Ideal S8192x1024 .f32 :=
  shapeCast _ (transpose S32x256x8x128 [0, 3, 1, 2]
    (Host.dotGeneral dot_S32x256x8x128_S32x8x256x256_S32x8x128x256_1_3_3_2_02_01 none v p)
    transposes_S32x8x128x256_S32x256x8x128_0_3_1_2) shapeCasts_S32x256x8x128_S8192x1024

/-- The latent batches: the scaled scores of its queries against its keys. -/
def scoreS (q : FVec Ideal S2x2048x8x192 .f32) (k : FVec Ideal S2x2560x8x192 .f32) : FVec Ideal S2x8x2048x2560 .f32 :=
  mulf (Host.dotGeneral dot_S2x2048x8x192_S2x2560x8x192_S2x8x2048x2560_3_3_1_1_02_02 none q k)
    (broadcastInDim S2x8x2048x2560 ![] bcast_S_S2x8x2048x2560 (constant S_ .f32 0x3D93CD3A#32))

/-- The scores' maximum per query. -/
def topS (s : FVec Ideal S2x8x2048x2560 .f32) : FVec Ideal S2x8x2048 .f32 :=
  maximumf (broadcastInDim S2x8x2048 ![] bcast_S_S2x8x2048 (constant S_ .f32 0xFF800000#32))
    (Host.reduce FloatOps.maximumf s (constant S_ .f32 0xFF800000#32) reducesTo_S2x8x2048x2560_S2x8x2048_d3 h_S_)

/-- The exponentials of the scores relative to a bound per query. -/
def expoS (s : FVec Ideal S2x8x2048x2560 .f32) (M : FVec Ideal S2x8x2048 .f32) : FVec Ideal S2x8x2048x2560 .f32 :=
  Host.exp (subf s (broadcastInDim S2x8x2048x2560 ![0, 1, 2, 3] bcast_S2x8x2048x1_S2x8x2048x2560_0_1_2_3
    (broadcastInDim S2x8x2048x1 ![0, 1, 2] bcast_S2x8x2048_S2x8x2048x1_0_1_2 M)))

/-- The exponentials' sum per query. -/
def totS (e : FVec Ideal S2x8x2048x2560 .f32) : FVec Ideal S2x8x2048 .f32 :=
  Host.reduceAdd e (constant S_ .f32 0x00000000#32) reducesTo_S2x8x2048x2560_S2x8x2048_d3 h_S_

/-- The exponentials over their sum. -/
def probS (e : FVec Ideal S2x8x2048x2560 .f32) (D : FVec Ideal S2x8x2048 .f32) : FVec Ideal S2x8x2048x2560 .f32 :=
  Host.divf e (broadcastInDim S2x8x2048x2560 ![0, 1, 2, 3] bcast_S2x8x2048x1_S2x8x2048x2560_0_1_2_3
    (broadcastInDim S2x8x2048x1 ![0, 1, 2] bcast_S2x8x2048_S2x8x2048x1_0_1_2 D))

/-- The values weighed by the probabilities, one row of 8 heads per query. -/
def mixS (v : FVec Ideal S2x2560x8x128 .f32) (p : FVec Ideal S2x8x2048x2560 .f32) : FVec Ideal S4096x1024 .f32 :=
  shapeCast _ (transpose S2x2048x8x128 [0, 3, 1, 2]
    (Host.dotGeneral dot_S2x2560x8x128_S2x8x2048x2560_S2x8x128x2048_1_3_3_2_02_01 none v p)
    transposes_S2x8x128x2048_S2x2048x8x128_0_3_1_2) shapeCasts_S2x2048x8x128_S4096x1024

variable (m : (ℓ : Loc nD τ sig) → Buf (Elt Ideal) ℓ) (c : Dev nD)

/-- The arguments, and their context, latent and cached parts. -/
abbrev aQ : FVec Ideal S12288x8x192 .f32 := m ((c.tc : Thread nD τ).loc main_arg0)
abbrev aL : FVec Ideal S12288x256 .f32 := m ((c.tc : Thread nD τ).loc main_arg1)
abbrev aP : FVec Ideal S12288x64 .f32 := m ((c.tc : Thread nD τ).loc main_arg2)
abbrev aCL : FVec Ideal S2x1x512x256 .f32 := m ((c.tc : Thread nD τ).loc main_arg3)
abbrev aCP : FVec Ideal S2x1x512x64 .f32 := m ((c.tc : Thread nD τ).loc main_arg4)
abbrev aW : FVec Ideal S1x256x2048 .f32 := m ((c.tc : Thread nD τ).loc main_arg5)
def w2 : FVec Ideal S256x2048 .f32 := shapeCast _ (aW m c) shapeCasts_S1x256x2048_S256x2048
def yC : FVec Ideal S32x256x8x256 .f32 :=
  projC (shapeCast _ (extractStridedSlice S8192x256 ![0, 0] (aL m c) slices_S12288x256_S8192x256_0_0) shapeCasts_S8192x256_S32x256x256) (w2 m c)
def kC : FVec Ideal S32x256x8x192 .f32 :=
  keysC (yC m c) (shapeCast _ (extractStridedSlice S8192x64 ![0, 0] (aP m c) slices_S12288x64_S8192x64_0_0) shapeCasts_S8192x64_S32x256x64)
def qC : FVec Ideal S32x256x8x192 .f32 :=
  shapeCast _ (extractStridedSlice S8192x8x192 ![0, 0, 0] (aQ m c) slices_S12288x8x192_S8192x8x192_0_0_0) shapeCasts_S8192x8x192_S32x256x8x192
def yP : FVec Ideal S2x512x8x256 .f32 := projP (shapeCast _ (aCL m c) shapeCasts_S2x1x512x256_S2x512x256) (w2 m c)
def kP : FVec Ideal S2x512x8x192 .f32 := keysP (yP m c) (shapeCast _ (aCP m c) shapeCasts_S2x1x512x64_S2x512x64)
def yL : FVec Ideal S2x2048x8x256 .f32 :=
  projL (shapeCast _ (extractStridedSlice S4096x256 ![8192, 0] (aL m c) slices_S12288x256_S4096x256_8192_0) shapeCasts_S4096x256_S2x2048x256) (w2 m c)
def kL : FVec Ideal S2x2048x8x192 .f32 :=
  keysL (yL m c) (shapeCast _ (extractStridedSlice S4096x64 ![8192, 0] (aP m c) slices_S12288x64_S4096x64_8192_0) shapeCasts_S4096x64_S2x2048x64)
def qS : FVec Ideal S2x2048x8x192 .f32 :=
  shapeCast _ (extractStridedSlice S4096x8x192 ![8192, 0, 0] (aQ m c) slices_S12288x8x192_S4096x8x192_8192_0_0) shapeCasts_S4096x8x192_S2x2048x8x192
def kS : FVec Ideal S2x2560x8x192 .f32 :=
  concatenate S2x2560x8x192 1 [⟨S2x512x8x192, kP m c⟩, ⟨S2x2048x8x192, kL m c⟩] concatenates_S2x512x8x192_S2x2048x8x192_S2x2560x8x192_d1
def vS : FVec Ideal S2x2560x8x128 .f32 :=
  concatenate S2x2560x8x128 1 [⟨S2x512x8x128, valsP (yP m c)⟩, ⟨S2x2048x8x128, valsL (yL m c)⟩] concatenates_S2x512x8x128_S2x2048x8x128_S2x2560x8x128_d1
def sC : FVec Ideal S32x8x256x256 .f32 := scoreC (qC m c) (kC m c)
def sS : FVec Ideal S2x8x2048x2560 .f32 := scoreS (qS m c) (kS m c)
def eC : FVec Ideal S32x8x256x256 .f32 := expoC (sC m c) (topC (sC m c))
def eS : FVec Ideal S2x8x2048x2560 .f32 := expoS (sS m c) (topS (sS m c))
def oC : FVec Ideal S8192x1024 .f32 := mixC (valsC (yC m c)) (probC (eC m c) (totC (eC m c)))
def oS : FVec Ideal S4096x1024 .f32 := mixS (vS m c) (probS (eS m c) (totS (eS m c)))

/-- The reference's result: the context rows, then the latent rows. -/
theorem res_eq : Value.res_main_v73 m c
    = truncf .bf16 (concatenate S12288x1024 0 [⟨S8192x1024, oC m c⟩, ⟨S4096x1024, oS m c⟩] concatenates_S8192x1024_S4096x1024_S12288x1024_d0) bitsLt_bf16_f32 := rfl

end Cert.ReferenceIdeal.Attn

end
-- ==== Proof.Attn.RefSoft.lean ====
module

public import proofs.«01_k».proof.Proof.Attn.RefDef
public import proofs.«01_k».proof.Proof.Attn.Rows

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem
open Idealize.ShloMosaic.Pipeline (Dat)

open Cert.Softmax

theorem max_real {t : Shape} (a b : FVec Ideal t .f32) (j : t.Idx) (ha : a j = (⊥ : EReal)) (hb : IsR (b j)) :
    IsR (maximumf a b j) := by
  change IsR (max (a j : EReal) (b j))
  rw [ha, max_eq_right bot_le]; exact hb
theorem reduce_gen {s t u : Shape} {a : Fin s.rank} (x : FVec Ideal s .f32) (hx : ∀ i, IsR (x i)) (init : FVec Ideal u .f32)
    (h' : s.ReducesTo [a] t) (h : s.Reduces [a] t) (hu : 0 < u.numel) (hi : init (Shape.Idx.first hu) = (⊥ : EReal))
    (ha : 0 < s.size a) (j : t.Idx) : IsR (Host.reduce (FloatOps.maximumf (F := Ideal) (φ := .f32)) x init h' hu j) := reduce_real x hx init h' h hu hi ha j
theorem bcast_bot {t : Shape} (h : S_.BroadcastsInDim t (![] : Fin 0 → Fin t.rank)) (j : t.Idx) :
    broadcastInDim t ![] h (constant (F := Ideal) S_ .f32 0xFF800000#32) j = (⊥ : EReal) := ofBits_bot

theorem expoC_at (b : Fin 32) (h : Fin 8) (i : Fin 256) (j : Fin 256) (s M) :
    expoC s M (ix4 b h i j) = Ideal.exp (s (ix4 b h i j) - M (ix3 b h i)) := by
  pointwise [expoC]
theorem probC_at (b : Fin 32) (h : Fin 8) (i : Fin 256) (j : Fin 256) (e D) :
    probC e D (ix4 b h i j) = Ideal.div (e (ix4 b h i j)) (D (ix3 b h i)) := by
  pointwise [probC]
theorem totC_at (b : Fin 32) (h : Fin 8) (i : Fin 256) (e) : totC e (ix3 b h i) = ∑ j : Fin 256, e (ix4 b h i j) := by
  pointwise [totC]
theorem topC_real (s) (hs : ∀ i, IsR (s i)) (j) : IsR (topC s j) := by
  have hi : (constant (F := Ideal) S_ .f32 0xFF800000#32) (Shape.Idx.first h_S_) = (⊥ : EReal) := ofBits_bot
  have h1 : S32x8x256x256.Reduces [(3 : Fin 4)] S32x8x256 := by decide
  have h2 : 0 < S32x8x256x256.size (3 : Fin 4) := Nat.succ_pos _
  unfold topC
  refine max_real _ _ j (bcast_bot _ j) ?_
  generalize constant (F := Ideal) S_ .f32 0xFF800000#32 = init at hi ⊢
  generalize reducesTo_S32x8x256x256_S32x8x256_d3 = hR
  have := reduce_gen s hs init hR h1 h_S_ hi h2 j
  exact this
theorem scoreC_at (q k) (b : Fin 32) (h : Fin 8) (i : Fin 256) (j : Fin 256) :
    scoreC q k (ix4 b h i j) = scoreR (fun d => q (ix4 b i h d)) (fun d => k (ix4 b j h d)) := by
  unfold scoreR
  pointwise [scoreC]
/-- A row's attention, from its scores and values. -/
theorem mixC_soft (v s M) (r : Fin 8192) (o : Fin 1024) :
    mixC v (probC (expoC s M) (totC (expoC s M))) (ix2 r o)
      = softE (fun j : Fin 256 => s (ix4 ⟨r.val / 256, by omega⟩ ⟨o.val / 128, by omega⟩ ⟨r.val % 256, by omega⟩ j))
        (fun j => v (ix4 ⟨r.val / 256, by omega⟩ j ⟨o.val / 128, by omega⟩ ⟨o.val % 128, by omega⟩))
        (M (ix3 ⟨r.val / 256, by omega⟩ ⟨o.val / 128, by omega⟩ ⟨r.val % 256, by omega⟩)) := by
  have h : ∀ p, mixC v p (ix2 r o) = ∑ j : Fin 256, v (ix4 ⟨r.val / 256, by omega⟩ j ⟨o.val / 128, by omega⟩ ⟨o.val % 128, by omega⟩)
      * p (ix4 ⟨r.val / 256, by omega⟩ ⟨o.val / 128, by omega⟩ ⟨r.val % 256, by omega⟩ j) := fun p => by
    pointwise [mixC]
  rw [h]
  unfold softE
  refine Finset.sum_congr rfl fun j _ => ?_
  rw [probC_at, totC_at, expoC_at]
  refine congrArg (fun z => _ * Ideal.div _ z) (Finset.sum_congr rfl fun k _ => ?_)
  rw [expoC_at]

theorem expoS_at (b : Fin 2) (h : Fin 8) (i : Fin 2048) (j : Fin 2560) (s M) :
    expoS s M (ix4 b h i j) = Ideal.exp (s (ix4 b h i j) - M (ix3 b h i)) := by
  pointwise [expoS]
theorem probS_at (b : Fin 2) (h : Fin 8) (i : Fin 2048) (j : Fin 2560) (e D) :
    probS e D (ix4 b h i j) = Ideal.div (e (ix4 b h i j)) (D (ix3 b h i)) := by
  pointwise [probS]
theorem totS_at (b : Fin 2) (h : Fin 8) (i : Fin 2048) (e) : totS e (ix3 b h i) = ∑ j : Fin 2560, e (ix4 b h i j) := by
  pointwise [totS]
theorem topS_real (s) (hs : ∀ i, IsR (s i)) (j) : IsR (topS s j) := by
  have hi : (constant (F := Ideal) S_ .f32 0xFF800000#32) (Shape.Idx.first h_S_) = (⊥ : EReal) := ofBits_bot
  have h1 : S2x8x2048x2560.Reduces [(3 : Fin 4)] S2x8x2048 := by decide
  have h2 : 0 < S2x8x2048x2560.size (3 : Fin 4) := Nat.succ_pos _
  unfold topS
  refine max_real _ _ j (bcast_bot _ j) ?_
  generalize constant (F := Ideal) S_ .f32 0xFF800000#32 = init at hi ⊢
  generalize reducesTo_S2x8x2048x2560_S2x8x2048_d3 = hR
  have := reduce_gen s hs init hR h1 h_S_ hi h2 j
  exact this
theorem scoreS_at (q k) (b : Fin 2) (h : Fin 8) (i : Fin 2048) (j : Fin 2560) :
    scoreS q k (ix4 b h i j) = scoreR (fun d => q (ix4 b i h d)) (fun d => k (ix4 b j h d)) := by
  unfold scoreR
  pointwise [scoreS]
/-- A row's attention, from its scores and values. -/
theorem mixS_soft (v s M) (r : Fin 4096) (o : Fin 1024) :
    mixS v (probS (expoS s M) (totS (expoS s M))) (ix2 r o)
      = softE (fun j : Fin 2560 => s (ix4 ⟨r.val / 2048, by omega⟩ ⟨o.val / 128, by omega⟩ ⟨r.val % 2048, by omega⟩ j))
        (fun j => v (ix4 ⟨r.val / 2048, by omega⟩ j ⟨o.val / 128, by omega⟩ ⟨o.val % 128, by omega⟩))
        (M (ix3 ⟨r.val / 2048, by omega⟩ ⟨o.val / 128, by omega⟩ ⟨r.val % 2048, by omega⟩)) := by
  have h : ∀ p, mixS v p (ix2 r o) = ∑ j : Fin 2560, v (ix4 ⟨r.val / 2048, by omega⟩ j ⟨o.val / 128, by omega⟩ ⟨o.val % 128, by omega⟩)
      * p (ix4 ⟨r.val / 2048, by omega⟩ ⟨o.val / 128, by omega⟩ ⟨r.val % 2048, by omega⟩ j) := fun p => by
    pointwise [mixS]
  rw [h]
  unfold softE
  refine Finset.sum_congr rfl fun j _ => ?_
  rw [probS_at, totS_at, expoS_at]
  refine congrArg (fun z => _ * Ideal.div _ z) (Finset.sum_congr rfl fun k _ => ?_)
  rw [expoS_at]

end Cert.ReferenceIdeal.Attn

end
-- ==== Proof.Attn.RefRead.lean ====
module

public import proofs.«01_k».proof.Proof.Attn.RefSoft

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem
open Idealize.ShloMosaic.Pipeline (Dat)

open Cert.Softmax

variable (m : (ℓ : Loc nD τ sig) → Buf (Elt Ideal) ℓ) (c : Dev nD)

/-- The latents and positional parts of a context chunk's tokens, and of a latent batch's, cached tokens first. -/
def tokC (p : Fin 32) (j : Fin 256) (x : Fin 256) : EReal := aL m c (ix2 ⟨p.val * 256 + j.val, by omega⟩ x)
def posC (p : Fin 32) (j : Fin 256) (x : Fin 64) : EReal := aP m c (ix2 ⟨p.val * 256 + j.val, by omega⟩ x)
def tokS (b : Fin 2) (j : Fin 2560) (x : Fin 256) : EReal :=
  if h : j.val < 512 then aCL m c (ix4 b 0 ⟨j.val, h⟩ x) else aL m c (ix2 ⟨8192 + (b.val * 2048 + (j.val - 512)), by omega⟩ x)
def posS (b : Fin 2) (j : Fin 2560) (x : Fin 64) : EReal :=
  if h : j.val < 512 then aCP m c (ix4 b 0 ⟨j.val, h⟩ x) else aP m c (ix2 ⟨8192 + (b.val * 2048 + (j.val - 512)), by omega⟩ x)

theorem kC_at (b : Fin 32) (j : Fin 256) (h : Fin 8) (d : Fin 192) :
    kC m c (ix4 b j h d) = keyR (tokC m c b j) (posC m c b j) (aW m c) h.val d := by
  unfold keyR
  pointwise [kC, keysC, yC, projC, w2]
  split
  · refine Finset.sum_congr rfl fun x _ => congrArg (fun i => _ * aW m c (ix3 0 x i)) (Fin.ext ?_)
    first | omega | (dsimp only; omega)
  · rfl

theorem vC_at (b : Fin 32) (j : Fin 256) (h : Fin 8) (d : Fin 128) (o : ℕ) (ho : o / 128 = h.val) (hd : o % 128 = d.val) :
    valsC (yC m c) (ix4 b j h d) = valR (tokC m c b j) (aW m c) o := by
  unfold valR
  pointwise [valsC, yC, projC, w2]
  refine Finset.sum_congr rfl fun x _ => congrArg (fun i => _ * aW m c (ix3 0 x i)) (Fin.ext ?_)
  first | omega | (dsimp only; omega)

theorem kS_at (b : Fin 2) (j : Fin 2560) (h : Fin 8) (d : Fin 192) :
    kS m c (ix4 b j h d) = keyR (tokS m c b j) (posS m c b j) (aW m c) h.val d := by
  unfold keyR tokS posS
  pointwise [kS]
  pointwise [keysP, keysL, kP, kL, yP, yL, projP, projL, w2]
  by_cases hj : j.val < 512
  · simp only [dif_pos hj]
    split
    · refine Finset.sum_congr rfl fun x _ => congrArg (fun i => _ * aW m c (ix3 0 x i)) (Fin.ext ?_)
      first | omega | (dsimp only; omega)
    · rfl
  · simp only [dif_neg hj]
    split
    · refine Finset.sum_congr rfl fun x _ => congrArg (fun i => _ * aW m c (ix3 0 x i)) (Fin.ext ?_)
      first | omega | (dsimp only; omega)
    · rfl

theorem vS_at (b : Fin 2) (j : Fin 2560) (h : Fin 8) (d : Fin 128) (o : ℕ) (ho : o / 128 = h.val) (hd : o % 128 = d.val) :
    vS m c (ix4 b j h d) = valR (tokS m c b j) (aW m c) o := by
  unfold valR tokS
  pointwise [vS, valsP, valsL, yP, yL, projP, projL, w2]
  by_cases hj : j.val < 512
  · simp only [dif_pos hj]
    refine Finset.sum_congr rfl fun x _ => congrArg (fun i => _ * aW m c (ix3 0 x i)) (Fin.ext ?_)
    first | omega | (dsimp only; omega)
  · simp only [dif_neg hj]
    refine Finset.sum_congr rfl fun x _ => congrArg (fun i => _ * aW m c (ix3 0 x i)) (Fin.ext ?_)
    first | omega | (dsimp only; omega)

theorem qC_at (b : Fin 32) (j : Fin 256) (h : Fin 8) (d : Fin 192) :
    qC m c (ix4 b j h d) = aQ m c (ix3 ⟨b.val * 256 + j.val, by omega⟩ h d) := by
  pointwise [qC]
theorem qS_at (b : Fin 2) (j : Fin 2048) (h : Fin 8) (d : Fin 192) :
    qS m c (ix4 b j h d) = aQ m c (ix3 ⟨8192 + (b.val * 2048 + j.val), by omega⟩ h d) := by
  pointwise [qS]

theorem res_at (r : Fin 12288) (o : Fin 1024) : (Value.res_main_v73 m c : FVec Ideal S12288x1024 .bf16) (ix2 r o)
    = if h : r.val < 8192 then oC m c (ix2 ⟨r.val, h⟩ o) else oS m c (ix2 ⟨r.val - 8192, by omega⟩ o) := by
  rw [res_eq]
  pointwise

end Cert.ReferenceIdeal.Attn

end
-- ==== Proof.Attn.RefRows.lean ====
module

public import proofs.«01_k».proof.Proof.Attn.RefRead

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem
open Idealize.ShloMosaic.Pipeline (Dat)

open Cert.Softmax

variable (m : (ℓ : Loc nD τ sig) → Buf (Elt Ideal) ℓ) (c : Dev nD)
variable (rQ : ∀ i, IsR (aQ m c i)) (rL : ∀ i, IsR (aL m c i)) (rP : ∀ i, IsR (aP m c i))
  (rCL : ∀ i, IsR (aCL m c i)) (rCP : ∀ i, IsR (aCP m c i)) (rW : ∀ i, IsR (aW m c i))
include rL rCL in
theorem tokC_real (p j x) : IsR (tokC m c p j x) := rL _
include rP rCP in
theorem posC_real (p j x) : IsR (posC m c p j x) := rP _
include rL rCL in
theorem tokS_real (p j x) : IsR (tokS m c p j x) := by unfold tokS; split; exacts [rCL _, rL _]
include rP rCP in
theorem posS_real (p j x) : IsR (posS m c p j x) := by unfold posS; split; exacts [rCP _, rP _]

include rQ rL rP rCL rCP rW

theorem sC_real (i) : IsR (sC m c i) := by
  obtain ⟨b, h, i', j, rfl⟩ : ∃ b h i' j, i = ix4 b h i' j := ⟨i 0, i 1, i 2, i 3, by funext a; fin_cases a <;> rfl⟩
  unfold sC
  rw [scoreC_at]
  refine scoreR_real _ _ (fun d => ?_) (fun d => ?_)
  · rw [qC_at]; exact rQ _
  · rw [kC_at]; exact keyR_real _ _ _ (tokC_real m c rL rCL b j) (posC_real m c rP rCP b j) rW _ _
/-- A context row of the reference, as attention over its tokens relative to a real. -/
theorem oC_at (r : Fin 8192) (o : Fin 1024) : ∃ M, IsR M ∧ oC m c (ix2 r o)
    = softE (fun j : Fin 256 => scoreR (fun d => aQ m c (ix3 ⟨r.val, by omega⟩ ⟨o.val / 128, by omega⟩ d))
        (keyR (tokC m c ⟨r.val / 256, by omega⟩ j) (posC m c ⟨r.val / 256, by omega⟩ j) (aW m c) (o.val / 128)))
      (fun j => valR (tokC m c ⟨r.val / 256, by omega⟩ j) (aW m c) o.val) M := by
  refine ⟨_, topC_real (sC m c) (sC_real m c rQ rL rP rCL rCP rW) (ix3 ⟨r.val / 256, by omega⟩ ⟨o.val / 128, by omega⟩ ⟨r.val % 256, by omega⟩), ?_⟩
  unfold oC eC
  rw [mixC_soft]
  have hs : ∀ j : Fin 256, sC m c (ix4 ⟨r.val / 256, by omega⟩ ⟨o.val / 128, by omega⟩ ⟨r.val % 256, by omega⟩ j)
      = scoreR (fun d => aQ m c (ix3 ⟨r.val, by omega⟩ ⟨o.val / 128, by omega⟩ d))
        (keyR (tokC m c ⟨r.val / 256, by omega⟩ j) (posC m c ⟨r.val / 256, by omega⟩ j) (aW m c) (o.val / 128)) := fun j => by
    unfold sC
    rw [scoreC_at]
    refine congr (congrArg scoreR (funext fun d => ?_)) (funext fun d => kC_at m c _ _ _ _)
    rw [qC_at]
    refine congrArg (fun i => aQ m c (ix3 i _ d)) (Fin.ext ?_)
    first | omega | (dsimp only; omega)
  have hv : ∀ j : Fin 256, valsC (yC m c) (ix4 ⟨r.val / 256, by omega⟩ j ⟨o.val / 128, by omega⟩ ⟨o.val % 128, by omega⟩)
      = valR (tokC m c ⟨r.val / 256, by omega⟩ j) (aW m c) o.val := fun j => vC_at m c _ _ _ _ _ rfl rfl
  simp only [hs, hv]

theorem sS_real (i) : IsR (sS m c i) := by
  obtain ⟨b, h, i', j, rfl⟩ : ∃ b h i' j, i = ix4 b h i' j := ⟨i 0, i 1, i 2, i 3, by funext a; fin_cases a <;> rfl⟩
  unfold sS
  rw [scoreS_at]
  refine scoreR_real _ _ (fun d => ?_) (fun d => ?_)
  · rw [qS_at]; exact rQ _
  · rw [kS_at]; exact keyR_real _ _ _ (tokS_real m c rL rCL b j) (posS_real m c rP rCP b j) rW _ _
/-- A latent row of the reference, as attention over its tokens relative to a real. -/
theorem oS_at (r : Fin 4096) (o : Fin 1024) : ∃ M, IsR M ∧ oS m c (ix2 r o)
    = softE (fun j : Fin 2560 => scoreR (fun d => aQ m c (ix3 ⟨8192 + r.val, by omega⟩ ⟨o.val / 128, by omega⟩ d))
        (keyR (tokS m c ⟨r.val / 2048, by omega⟩ j) (posS m c ⟨r.val / 2048, by omega⟩ j) (aW m c) (o.val / 128)))
      (fun j => valR (tokS m c ⟨r.val / 2048, by omega⟩ j) (aW m c) o.val) M := by
  refine ⟨_, topS_real (sS m c) (sS_real m c rQ rL rP rCL rCP rW) (ix3 ⟨r.val / 2048, by omega⟩ ⟨o.val / 128, by omega⟩ ⟨r.val % 2048, by omega⟩), ?_⟩
  unfold oS eS
  rw [mixS_soft]
  have hs : ∀ j : Fin 2560, sS m c (ix4 ⟨r.val / 2048, by omega⟩ ⟨o.val / 128, by omega⟩ ⟨r.val % 2048, by omega⟩ j)
      = scoreR (fun d => aQ m c (ix3 ⟨8192 + r.val, by omega⟩ ⟨o.val / 128, by omega⟩ d))
        (keyR (tokS m c ⟨r.val / 2048, by omega⟩ j) (posS m c ⟨r.val / 2048, by omega⟩ j) (aW m c) (o.val / 128)) := fun j => by
    unfold sS
    rw [scoreS_at]
    refine congr (congrArg scoreR (funext fun d => ?_)) (funext fun d => kS_at m c _ _ _ _)
    rw [qS_at]
    refine congrArg (fun i => aQ m c (ix3 i _ d)) (Fin.ext ?_)
    first | omega | (dsimp only; omega)
  have hv : ∀ j : Fin 2560, vS m c (ix4 ⟨r.val / 2048, by omega⟩ j ⟨o.val / 128, by omega⟩ ⟨o.val % 128, by omega⟩)
      = valR (tokS m c ⟨r.val / 2048, by omega⟩ j) (aW m c) o.val := fun j => vS_at m c _ _ _ _ _ rfl rfl
  simp only [hs, hv]

end Cert.ReferenceIdeal.Attn

end
-- ==== Proof.Attn.Join.lean ====
module

public import proofs.«01_k».proof.Proof.Attn.Final
public import proofs.«01_k».proof.Proof.Attn.Core
public import proofs.«01_k».proof.Proof.Attn.RefRows

@[expose] public section

set_option maxRecDepth 16384

noncomputable section

namespace Cert.KernelIdeal.Attn

open Cert.KernelIdeal Cert.KernelIdeal.Gen Cert.Softmax
open Idealize.ShloMosaic Idealize.ShloMosaic.TcCoe Idealize.SL.Sem
open Cert.ReferenceIdeal.Attn (aQ aL aP aCL aCP aW tokC posC tokS posS)
open Idealize.ShloMosaic.Pipeline (Dat)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
variable (hQ : aQ m' c = bQ m c) (hL : aL m' c = bL m c) (hP : aP m' c = bP m c) (hCL : aCL m' c = bCL m c)
  (hCP : aCP m' c = bCP m c) (hW : aW m' c = bW m c)
variable (rQ : ∀ i, IsR (aQ m' c i)) (rL : ∀ i, IsR (aL m' c i)) (rP : ∀ i, IsR (aP m' c i))
  (rCL : ∀ i, IsR (aCL m' c i)) (rCP : ∀ i, IsR (aCP m' c i)) (rW : ∀ i, IsR (aW m' c i))

/-- Three-axis indices with equal coordinates are equal. -/
theorem ix3_congr {a b c : ℕ} (x x' : Fin a) (y y' : Fin b) (z z' : Fin c) (hx : x.val = x'.val) (hy : y.val = y'.val)
    (hz : z.val = z'.val) : ix3 x y z = ix3 x' y' z' := by
  obtain rfl := Fin.ext hx
  obtain rfl := Fin.ext hy
  obtain rfl := Fin.ext hz
  rfl

include hQ hL hP hCL hCP hW rQ rL rP rCL rCP rW

/-- The kernel's context rows are the reference's. -/
theorem rowC (r : Fin 8192) (o : Fin 1024) :
    outF m c (r.val) o.val = Cert.ReferenceIdeal.Attn.oC m' c (ix2 r o) := by
  obtain ⟨M, hM, e⟩ := Cert.ReferenceIdeal.Attn.oC_at m' c rQ rL rP rCL rCP rW r o
  rw [e, outF, if_pos (by omega)]
  unfold kvC
  refine attF_eq (by norm_num) _ _ _ _ _ _ o.isLt (fun d => aQ m' c (ix3 ⟨r.val, by omega⟩ ⟨o.val / 128, by omega⟩ d))
    (fun j => tokC m' c ⟨r.val / 256, by omega⟩ j) (fun j => posC m' c ⟨r.val / 256, by omega⟩ j) (aW m' c) M
    (fun k i hi => ?_) (fun j x => ?_) (fun j d h => ?_) (fun k o i ho hi => ?_) (fun k o i ho hi => ?_)
    (fun d => rQ _) (fun j x => Cert.ReferenceIdeal.Attn.tokC_real m' c rL rCL _ _ _)
    (fun j x => Cert.ReferenceIdeal.Attn.posC_real m' c rP rCP _ _ _) rW hM
  · unfold qC qF
    refine congrArg (fun z => Ideal.div (z * _) _) ?_
    by_cases hk : k.val < 192
    · rw [dif_pos hk, dif_pos (by change i.val % 256 < 192; omega), hQ]
      refine congrArg (bQ m c) ?_
      refine ix3_congr _ _ _ _ _ _ ?_ ?_ ?_ <;> (dsimp only [ix2]; first | omega | (simp; omega))
    · rw [dif_neg hk, dif_neg (by change ¬ i.val % 256 < 192; omega)]
  · unfold lC Cert.ReferenceIdeal.Attn.tokC
    rw [hL]
    refine congrArg (fun z => bL m c (ix2 z x)) (Fin.ext ?_)
    dsimp only [ix2]; simp; omega
  · unfold pC pF Cert.ReferenceIdeal.Attn.posC
    rw [hP, dif_pos (by exact h)]
    refine congrArg (fun z => bP m c (ix2 z ⟨d.val, h⟩)) (Fin.ext ?_)
    dsimp only [ix2]; simp; omega
  · unfold wA
    rw [weight_key m c k o ho, hW]
    exact congrArg (fun z => bW m c (ix3 0 k z)) (Fin.ext hi.symm)
  · unfold wA
    rw [weight_val m c k o ho, hW]
    exact congrArg (fun z => bW m c (ix3 0 k z)) (Fin.ext hi.symm)

/-- The kernel's latent rows are the reference's. -/
theorem rowS (r : Fin 4096) (o : Fin 1024) :
    outF m c (8192 + r.val) o.val = Cert.ReferenceIdeal.Attn.oS m' c (ix2 r o) := by
  obtain ⟨M, hM, e⟩ := Cert.ReferenceIdeal.Attn.oS_at m' c rQ rL rP rCL rCP rW r o
  rw [e, outF, if_neg (by omega)]
  unfold kvS
  refine attF_eq (by norm_num) _ _ _ _ _ _ o.isLt (fun d => aQ m' c (ix3 ⟨8192 + r.val, by omega⟩ ⟨o.val / 128, by omega⟩ d))
    (fun j => tokS m' c ⟨r.val / 2048, by omega⟩ j) (fun j => posS m' c ⟨r.val / 2048, by omega⟩ j) (aW m' c) M
    (fun k i hi => ?_) (fun j x => ?_) (fun j d h => ?_) (fun k o i ho hi => ?_) (fun k o i ho hi => ?_)
    (fun d => rQ _) (fun j x => Cert.ReferenceIdeal.Attn.tokS_real m' c rL rCL _ _ _)
    (fun j x => Cert.ReferenceIdeal.Attn.posS_real m' c rP rCP _ _ _) rW hM
  · unfold qS qF
    refine congrArg (fun z => Ideal.div (z * _) _) ?_
    by_cases hk : k.val < 192
    · rw [dif_pos hk, dif_pos (by change i.val % 256 < 192; omega), hQ]
      refine congrArg (bQ m c) ?_
      refine ix3_congr _ _ _ _ _ _ ?_ ?_ ?_ <;> (dsimp only [ix2]; first | omega | (simp; omega))
    · rw [dif_neg hk, dif_neg (by change ¬ i.val % 256 < 192; omega)]
  · unfold Cert.ReferenceIdeal.Attn.tokS
    by_cases hj : j.val < 512
    · rw [dif_pos hj, catL_old _ _ j ⟨j.val, hj⟩ rfl, hCL]
      unfold oL
      refine congrArg (fun z => bCL m c (ix4 z 0 ⟨j.val, hj⟩ x)) (Fin.ext ?_)
      dsimp only; omega
    · rw [dif_neg hj, catL_new _ _ j ⟨j.val - 512, by omega⟩ (by dsimp only; omega), hL]
      unfold lS
      refine congrArg (fun z => bL m c (ix2 z x)) (Fin.ext ?_)
      dsimp only [ix2]; simp; omega
  · unfold Cert.ReferenceIdeal.Attn.posS
    by_cases hj : j.val < 512
    · rw [dif_pos hj, catP_old _ _ j ⟨j.val, hj⟩ rfl, hCP]
      unfold oP pO
      rw [dif_pos (by exact h)]
      refine congrArg (fun z => bCP m c (ix4 z 0 ⟨j.val, hj⟩ ⟨d.val, h⟩)) (Fin.ext ?_)
      dsimp only; omega
    · rw [dif_neg hj, catP_new _ _ j ⟨j.val - 512, by omega⟩ (by dsimp only; omega), hP]
      unfold pS pF
      rw [dif_pos (by exact h)]
      refine congrArg (fun z => bP m c (ix2 z ⟨d.val, h⟩)) (Fin.ext ?_)
      dsimp only [ix2]; simp; omega
  · unfold wA
    rw [weight_key m c k o ho, hW]
    exact congrArg (fun z => bW m c (ix3 0 k z)) (Fin.ext hi.symm)
  · unfold wA
    rw [weight_val m c k o ho, hW]
    exact congrArg (fun z => bW m c (ix3 0 k z)) (Fin.ext hi.symm)

/-- The kernel's result is the reference's. -/
theorem result_eq : Cert.ReferenceIdeal.Value.res_main_v73 m' c = (dats m 0 c).arrAt 9 (cfgs 0).N := by
  rw [final]
  funext i
  obtain ⟨r, o, rfl⟩ : ∃ (r : Fin 12288) (o : Fin 1024), i = ix2 r o := ⟨i 0, i 1, by funext a; fin_cases a <;> rfl⟩
  refine (Cert.ReferenceIdeal.Attn.res_at m' c r o).trans ?_
  change _ = outF m c r.val o.val
  split
  · rename_i h
    exact (rowC m m' c hQ hL hP hCL hCP hW rQ rL rP rCL rCP rW ⟨r.val, h⟩ o).symm
  · rename_i h
    refine (rowS m m' c hQ hL hP hCL hCP hW rQ rL rP rCL rCP rW ⟨r.val - 8192, by omega⟩ o).symm.trans ?_
    refine congrArg (fun z => outF m c z o.val) ?_
    dsimp only; omega

end Cert.KernelIdeal.Attn

end
-- ==== Proof.Experts.Base.lean ====
/-
  The experts' call: @main up to the region, the tile tables the region reads there, and what each window finds.

  The host operations make two tables, the expert of every row tile and the number of tiles in use; three of the region's
  windows are placed by the first and one by the second. Everything here is stated at the tables' contents when the region
  is entered, under the region's own side condition of them (`Ok`), for any values.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations, stretch by stretch. -/
abbrev hostOps : List (List (HloOp τ sig (Elt F))) := [hostOps0, hostOps0_1, hostOps0_2, hostOps0_3, hostOps0_4, hostOps0_5, hostOps0_6]

/-- What the core's buffers hold when the region is entered. -/
@[irreducible] def V (c : Dev nD) (b : Ref sig .tc) : Buf (Elt F) ((c : Thread nD τ).loc b) :=
  StableHlo.after hostOps.flatten (fun b => m (c, b)) b

theorem V_def : V m = fun (c : Dev nD) (b : Ref sig .tc) => (StableHlo.after hostOps.flatten (fun b => m (c, b)) b : Buf (Elt F) ((c : Thread nD τ).loc b)) := by
  funext c b; unfold V; rfl

theorem hostOps_sub : (hostOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
theorem hostOps_fresh : (hostOps : List (List (HloOp τ sig (Elt F)))).Forall fun ops => ops.Forall fun op => op.fresh = ∅ := by
  simp only [List.Forall]; repeat' constructor

set_option maxHeartbeats 800000 in
/-- @main is its host operations and then the region. -/
theorem hmain (𝒱₀ : Variants) : Pipeline.HMainP (Ix := Unit) (Name := ℕ) (U := UR sig nD τ) (Lvl := ℕ) pcfgs 0 defs₀ 𝒱₀ m (main (F := F)) (V m) := by
  rw [V_def]
  exact Pipeline.hmainP_prefixes pcfgs 0 defs₀ 𝒱₀ m main hostOps hostOps_sub hostOps_fresh main_chain

/-! The contents after each stretch, and what a stretch leaves as it was. -/

def W1 (V0 : Valuation τ sig (Elt F)) : Valuation τ sig (Elt F) := StableHlo.after hostOps0 V0
def W2 (V0 : Valuation τ sig (Elt F)) : Valuation τ sig (Elt F) := StableHlo.after hostOps0_1 (W1 V0)
def W3 (V0 : Valuation τ sig (Elt F)) : Valuation τ sig (Elt F) := StableHlo.after hostOps0_2 (W2 V0)
def W4 (V0 : Valuation τ sig (Elt F)) : Valuation τ sig (Elt F) := StableHlo.after hostOps0_3 (W3 V0)
def W5 (V0 : Valuation τ sig (Elt F)) : Valuation τ sig (Elt F) := StableHlo.after hostOps0_4 (W4 V0)
def W6 (V0 : Valuation τ sig (Elt F)) : Valuation τ sig (Elt F) := StableHlo.after hostOps0_5 (W5 V0)
def W7 (V0 : Valuation τ sig (Elt F)) : Valuation τ sig (Elt F) := StableHlo.after hostOps0_6 (W6 V0)

abbrev outs1 : List (Ref sig .tc) := [main_c, main_v0, main_v1, main_c_0, main_v2, main_v3, main_c_1]
theorem W1_keep (V0 : Valuation τ sig (Elt F)) (r : Ref sig .tc) (h : r ∉ outs1) :
    W1 V0 (Proc.devRef .tc r) = V0 (Proc.devRef .tc r) := by
  refine StableHlo.after_of_writes_sub hostOps0 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs2 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem W2_keep (V0 : Valuation τ sig (Elt F)) (r : Ref sig .tc) (h : r ∉ outs2) :
    W2 V0 (Proc.devRef .tc r) = W1 V0 (Proc.devRef .tc r) := by
  refine StableHlo.after_of_writes_sub hostOps0_1 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs3 : List (Ref sig .tc) := [main_c_2, main_v5, main_v6]
theorem W3_keep (V0 : Valuation τ sig (Elt F)) (r : Ref sig .tc) (h : r ∉ outs3) :
    W3 V0 (Proc.devRef .tc r) = W2 V0 (Proc.devRef .tc r) := by
  refine StableHlo.after_of_writes_sub hostOps0_2 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs4 : List (Ref sig .tc) := [main_call1_call0_c, main_call1_call0_v0, main_v7]
theorem W4_keep (V0 : Valuation τ sig (Elt F)) (r : Ref sig .tc) (h : r ∉ outs4) :
    W4 V0 (Proc.devRef .tc r) = W3 V0 (Proc.devRef .tc r) := by
  refine StableHlo.after_of_writes_sub hostOps0_3 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs5 : List (Ref sig .tc) := [main_v8, main_c_3, main_v9, main_v10, main_v11, main_v12, main_v13, main_v14, main_v15, main_v16, main_c_4, main_v17, main_c_5, main_v18, main_v19, main_v20, main_c_6]
theorem W5_keep (V0 : Valuation τ sig (Elt F)) (r : Ref sig .tc) (h : r ∉ outs5) :
    W5 V0 (Proc.devRef .tc r) = W4 V0 (Proc.devRef .tc r) := by
  refine StableHlo.after_of_writes_sub hostOps0_4 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs6 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v21]
theorem W6_keep (V0 : Valuation τ sig (Elt F)) (r : Ref sig .tc) (h : r ∉ outs6) :
    W6 V0 (Proc.devRef .tc r) = W5 V0 (Proc.devRef .tc r) := by
  refine StableHlo.after_of_writes_sub hostOps0_5 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev outs7 : List (Ref sig .tc) := [main_v22, main_v23, main_v24, main_v25, main_v26, main_v27, main_v28, main_v29]
theorem W7_keep (V0 : Valuation τ sig (Elt F)) (r : Ref sig .tc) (h : r ∉ outs7) :
    W7 V0 (Proc.devRef .tc r) = W6 V0 (Proc.devRef .tc r) := by
  refine StableHlo.after_of_writes_sub hostOps0_6 _ ?_ h
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem V_eq (c : Dev nD) (b : Ref sig .tc) : V m c b = W7 (fun b => m (c, b)) b := by
  unfold V; rfl

/-- The host operations write no argument. -/
theorem V_arg (c : Dev nD) (b : Ref sig .tc) (hb : b ∈ [main_arg0, main_arg1, main_arg2, main_arg3, main_arg4]) :
    V m c b = m ((c : Thread nD τ).loc b) := by
  rw [V_eq]
  simp only [List.mem_cons, List.not_mem_nil, or_false] at hb
  rcases hb with rfl | rfl | rfl | rfl | rfl <;>
  exact (W7_keep _ _ (by decide)).trans <| (W6_keep _ _ (by decide)).trans <| (W5_keep _ _ (by decide)).trans <| (W4_keep _ _ (by decide)).trans <|
    (W3_keep _ _ (by decide)).trans <| (W2_keep _ _ (by decide)).trans <| W1_keep _ _ (by decide)

/-! ## The tables -/

/-- The tables as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The region's side condition of the tables: each placed block lies inside its array. -/
abbrev Ok : Prop := ok0 (F := F) (tbl m)
/-- The tables as contents the region admits, and the pipeline at them. -/
abbrev adm (hO : Ok m) : (pcfg0 (F := F)).Adm := ⟨tbl m, hO⟩
abbrev cfgM (hO : Ok m) : Pipeline.Cfg sig Λ₀ := cfg0 (adm m hO)

/-- The tables' buffers as the body is handed them. -/
abbrev tb0 : Memref sig .tc .smem S57 .i32 := Memref.whole main_v19
abbrev tb1 : Memref sig .tc .smem S1 .i32 := Memref.whole main_v21

/-- A table's buffer on core `c`, and half of it held at `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the region hands the body of the tables, table by table. -/
theorem PhiT_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide, bigSep_insert (by decide), bigSep_singleton]
  rfl

/-! ## The blocks -/

/-- Window `w`'s block at point `t`, of what its array holds at the region's entry. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's buffer holds its block at every point, whether or not it was fetched there. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel2Ideal.Experts

end
-- ==== Proof.Experts.Run.lean ====
/-
  The body of the experts' call, run once for a tile in use and once for a tile beyond the tiles in use.
-/
module

public import proofs.«01_k».proof.Proof.Experts.Base

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body is called with: a row tile, the tile's expert's three weights, and the output tile. -/
structure Bufs where
  a3 : Memref sig .tc .vmem S512x8x128 .bf16
  h3 : a3.IsWhole
  a4 : Memref sig .tc .vmem S1x1024x1792 .bf16
  h4 : a4.IsWhole
  a5 : Memref sig .tc .vmem S1x1024x1792 .bf16
  h5 : a5.IsWhole
  a6 : Memref sig .tc .vmem S1x1792x1024 .bf16
  h6 : a6.IsWhole
  a7 : Memref sig .tc .vmem S512x8x128 .bf16
  h7 : a7.IsWhole

/-- What the four input buffers hold. -/
structure Ins (F : FTy → Type) [FloatOps F] where
  x : Vec F S512x8x128 .bf16
  g : Vec F S1x1024x1792 .bf16
  u : Vec F S1x1024x1792 .bf16
  d : Vec F S1x1792x1024 .bf16

/-- The four input buffers, owned at those contents. -/
def insAt (c : Dev nD) (M : Bufs) (x : Ins F) : sProp 𝕄 :=
  iprop(owns (c : Thread nD τ) M.a3 fullShare x.x ∗ owns (c : Thread nD τ) M.a4 fullShare x.g
    ∗ owns (c : Thread nD τ) M.a5 fullShare x.u ∗ owns (c : Thread nD τ) M.a6 fullShare x.d)

/-- The body at coordinates `i`, on these buffers and the two tables. -/
abbrev bodyOn (i : grid0.Coords) (M : Bufs) : Prog (TpuEff nD τ sig (Elt F) Λ₀ .tc) PUnit :=
  cc0_expert_swiglu i tb0 (Memref.isWhole_whole _) tb1 (Memref.isWhole_whole _) M.a3 M.h3 M.a4 M.h4 M.a5 M.h5 M.a6 M.h6 M.a7 M.h7

/-- The number of tiles in use, as the body loads it. -/
abbrev usedW (T1 : pre0.Contents (Elt F)) : BitVec 32 :=
  tb1.view.readAt (Elt F) (Rect.unit (s := S1) ![0] S1.size inb_S1_S1_0).toLoadRect (T1 1) (Shape.Idx.first (numel1_S1.symm ▸ Nat.one_pos))

set_option maxHeartbeats 1000000 in
/-- A tile in use: its rows go through its expert. -/
def usedRun (c : Dev nD) (i : grid0.Coords) (M : Bufs) (T : pre0.Contents (Elt F))
    (h1 : k0_cond1 i (usedW T) = 1#1) (h2 : ¬k0_cond2 i (usedW T) = 1#1) (x : Ins F) :
    { L : List (View.Piece (Elt F) S512x8x128 .bf16) //
      ∀ (E : Set ℕ) (K : PUnit → sProp 𝕄),
        iprop(tbPt c tb0 (T 0) ∗ tbPt c tb1 (T 1) ∗ insAt c M x ∗ (∃ d, owns (c : Thread nD τ) M.a7 fullShare d)
            ∗ (iprop(tbPt c tb0 (T 0) ∗ tbPt c tb1 (T 1) ∗ insAt c M x
                ∗ (∃ f, M.a7.view.loc (c : Thread nD τ) ↦[M.a7.view.set]{fullShare} M.a7.view.writes (Elt F) f L)) -∗ K ⟨⟩))
          ⊢ wp frame (wpE (defs₀ (F := F)) Variants.none c none) E (bodyOn i M) K } := by
  refine ⟨?_, fun E K => ?run⟩
  case run =>
    unfold bodyOn; simp only [cc0_expert_swiglu_eq_skeleton]; unfold cc0_expert_swiglu_skel
    unfold insAt owns
    iintro ⟨HT0, HT1, ⟨⟨%f3, %hf3, H3⟩, ⟨%f4, %hf4, H4⟩, ⟨%f5, %hf5, H5⟩, ⟨%f6, %hf6, H6⟩⟩, ⟨%d7, %f7, -, H7⟩, Hk⟩
    obtain rfl := M.h3.eq_unread hf3; obtain rfl := M.h4.eq_unread hf4; obtain rfl := M.h5.eq_unread hf5; obtain rfl := M.h6.eq_unread hf6
    sl_exec (disch := first | sl_exact h1 | sl_exact h2)
    sl_step
    iapply Hk
    isplitl [HT0]; · iexact HT0
    isplitl [HT1]; · iexact HT1
    isplitl [H3 H4 H5 H6]
    · isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      iexists _; isplitr; · ipureintro; exact M.h6.read_unread _
      iexact H6
    iexists _; iexact H7

set_option maxHeartbeats 1000000 in
/-- A tile beyond them: the output tile is filled with zeros. -/
def restRun (c : Dev nD) (i : grid0.Coords) (M : Bufs) (T : pre0.Contents (Elt F))
    (h1 : ¬k0_cond1 i (usedW T) = 1#1) (h2 : k0_cond2 i (usedW T) = 1#1) (x : Ins F) :
    { L : List (View.Piece (Elt F) S512x8x128 .bf16) //
      ∀ (E : Set ℕ) (K : PUnit → sProp 𝕄),
        iprop(tbPt c tb0 (T 0) ∗ tbPt c tb1 (T 1) ∗ insAt c M x ∗ (∃ d, owns (c : Thread nD τ) M.a7 fullShare d)
            ∗ (iprop(tbPt c tb0 (T 0) ∗ tbPt c tb1 (T 1) ∗ insAt c M x
                ∗ (∃ f, M.a7.view.loc (c : Thread nD τ) ↦[M.a7.view.set]{fullShare} M.a7.view.writes (Elt F) f L)) -∗ K ⟨⟩))
          ⊢ wp frame (wpE (defs₀ (F := F)) Variants.none c none) E (bodyOn i M) K } := by
  refine ⟨?_, fun E K => ?run⟩
  case run =>
    unfold bodyOn; simp only [cc0_expert_swiglu_eq_skeleton]; unfold cc0_expert_swiglu_skel
    unfold owns
    iintro ⟨HT0, HT1, HI, ⟨%d7, %f7, -, H7⟩, Hk⟩
    sl_exec (disch := first | sl_exact h1 | sl_exact h2)
    sl_step
    iapply Hk
    isplitl [HT0]; · iexact HT0
    isplitl [HT1]; · iexact HT1
    isplitl [HI]; · iexact HI
    iexists _; iexact H7

end Cert.Kernel2Ideal.Experts

end
-- ==== Proof.Experts.Data.lean ====
/-
  What each point of the experts' call leaves: a tile in use, its rows through its expert; a tile beyond them, zeros.
-/
module

public import Idealize.ShloMosaic.Lib.Pipeline.ValueKit
public import proofs.«01_k».proof.Proof.Experts.Run

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers and blocks of a point -/

/-- Window 0's current staging buffer at point `t`. -/
abbrev stg0 (hO : Ok m) (t : Fin (cfgM m hO).N) : Memref sig .tc .vmem S512x8x128 .bf16 := spec0_0.stage ((cfgM m hO).slots t 0)
theorem stg0_whole (hO : Ok m) (t : Fin (cfgM m hO).N) : (stg0 m hO t).IsWhole := hstage0_0 (((cfgM m hO).slots t 0).cast nbuf0_0)
/-- Window 1's current staging buffer at point `t`. -/
abbrev stg1 (hO : Ok m) (t : Fin (cfgM m hO).N) : Memref sig .tc .vmem S1x1024x1792 .bf16 := spec0_1.stage ((cfgM m hO).slots t 1)
theorem stg1_whole (hO : Ok m) (t : Fin (cfgM m hO).N) : (stg1 m hO t).IsWhole := hstage0_1 (((cfgM m hO).slots t 1).cast nbuf0_1)
/-- Window 2's current staging buffer at point `t`. -/
abbrev stg2 (hO : Ok m) (t : Fin (cfgM m hO).N) : Memref sig .tc .vmem S1x1024x1792 .bf16 := spec0_2.stage ((cfgM m hO).slots t 2)
theorem stg2_whole (hO : Ok m) (t : Fin (cfgM m hO).N) : (stg2 m hO t).IsWhole := hstage0_2 (((cfgM m hO).slots t 2).cast nbuf0_2)
/-- Window 3's current staging buffer at point `t`. -/
abbrev stg3 (hO : Ok m) (t : Fin (cfgM m hO).N) : Memref sig .tc .vmem S1x1792x1024 .bf16 := spec0_3.stage ((cfgM m hO).slots t 3)
theorem stg3_whole (hO : Ok m) (t : Fin (cfgM m hO).N) : (stg3 m hO t).IsWhole := hstage0_3 (((cfgM m hO).slots t 3).cast nbuf0_3)
/-- Window 4's current staging buffer at point `t`. -/
abbrev stg4 (hO : Ok m) (t : Fin (cfgM m hO).N) : Memref sig .tc .vmem S512x8x128 .bf16 := spec0_4.stage ((cfgM m hO).slots t 4)
theorem stg4_whole (hO : Ok m) (t : Fin (cfgM m hO).N) : (stg4 m hO t).IsWhole := hstage0_4 (((cfgM m hO).slots t 4).cast nbuf0_4)

/-- The buffers the body is called with at point `t`. -/
abbrev bufs (hO : Ok m) (t : Fin (cfgM m hO).N) : Bufs :=
  ⟨stg0 m hO t, stg0_whole m hO t, stg1 m hO t, stg1_whole m hO t, stg2 m hO t, stg2_whole m hO t, stg3 m hO t, stg3_whole m hO t, stg4 m hO t, stg4_whole m hO t⟩

/-- The four input blocks of point `t`. -/
abbrev insOf (hO : Ok m) (c : Dev nD) (t : Fin (cfgM m hO).N) : Ins F :=
  ⟨iblk m hO c 0 t, iblk m hO c 1 t, iblk m hO c 2 t, iblk m hO c 3 t⟩

/-! ## The two kinds of point -/

/-- The body's two conditions are each other's negation. -/
theorem cond2_iff (i : grid0.Coords) (v : BitVec 32) : k0_cond2 i v = 1#1 ↔ ¬k0_cond1 i v = 1#1 := by
  have key : ∀ a b : Bool, b = !a →
      (Scalar.cmpi .ne (Scalar.extui (BitVec.ofBool b)) (0#32) = 1#1 ↔ ¬Scalar.cmpi .ne (Scalar.extui (BitVec.ofBool a)) (0#32) = 1#1) := by decide
  refine key (decide ((BitVec.ofNat 32 (i 0).val).toInt < v.toInt)) (decide (v.toInt ≤ (BitVec.ofNat 32 (i 0).val).toInt)) ?_
  rw [← decide_not]; exact decide_eq_decide.mpr not_lt.symm

/-- Point `t`'s tile is in use. -/
abbrev Used (hO : Ok m) (t : Fin (cfgM m hO).N) : Prop := k0_cond1 (grid0.coords t) (usedW (tbl m)) = 1#1

/-- The run of a tile in use, at its own buffers and blocks. -/
abbrev usedAt (hO : Ok m) (c : Dev nD) (t : Fin (cfgM m hO).N) (h : Used m hO t) :=
  usedRun c (grid0.coords t) (bufs m hO t) (tbl m) h (fun e => (cond2_iff _ _).mp e h) (insOf m hO c t)
/-- The run of a tile beyond them. -/
abbrev restAt (hO : Ok m) (c : Dev nD) (t : Fin (cfgM m hO).N) (h : ¬Used m hO t) :=
  restRun c (grid0.coords t) (bufs m hO t) (tbl m) h ((cond2_iff _ _).mpr h) (insOf m hO c t)

theorem used_cover (hO : Ok m) (c : Dev nD) (t : Fin (cfgM m hO).N) (h : Used m hO t) (y : S512x8x128.Idx) :
    ∃ pc ∈ (usedAt m hO c t h).1, y ∈ pc.1.set :=
  View.cover_of_tiledL (usedAt m hO c t h).1 S512x8x128.size (by sl_kernel_rfl) y
theorem rest_cover (hO : Ok m) (c : Dev nD) (t : Fin (cfgM m hO).N) (h : ¬Used m hO t) (y : S512x8x128.Idx) :
    ∃ pc ∈ (restAt m hO c t h).1, y ∈ pc.1.set :=
  View.cover_of_tiledL (restAt m hO c t h).1 S512x8x128.size (by sl_kernel_rfl) y

/-- What the output block holds after point `t`. -/
def outAt (hO : Ok m) (c : Dev nD) (t : Fin (cfgM m hO).N) : Vec F S512x8x128 .bf16 :=
  if h : Used m hO t then k0_pay1 (iblk m hO c 0 t) (iblk m hO c 1 t) (iblk m hO c 2 t) (iblk m hO c 3 t)
  else k0_pay2

/-- What a list of stored pieces leaves in a buffer of the output block's shape. -/
abbrev outOf (L : List (View.Piece (Elt F) S512x8x128 .bf16)) : Vec F S512x8x128 .bf16 :=
  (Memref.whole cc0_stg4_0).view.read (Elt F) ((Memref.whole cc0_stg4_0).view.writes (Elt F) (Memref.whole cc0_stg4_0).view.junk L)

/-- A run's single store leaves its payload. -/
theorem used_leaves (c : Dev nD) (i : grid0.Coords) (M : Bufs) (T : pre0.Contents (Elt F)) (h1) (h2) (x : Ins F) :
    outOf (usedRun c i M T h1 h2 x).1 = k0_pay1 x.x x.g x.u x.d := by
  unfold usedRun; frame_out
  exact View.canon_cons_unit_lit _ _ [] (by decide)
theorem rest_leaves (c : Dev nD) (i : grid0.Coords) (M : Bufs) (T : pre0.Contents (Elt F)) (h1) (h2) (x : Ins F) :
    outOf (restRun c i M T h1 h2 x).1 = k0_pay2 := by
  unfold restRun; frame_out
  exact View.canon_cons_unit_lit _ _ [] (by decide)

theorem used_out (hO : Ok m) (c : Dev nD) (t : Fin (cfgM m hO).N) (h : Used m hO t) :
    outOf (usedAt m hO c t h).1 = outAt m hO c t := by
  unfold outAt; rw [dif_pos h]; exact used_leaves c (grid0.coords t) (bufs m hO t) (tbl m) h (fun e => (cond2_iff _ _).mp e h) (insOf m hO c t)
theorem rest_out (hO : Ok m) (c : Dev nD) (t : Fin (cfgM m hO).N) (h : ¬Used m hO t) :
    outOf (restAt m hO c t h).1 = outAt m hO c t := by
  unfold outAt; rw [dif_neg h]; exact rest_leaves c (grid0.coords t) (bufs m hO t) (tbl m) h ((cond2_iff _ _).mpr h) (insOf m hO c t)

/-! ## The proof data -/

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- The output window is stored at every point. -/
theorem idle4 (pf : pre0.Contents (Elt F)) (i : grid0.Coords) : idle0 pf 4 i = false := by
  have key : ∀ a b : BitVec 1, (b = 1#1 ↔ ¬a = 1#1) → (!(a == 1#1) && !(b == 1#1)) = false := by decide
  exact key _ _ (cond2_iff i _)
theorem live4 (hO : Ok m) : ∀ t : Fin (cfgM m hO).N, (cfgM m hO).idle 4 (grid0.coords t) = false := by
  intro t
  have e : (cfgM m hO).idle = idle0 (tbl m) := rfl
  rw [e]
  exact idle4 (tbl m) (grid0.coords t)
theorem leaves0 (hO : Ok m) (c : Dev nD) (t : Fin (cfgM m hO).N) : (dats m hO 0 c).leavesExact 0 t = owns (c : Thread nD τ) (stg0 m hO t) fullShare (iblk m hO c 0 t) := by
  unfold Dat.leavesExact; rw [show (cfgM m hO).idle 0 ((cfgM m hO).grid.coords t) = false from rfl, after0]; rfl
theorem leaves1 (hO : Ok m) (c : Dev nD) (t : Fin (cfgM m hO).N) : (dats m hO 0 c).leavesExact 1 t = owns (c : Thread nD τ) (stg1 m hO t) fullShare (iblk m hO c 1 t) := by
  unfold Dat.leavesExact; rw [show (cfgM m hO).idle 1 ((cfgM m hO).grid.coords t) = false from rfl, after1]; rfl
theorem leaves2 (hO : Ok m) (c : Dev nD) (t : Fin (cfgM m hO).N) : (dats m hO 0 c).leavesExact 2 t = owns (c : Thread nD τ) (stg2 m hO t) fullShare (iblk m hO c 2 t) := by
  unfold Dat.leavesExact; rw [show (cfgM m hO).idle 2 ((cfgM m hO).grid.coords t) = false from rfl, after2]; rfl
theorem leaves3 (hO : Ok m) (c : Dev nD) (t : Fin (cfgM m hO).N) : (dats m hO 0 c).leavesExact 3 t = owns (c : Thread nD τ) (stg3 m hO t) fullShare (iblk m hO c 3 t) := by
  unfold Dat.leavesExact; rw [show (cfgM m hO).idle 3 ((cfgM m hO).grid.coords t) = false from rfl, after3]; rfl
theorem leaves4 (hO : Ok m) (c : Dev nD) (t : Fin (cfgM m hO).N) : (dats m hO 0 c).leavesExact 4 t = owns (c : Thread nD τ) (stg4 m hO t) fullShare (outAt m hO c t) := by
  unfold Dat.leavesExact; rw [show (cfgM m hO).idle 4 ((cfgM m hO).grid.coords t) = false from live4 m hO t, after4]; rfl

end Cert.Kernel2Ideal.Experts

end
-- ==== Proof.Experts.Frame.lean ====
/-
  The experts' call runs: every point leaves what the proof data say, and @main ends with its arrays there, every
  argument unchanged and every semaphore at zero. For any values, at tables the region admits.
-/
module

public import proofs.«01_k».proof.Proof.Experts.Data

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))
/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 1000000 in
/-- The body at any point: that kind's run applies, on the tables as the invariant hands them. -/
theorem sound_body (hO : Ok m) (c : Dev nD) (t : Fin (cfgM m hO).N) :
    bodyPre m hO c t ⊢ wp frame (wpE (defs₀ (F := F)) Variants.none c none) Set.univ (bodyOn (grid0.coords t) (bufs m hO t)) (fun _ => bodyPost m hO c t) := by
  unfold bodyPre bodyPost
  simp only [before0, before1, before2, before3]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl]
  rw [show (dats m hO 0 c).Φ t.castSucc = iprop(Pipeline.ΦA spec0 c ∗ Pipeline.ΦT pre0 (tbl m) c) from rfl]
  rw [leaves0, leaves1, leaves2, leaves3, leaves4, PhiT_eq]
  by_cases h : Used m hO t
  · iintro ⟨⟨HA, HT0, HT1⟩, Ho, ⟨%d0, H0⟩, ⟨%d1, H1⟩, ⟨%d2, H2⟩, ⟨%d3, H3⟩, ⟨%d4, H4⟩⟩
    iapply ((usedAt m hO c t h).2 Set.univ _)
    isplitl [HT0]; · iexact HT0
    isplitl [HT1]; · iexact HT1
    isplitl [H0 H1 H2 H3]
    · unfold insAt
      isplitl [H0]; · iexact H0
      isplitl [H1]; · iexact H1
      isplitl [H2]; · iexact H2
      iexact H3
    isplitl [H4]; · iexists _; iexact H4
    unfold insAt
    iintro ⟨HT0, HT1, ⟨H0, H1, H2, H3⟩, ⟨%e4, H4⟩⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (View.read_writes_of_cover _ _ _ _ _ (used_cover m hO c t h)).trans (used_out m hO c t h)
  · iintro ⟨⟨HA, HT0, HT1⟩, Ho, ⟨%d0, H0⟩, ⟨%d1, H1⟩, ⟨%d2, H2⟩, ⟨%d3, H3⟩, ⟨%d4, H4⟩⟩
    iapply ((restAt m hO c t h).2 Set.univ _)
    isplitl [HT0]; · iexact HT0
    isplitl [HT1]; · iexact HT1
    isplitl [H0 H1 H2 H3]
    · unfold insAt
      isplitl [H0]; · iexact H0
      isplitl [H1]; · iexact H1
      isplitl [H2]; · iexact H2
      iexact H3
    isplitl [H4]; · iexists _; iexact H4
    unfold insAt
    iintro ⟨HT0, HT1, ⟨H0, H1, H2, H3⟩, ⟨%e4, H4⟩⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (View.read_writes_of_cover _ _ _ _ _ (rest_cover m hO c t h)).trans (rest_out m hO c t h)

theorem defs₀_row (hO : Ok m) (c : Dev nD) (t : Fin (cfgM m hO).N) :
    (defs₀ (F := F)) .tc (cfgM m hO).body ((cfgM m hO).bodyArgs t ((cfgM m hO).slots t)) = bodyOn (grid0.coords t) (bufs m hO t) := by
  unfold defs₀; rw [Defs.onTc_tc]

set_option maxHeartbeats 2000000 in
/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO c]
  refine triple_restated (sound_body m hO c t) rfl .rfl fun _ => ?_
  unfold bodyPost; exact .rfl

set_option backward.isDefEq.respectTransparency.types false in
/-- Every weakly fair execution of @main terminates, with the pipeline's arrays at what the proof data give, every other
buffer as the region found it, and every semaphore at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c w => by fin_cases w <;> rfl)
    (howed := fun _ _ => rfl) (V := V m) (hmain := hmain m Variants.none) (hA := A_eq m hO) (hpf := fun c k => V_pre m c k)
    (hΦ := fun _ _ => rfl)

/-- The frame, for any values: the argument arrays end unchanged and every semaphore ends at zero. -/
theorem frame_any (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (show ∀ w : Fin 5, (spec0 w).arr.view.ref ≠ main_arg0 from by decide))).trans (V_arg m c main_arg0 (by decide)),
      ((h.1 c).2 main_arg1 (Pipeline.mem_restRefs_of main_arg1 (by decide) (show ∀ w : Fin 5, (spec0 w).arr.view.ref ≠ main_arg1 from by decide))).trans (V_arg m c main_arg1 (by decide)),
      ((h.1 c).2 main_arg2 (Pipeline.mem_restRefs_of main_arg2 (by decide) (show ∀ w : Fin 5, (spec0 w).arr.view.ref ≠ main_arg2 from by decide))).trans (V_arg m c main_arg2 (by decide)),
      ((h.1 c).2 main_arg3 (Pipeline.mem_restRefs_of main_arg3 (by decide) (show ∀ w : Fin 5, (spec0 w).arr.view.ref ≠ main_arg3 from by decide))).trans (V_arg m c main_arg3 (by decide)),
      ((h.1 c).2 main_arg4 (Pipeline.mem_restRefs_of main_arg4 (by decide) (show ∀ w : Fin 5, (spec0 w).arr.view.ref ≠ main_arg4 from by decide))).trans (V_arg m c main_arg4 (by decide))⟩, h.2⟩)
    (run_main_quiescent m ρ hO)

end Cert.Kernel2Ideal.Experts

end
-- ==== Proof.Experts.Place.lean ====
/-
  At tables within their bounds the region's side condition holds, and where each window's block then lies: an input
  window's tile at the point (clamped to the tiles in use), a weight window's at the tile's expert.
-/
module

public import proofs.«01_k».proof.Proof.Experts.Base
public import Idealize.ShloMosaic.Lib.Pointwise.Index
public import Idealize.ShloMosaic.Lib.Affine

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The expert of a tile and the number of tiles in use, when the region is entered. -/
def te (i : Fin 57) : BitVec 32 := (tbl m 0 : IVec S57 32) (ix1 i)
def nU : BitVec 32 := (tbl m 1 : IVec S1 32) (ix1 (0 : Fin 1))

/-- The tables' bounds. -/
structure TabOk : Prop where
  te_lt : ∀ i, (te m i).toNat < 8
  nU_pos : 1 ≤ (nU m).toNat
  nU_le : (nU m).toNat ≤ 57

instance : Subsingleton S1.Idx := ⟨fun a b => funext fun i => Fin.ext (by
  have ha := (a i).isLt; have hb := (b i).isLt
  match i with | ⟨0, _⟩ => exact (Nat.lt_one_iff.mp ha).trans (Nat.lt_one_iff.mp hb).symm)⟩

/-- The one word of the second table, wherever it is read. -/
theorem at1 (j : S1.Idx) : (tbl m 1 : IVec S1 32) j = nU m := by
  unfold nU; congr 1; exact Subsingleton.elim (α := S1.Idx) _ _
/-- The first table's word at an index of known position. -/
theorem at0 (j : S57.Idx) (i : Fin 57) (h : (j 0).val = i.val) : (tbl m 0 : IVec S57 32) j = te m i := by
  unfold te; congr 1; funext a; exact Fin.ext (by match a with | ⟨0, _⟩ => exact h)

/-- A grid coordinate's word. -/
theorem coord_toNat (i : grid0.Coords) : (BitVec.ofNat 32 (i 0).val).toNat = (i 0).val := by
  have : (i 0).val < 57 := (i 0).isLt
  rw [BitVec.toNat_ofNat]; omega

/-- The weights' windows take the tile's expert's block. -/
theorem transform_1 (i : grid0.Coords) : cc0_transform_1 k0_off1_inb numel1_S1 (tbl m) i = ![(te m (i 0)).toNat, 0, 0] := by
  have e : (tbl m).at 0 (Rect.unit (s := S57) ![(Scalar.indexCast (BitVec.ofNat 32 (i 0).val) : Index).toNat] S1.size (k0_off1_inb i)) numel1_S1 = te m (i 0) :=
    at0 m _ _ (by
      show ((![(BitVec.ofNat 32 (i 0).val).toNat] : Fin 1 → ℕ) 0) + 1 * 0 = _
      exact coord_toNat i)
  exact congrArg (fun w : BitVec 32 => ![w.toNat, 0, 0]) e
theorem transform_2 (i : grid0.Coords) : cc0_transform_2 k0_off1_inb numel1_S1 (tbl m) i = ![(te m (i 0)).toNat, 0, 0] := transform_1 m i
theorem transform_3 (i : grid0.Coords) : cc0_transform_3 k0_off1_inb numel1_S1 (tbl m) i = ![(te m (i 0)).toNat, 0, 0] := transform_1 m i

/-- The rows' window takes the point's tile, clamped to the tiles in use. -/
theorem transform_0 (hT : TabOk m) (i : grid0.Coords) :
    cc0_transform_0 inb_S1_S1_0 numel1_S1 (tbl m) i = ![min (i 0).val ((nU m).toNat - 1), 0, 0] := by
  have e : (tbl m).at 1 (Rect.unit (s := S1) ![0] S1.size inb_S1_S1_0) numel1_S1 = nU m := at1 m _
  have hi : (i 0).val < 57 := (i 0).isLt
  have h1 := hT.nU_pos; have h2 := hT.nU_le
  have e1 : (nU m - 1#32).toNat = (nU m).toNat - 1 := by rw [BitVec.toNat_sub_of_le (by rw [BitVec.le_def]; exact h1)]; rfl
  have e2 : (Scalar.minsi (BitVec.ofNat 32 (i 0).val) (Scalar.subi (nU m) 1#32)).toNat = min (i 0).val ((nU m).toNat - 1) := by
    show (if (BitVec.ofNat 32 (i 0).val).slt (nU m - 1#32) then BitVec.ofNat 32 (i 0).val else nU m - 1#32).toNat = _
    have ea := WordCmp.toInt_eq_toNat_of_lt_half (w := 32) (x := BitVec.ofNat 32 (i 0).val) (by rw [coord_toNat]; omega)
    have eb := WordCmp.toInt_eq_toNat_of_lt_half (w := 32) (x := nU m - 1#32) (by rw [e1]; omega)
    rw [coord_toNat] at ea; rw [e1] at eb
    rw [BitVec.slt_eq_decide, ea, eb]
    by_cases h : (i 0).val < (nU m).toNat - 1
    · rw [if_pos (by rw [decide_eq_true_iff]; omega), coord_toNat]; omega
    · rw [if_neg (by rw [decide_eq_true_iff]; omega), e1]; omega
  exact (congrArg (fun w : BitVec 32 => ![(Scalar.minsi (BitVec.ofNat 32 (i 0).val) (Scalar.subi w 1#32)).toNat, 0, 0]) e).trans
    (congrArg (fun n : ℕ => ![n, 0, 0]) e2)

/-- A tile is in use when it comes before the number of tiles in use. -/
theorem cond1_iff (hT : TabOk m) (i : grid0.Coords) : k0_cond1 i (nU m) = 1#1 ↔ (i 0).val < (nU m).toNat := by
  have hi : (i 0).val < 57 := (i 0).isLt
  have h2 := hT.nU_le
  have key : ∀ a : Bool, (Scalar.cmpi .ne (Scalar.extui (BitVec.ofBool a)) (0#32) = 1#1 ↔ a = true) := by decide
  refine (key (decide ((BitVec.ofNat 32 (i 0).val).toInt < (nU m).toInt))).trans ?_
  have ea := WordCmp.toInt_eq_toNat_of_lt_half (w := 32) (x := BitVec.ofNat 32 (i 0).val) (by rw [coord_toNat]; omega)
  have eb := WordCmp.toInt_eq_toNat_of_lt_half (w := 32) (x := nU m) (by omega)
  rw [coord_toNat] at ea
  rw [decide_eq_true_iff, ea, eb]; omega

/-- The region's side condition. -/
theorem ok (hT : TabOk m) : Ok m := by
  have h1 := hT.nU_pos; have h2 := hT.nU_le
  refine ⟨fun i => ?_, fun i => ?_, fun i => ?_, fun i => ?_⟩
  · have hb : ∀ a, (cc0_transform_0 inb_S1_S1_0 numel1_S1 (tbl m) i a + 1) * S512x8x128.size a ≤ S29184x8x128.size a := by
      rw [transform_0 m hT]; intro a
      fin_cases a
      · show (min (i 0).val ((nU m).toNat - 1) + 1) * 512 ≤ 29184; omega
      · exact le_of_eq rfl
      · exact le_of_eq rfl
    exact ⟨hb, .inr (Affine.block_words_dvd (of_decide_eq_true rfl) (by decide))⟩
  · have hb : ∀ a, (cc0_transform_1 k0_off1_inb numel1_S1 (tbl m) i a + 1) * S1x1024x1792.size a ≤ S8x1024x1792.size a := by
      rw [transform_1 m]; have := hT.te_lt (i 0); intro a
      fin_cases a
      · show ((te m (i 0)).toNat + 1) * 1 ≤ 8; omega
      · exact le_of_eq rfl
      · exact le_of_eq rfl
    exact ⟨hb, .inr (Affine.block_words_dvd (of_decide_eq_true rfl) (by decide))⟩
  · have hb : ∀ a, (cc0_transform_2 k0_off1_inb numel1_S1 (tbl m) i a + 1) * S1x1024x1792.size a ≤ S8x1024x1792.size a := by
      rw [transform_2 m]; have := hT.te_lt (i 0); intro a
      fin_cases a
      · show ((te m (i 0)).toNat + 1) * 1 ≤ 8; omega
      · exact le_of_eq rfl
      · exact le_of_eq rfl
    exact ⟨hb, .inr (Affine.block_words_dvd (of_decide_eq_true rfl) (by decide))⟩
  · have hb : ∀ a, (cc0_transform_3 k0_off1_inb numel1_S1 (tbl m) i a + 1) * S1x1792x1024.size a ≤ S8x1792x1024.size a := by
      rw [transform_3 m]; have := hT.te_lt (i 0); intro a
      fin_cases a
      · show ((te m (i 0)).toNat + 1) * 1 ≤ 8; omega
      · exact le_of_eq rfl
      · exact le_of_eq rfl
    exact ⟨hb, .inr (Affine.block_words_dvd (of_decide_eq_true rfl) (by decide))⟩

end Cert.Kernel2Ideal.Experts

end
-- ==== Proof.Experts.Host.lean ====
/-
  The arrays the experts' windows read, an entry at a time, in terms of the call's arguments.
-/
module

public import proofs.«01_k».proof.Proof.Experts.Data
public import Idealize.ShloMosaic.Lib.Pointwise
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The floating arguments of the call, at their shapes. -/
abbrev bX : FVec Ideal S29184x1024 .f32 := m ((c : Thread nD τ).loc main_arg1)
abbrev bG : FVec Ideal S1x8x1024x1792 .f32 := m ((c : Thread nD τ).loc main_arg2)
abbrev bU : FVec Ideal S1x8x1024x1792 .f32 := m ((c : Thread nD τ).loc main_arg3)
abbrev bD : FVec Ideal S1x8x1792x1024 .f32 := m ((c : Thread nD τ).loc main_arg4)

/-- The stretches before the last leave the floating arguments as they were. -/
theorem W6_arg (V0 : Valuation τ sig (Elt Ideal)) (b : Ref sig .tc) (hb : b ∈ [main_arg1, main_arg2, main_arg3, main_arg4]) :
    W6 V0 (Proc.devRef .tc b) = V0 (Proc.devRef .tc b) := by
  simp only [List.mem_cons, List.not_mem_nil, or_false] at hb
  rcases hb with rfl | rfl | rfl | rfl <;>
  exact (W6_keep _ _ (by decide)).trans <| (W5_keep _ _ (by decide)).trans <| (W4_keep _ _ (by decide)).trans <|
    (W3_keep _ _ (by decide)).trans <| (W2_keep _ _ (by decide)).trans <| W1_keep _ _ (by decide)

section
variable (V0 : Valuation τ sig (Elt Ideal))
theorem W6_arg1 : W6 V0 (no_index (Proc.devRef .tc main_arg1)) = V0 (Proc.devRef .tc main_arg1) := W6_arg V0 _ (by decide)
theorem W6_arg2 : W6 V0 (no_index (Proc.devRef .tc main_arg2)) = V0 (Proc.devRef .tc main_arg2) := W6_arg V0 _ (by decide)
theorem W6_arg3 : W6 V0 (no_index (Proc.devRef .tc main_arg3)) = V0 (Proc.devRef .tc main_arg3) := W6_arg V0 _ (by decide)
theorem W6_arg4 : W6 V0 (no_index (Proc.devRef .tc main_arg4)) = V0 (Proc.devRef .tc main_arg4) := W6_arg V0 _ (by decide)
end

theorem x_term : (V m c main_v23 : FVec Ideal S29184x8x128 .bf16)
    = (shapeCast _ (truncf .bf16 (bX m c) bitsLt_bf16_f32 : FVec Ideal S29184x1024 .bf16) shapeCasts_S29184x1024_S29184x8x128 : FVec Ideal S29184x8x128 .bf16) := by
  refine (V_eq m c main_v23).trans ?_
  unfold W7
  simp only [hostOps0_6]
  after_results_simp
  simp only [W6_arg1] <;> rfl
theorem x_entry (r : Fin 29184) (a : Fin 8) (b : Fin 128) :
    (V m c main_v23 : FVec Ideal S29184x8x128 .bf16) (ix3 r a b) = bX m c (ix2 r ⟨a.val * 128 + b.val, by omega⟩) := by
  rw [x_term]
  pointwise

theorem g_term : (V m c main_v25 : FVec Ideal S8x1024x1792 .bf16)
    = (truncf .bf16 (shapeCast _ (bG m c) shapeCasts_S1x8x1024x1792_S8x1024x1792 : FVec Ideal S8x1024x1792 .f32) bitsLt_bf16_f32 : FVec Ideal S8x1024x1792 .bf16) := by
  refine (V_eq m c main_v25).trans ?_
  unfold W7
  simp only [hostOps0_6]
  after_results_simp
  simp only [W6_arg2] <;> rfl
theorem g_entry (e : Fin 8) (k : Fin 1024) (f : Fin 1792) :
    (V m c main_v25 : FVec Ideal S8x1024x1792 .bf16) (ix3 e k f) = bG m c (ix4 0 e k f) := by
  rw [g_term]
  pointwise

theorem u_term : (V m c main_v27 : FVec Ideal S8x1024x1792 .bf16)
    = (truncf .bf16 (shapeCast _ (bU m c) shapeCasts_S1x8x1024x1792_S8x1024x1792 : FVec Ideal S8x1024x1792 .f32) bitsLt_bf16_f32 : FVec Ideal S8x1024x1792 .bf16) := by
  refine (V_eq m c main_v27).trans ?_
  unfold W7
  simp only [hostOps0_6]
  after_results_simp
  simp only [W6_arg3] <;> rfl
theorem u_entry (e : Fin 8) (k : Fin 1024) (f : Fin 1792) :
    (V m c main_v27 : FVec Ideal S8x1024x1792 .bf16) (ix3 e k f) = bU m c (ix4 0 e k f) := by
  rw [u_term]
  pointwise

theorem d_term : (V m c main_v29 : FVec Ideal S8x1792x1024 .bf16)
    = (truncf .bf16 (shapeCast _ (bD m c) shapeCasts_S1x8x1792x1024_S8x1792x1024 : FVec Ideal S8x1792x1024 .f32) bitsLt_bf16_f32 : FVec Ideal S8x1792x1024 .bf16) := by
  refine (V_eq m c main_v29).trans ?_
  unfold W7
  simp only [hostOps0_6]
  after_results_simp
  simp only [W6_arg4] <;> rfl
theorem d_entry (e : Fin 8) (f : Fin 1792) (o : Fin 1024) :
    (V m c main_v29 : FVec Ideal S8x1792x1024 .bf16) (ix3 e f o) = bD m c (ix4 0 e f o) := by
  rw [d_term]
  pointwise

end Cert.Kernel2Ideal.Experts

end
-- ==== Proof.Experts.Blocks.lean ====
/-
  The experts' blocks as pieces of the call's arguments.
-/
module

public import proofs.«01_k».proof.Proof.Experts.Place
public import proofs.«01_k».proof.Proof.Experts.Host

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

theorem lt57 (t : Fin (cfgM m hO).N) : t.val < 57 := t.isLt
theorem coords0 : ∀ t : Fin grid0.N, (grid0.coords t 0).val = t.val := by decide +kernel
/-- A point's tile. -/
def pt (t : Fin (cfgM m hO).N) : Fin 57 := ⟨t.val, t.isLt⟩
theorem pt_eq (t : Fin (cfgM m hO).N) : grid0.coords t 0 = pt m hO t := Fin.ext (coords0 t)

theorem idx0 (hT : TabOk m) (t : Fin (cfgM m hO).N) : ((cfgM m hO).win 0).index t = ![min t.val ((nU m).toNat - 1), 0, 0] := by
  refine (transform_0 m hT (grid0.coords t)).trans ?_
  rw [coords0 t]
theorem idx1 (t : Fin (cfgM m hO).N) : ((cfgM m hO).win 1).index t = ![(te m (pt m hO t)).toNat, 0, 0] := by
  refine (transform_1 m (grid0.coords t)).trans ?_
  rw [pt_eq m hO t]
theorem idx2 (t : Fin (cfgM m hO).N) : ((cfgM m hO).win 2).index t = ![(te m (pt m hO t)).toNat, 0, 0] := idx1 m hO t
theorem idx3 (t : Fin (cfgM m hO).N) : ((cfgM m hO).win 3).index t = ![(te m (pt m hO t)).toNat, 0, 0] := idx1 m hO t

/-- A point's rows, when its tile is in use. -/
theorem blk0 (hT : TabOk m) (t : Fin (cfgM m hO).N) (h : t.val < (nU m).toNat) (r : Fin 512) (a : Fin 8) (b : Fin 128) :
    (iblk m hO c 0 t : FVec Ideal S512x8x128 .bf16) (ix3 r a b)
      = bX m c (ix2 ⟨t.val * 512 + r.val, by have := lt57 m hO t; omega⟩ ⟨a.val * 128 + b.val, by omega⟩) := by
  have e : min t.val ((nU m).toNat - 1) = t.val := by omega
  have i0 := idx0 m hO hT t
  rw [e] at i0
  refine Eq.trans ?_ (x_entry m c ⟨t.val * 512 + r.val, by have := lt57 m hO t; omega⟩ a b)
  blk_ext [iblk, i0]

/-- A point's expert's matrices. -/
theorem blk1 (t : Fin (cfgM m hO).N) (h : (te m (pt m hO t)).toNat < 8) (k : Fin 1024) (f : Fin 1792) :
    (iblk m hO c 1 t : FVec Ideal S1x1024x1792 .bf16) (ix3 0 k f) = bG m c (ix4 0 ⟨(te m (pt m hO t)).toNat, h⟩ k f) := by
  refine Eq.trans ?_ (g_entry m c ⟨(te m (pt m hO t)).toNat, h⟩ k f)
  blk_ext [iblk, idx1 m hO t]
theorem blk2 (t : Fin (cfgM m hO).N) (h : (te m (pt m hO t)).toNat < 8) (k : Fin 1024) (f : Fin 1792) :
    (iblk m hO c 2 t : FVec Ideal S1x1024x1792 .bf16) (ix3 0 k f) = bU m c (ix4 0 ⟨(te m (pt m hO t)).toNat, h⟩ k f) := by
  refine Eq.trans ?_ (u_entry m c ⟨(te m (pt m hO t)).toNat, h⟩ k f)
  blk_ext [iblk, idx2 m hO t]
theorem blk3 (t : Fin (cfgM m hO).N) (h : (te m (pt m hO t)).toNat < 8) (f : Fin 1792) (o : Fin 1024) :
    (iblk m hO c 3 t : FVec Ideal S1x1792x1024 .bf16) (ix3 0 f o) = bD m c (ix4 0 ⟨(te m (pt m hO t)).toNat, h⟩ f o) := by
  refine Eq.trans ?_ (d_entry m c ⟨(te m (pt m hO t)).toNat, h⟩ f o)
  blk_ext [iblk, idx3 m hO t]

end Cert.Kernel2Ideal.Experts

end
-- ==== Proof.Experts.Pay.lean ====
/-
  What a tile's run stores, an entry at a time.
-/
module

public import proofs.«01_k».proof.Proof.Gen.Kernel2Ideal.Skeleton
public import proofs.«01_k».proof.Proof.Experts.Math
public import Idealize.ShloMosaic.Lib.Pipeline.ValueKit
public import Idealize.ShloMosaic.Lib.Pointwise

@[expose] public section

set_option maxRecDepth 16384

noncomputable section

namespace Cert.Kernel2Ideal.Experts

open Cert.Kernel2Ideal Cert.Kernel2Ideal.Gen Cert.Experts
open Idealize.ShloMosaic Idealize.ShloMosaic.TcCoe Idealize.SL.Sem

/-- A tile in use: each of its rows through the expert. -/
theorem pay1_at (x : FVec Ideal S512x8x128 .bf16) (g u : FVec Ideal S1x1024x1792 .bf16) (d : FVec Ideal S1x1792x1024 .bf16)
    (r : Fin 512) (a : Fin 8) (b : Fin 128) :
    k0_pay1 (F := Ideal) x g u d (ix3 r a b)
      = ffn (fun k => x (ix3 r ⟨k.val / 128, by omega⟩ ⟨k.val % 128, by omega⟩)) (fun k f => g (ix3 0 k f)) (fun k f => u (ix3 0 k f))
          (fun f o => d (ix3 0 f o)) ⟨a.val * 128 + b.val, by omega⟩ := by
  unfold k0_pay1 ffn silu
  pointwise

/-- A tile beyond them: zeros. -/
theorem pay2_at (y : S512x8x128.Idx) : (k0_pay2 (F := Ideal)) y = (0 : EReal) := by
  obtain ⟨y0, y1, y2, rfl⟩ : ∃ y0 y1 y2, y = ix3 y0 y1 y2 := ⟨y 0, y 1, y 2, by funext a; fin_cases a <;> rfl⟩
  unfold k0_pay2
  pointwise

end Cert.Kernel2Ideal.Experts

end
-- ==== Proof.Experts.Final.lean ====
/-
  What the experts' call leaves in its result.
-/
module

public import proofs.«01_k».proof.Proof.Experts.Blocks
public import proofs.«01_k».proof.Proof.Experts.Pay

@[expose] public section

set_option maxRecDepth 16384

noncomputable section

namespace Cert.Kernel2Ideal.Experts

open Cert.Kernel2Ideal Cert.Kernel2Ideal.Gen Cert.Experts
open Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

/-- A row's tile, and a tile's expert. -/
def tile (r : Fin 29184) : Fin 57 := ⟨r.val / 512, by omega⟩
def ex (hT : TabOk m) (i : Fin 57) : Fin 8 := ⟨(te m i).toNat, hT.te_lt i⟩

/-- The result: a row of a tile in use, through its tile's expert; zero beyond. -/
def outF (hT : TabOk m) (r : Fin 29184) (o : Fin 1024) : EReal :=
  if (tile r).val < (nU m).toNat then
    ffn (fun k => bX m c (ix2 r k)) (fun k f => bG m c (ix4 0 (ex m hT (tile r)) k f))
      (fun k f => bU m c (ix4 0 (ex m hT (tile r)) k f)) (fun f o => bD m c (ix4 0 (ex m hT (tile r)) f o)) o
  else 0

theorem used_iff (hT : TabOk m) (t : Fin (cfgM m hO).N) : Used m hO t ↔ t.val < (nU m).toNat := by
  have e : usedW (tbl m) = nU m := at1 m _
  unfold Used
  rw [e, cond1_iff m hT]
  exact iff_of_eq (congrArg (· < (nU m).toNat) (coords0 t))

/-- Every point's tile is the result at its rows. -/
theorem out_at (hT : TabOk m) (t : Fin (cfgM m hO).N) (r : Fin 512) (a : Fin 8) (b : Fin 128) :
    (outAt m hO c t : FVec Ideal S512x8x128 .bf16) (ix3 r a b)
      = outF m c hT ⟨t.val * 512 + r.val, by have := lt57 m hO t; omega⟩ ⟨a.val * 128 + b.val, by omega⟩ := by
  have h57 := lt57 m hO t
  have hp : tile ⟨t.val * 512 + r.val, by omega⟩ = pt m hO t := Fin.ext (by show (t.val * 512 + r.val) / 512 = t.val; omega)
  unfold outAt outF
  rw [hp]
  have hu : Used m hO t ↔ (pt m hO t).val < (nU m).toNat := used_iff m hO hT t
  by_cases h : Used m hO t
  · rw [dif_pos h, if_pos (hu.mp h)]
    refine (pay1_at _ _ _ _ r a b).trans ?_
    have ht := hT.te_lt (pt m hO t)
    congr 1
    · funext k
      rw [blk0 m hO c hT t (hu.mp h)]
      refine congrArg (fun z => bX m c (ix2 _ z)) (Fin.ext ?_)
      dsimp only; omega
    · funext k f; exact blk1 m hO c t ht k f
    · funext k f; exact blk2 m hO c t ht k f
    · funext f o; exact blk3 m hO c t ht f o
  · rw [dif_neg h, if_neg (fun e => h (hu.mpr e))]
    exact pay2_at _

/-- Each point writes its tile back, at its own place. -/
theorem flush4 : ∀ t : Fin grid0.N, Pipeline.Window.flushOf grid0 true cc0_transform_4 t = true := by decide +kernel
theorem place4 : ∀ t : Fin grid0.N, cc0_transform_4 (grid0.coords t) = ![t.val, 0, 0] := by decide +kernel
theorem idx4 (t : Fin (cfgM m hO).N) : ((cfgM m hO).win 4).index t = ![t.val, 0, 0] := place4 t

theorem nblk4 : ((cfgM m hO).win 4).nblk (0 : Fin 3) = 57 ∧ ((cfgM m hO).win 4).nblk (1 : Fin 3) = 1 ∧ ((cfgM m hO).win 4).nblk (2 : Fin 3) = 1 := by
  unfold Pipeline.Window.nblk
  refine ⟨?_, ?_, ?_⟩
  · show (29184 + 512 - 1) / 512 = 57
    norm_num
  · show (8 + 8 - 1) / 8 = 1
    norm_num
  · show (128 + 128 - 1) / 128 = 1
    norm_num

theorem covers4 : ((cfgM m hO).win 4).Covers := by
  obtain ⟨n0, n1, n2⟩ := nblk4 m hO
  refine ⟨(by decide : ∀ a : Fin 3, 0 < S512x8x128.size a), fun β => ?_⟩
  have h0 := (β (0 : Fin 3)).isLt
  have h1 := (β (1 : Fin 3)).isLt
  have h2 := (β (2 : Fin 3)).isLt
  replace h0 := lt_of_lt_of_eq h0 n0
  replace h1 := lt_of_lt_of_eq h1 n1
  replace h2 := lt_of_lt_of_eq h2 n2
  refine ⟨⟨(β (0 : Fin 3)).val, h0⟩, flush4 _, fun a => ⟨?_, Or.inl rfl⟩⟩
  rw [idx4]
  match a with
  | ⟨0, _⟩ => rfl
  | ⟨1, _⟩ => exact (Nat.lt_one_iff.mp h1).symm
  | ⟨2, _⟩ => exact (Nat.lt_one_iff.mp h2).symm

/-- Where the result's block places a tile's entry. -/
theorem emb4 (t : Fin (cfgM m hO).N) (y0 : Fin 512) (y1 : Fin 8) (y2 : Fin 128) :
    (((cfgM m hO).win 4).blk t).view.emb (ix3 y0 y1 y2 : S512x8x128.Idx)
      = (ix3 ⟨t.val * 512 + y0.val, by have := lt57 m hO t; omega⟩ y1 y2 : S29184x8x128.Idx) := by
  have i4 := idx4 m hO t
  blk_ext [i4]

/-- The result, at its index. -/
def resF (hT : TabOk m) (i : S29184x8x128.Idx) : EReal :=
  outF m c hT (i 0) ⟨(i 1).val * 128 + (i 2).val, by
    have h1 : (i 1).val < 8 := (i 1).isLt
    have h2 : (i 2).val < 128 := (i 2).isLt
    omega⟩

/-- The result after the run. -/
theorem final (hT : TabOk m) : (dats m hO 0 c).arrAt 4 (cfgM m hO).N = resF m c hT := by
  refine (dats m hO 0 c).arrAt_eq_of_covers 4 _ (covers4 m hO) fun t _ y => ?_
  blk_simp
  rw [after4]
  have hy : ∃ (y0 : Fin 512) (y1 : Fin 8) (y2 : Fin 128), y = (ix3 y0 y1 y2 : S512x8x128.Idx) :=
    ⟨y (0 : Fin 3), y (1 : Fin 3), y (2 : Fin 3), by funext a; match a with | ⟨0, _⟩ => rfl | ⟨1, _⟩ => rfl | ⟨2, _⟩ => rfl⟩
  obtain ⟨y0, y1, y2, rfl⟩ := hy
  exact (out_at m hO c hT t y0 y1 y2).trans (congrArg (resF m c hT) (emb4 m hO t y0 y1 y2)).symm

end Cert.Kernel2Ideal.Experts

end
-- ==== Proof.Experts.RefDef.lean ====
/-
  The reference of the experts' call, its composed term put together of one expert's contribution at a time.
-/
module

public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Reference2Ideal.Experts

open Cert.Reference2Ideal Cert.Reference2Ideal.Gen
open Idealize.ShloMosaic Idealize.ShloMosaic.TcCoe Idealize.SL.Sem

/-- One expert's matrix of a stack of eight. -/
def matA (W : FVec Ideal S1x8x1024x1792 .f32) (off : Fin 4 → ℕ) (h : S1x8x1024x1792.Slices off S1x1x1024x1792) : FVec Ideal S1024x1792 .f32 :=
  shapeCast _ (extractStridedSlice S1x1x1024x1792 off W h) shapeCasts_S1x1x1024x1792_S1024x1792
def matB (W : FVec Ideal S1x8x1792x1024 .f32) (off : Fin 4 → ℕ) (h : S1x8x1792x1024.Slices off S1x1x1792x1024) : FVec Ideal S1792x1024 .f32 :=
  shapeCast _ (extractStridedSlice S1x1x1792x1024 off W h) shapeCasts_S1x1x1792x1024_S1792x1024

/-- Rows times a matrix, into the hidden width and back. -/
def into (x : FVec Ideal S29184x1024 .f32) (w : FVec Ideal S1024x1792 .f32) : FVec Ideal S29184x1792 .f32 :=
  Host.dotGeneral dot_S29184x1024_S1024x1792_S29184x1792_1_0_0_1_n_n none x w
def back (z : FVec Ideal S29184x1792 .f32) (w : FVec Ideal S1792x1024 .f32) : FVec Ideal S29184x1024 .f32 :=
  Host.dotGeneral dot_S29184x1792_S1792x1024_S29184x1024_1_0_0_1_n_n none z w

/-- The activation. -/
def act (s : FVec Ideal S29184x1792 .f32) : FVec Ideal S29184x1792 .f32 :=
  mulf s (Host.divf (broadcastInDim S29184x1792 ![] bcast_S_S29184x1792 (constant S_ .f32 0x3F800000#32))
    (addf (broadcastInDim S29184x1792 ![] bcast_S_S29184x1792 (constant S_ .f32 0x3F800000#32)) (Host.exp (Host.negf s))))

/-- An expert's entry of a list of eight, for every row. -/
def pick (v : IVec S8 32) (off : Fin 1 → ℕ) (h : S8.Slices off S1) : IVec S29184 32 :=
  broadcastInDim S29184 ![] bcast_S_S29184 (shapeCast _ (extractStridedSlice S1 off v h) shapeCasts_S1_S_)

/-- The rows of one expert, from their start up to their end. -/
def mine (s n : IVec S8 32) (off : Fin 1 → ℕ) (h : S8.Slices off S1) : IVec S29184 1 :=
  andi (cmpi .sle (pick s off h) (iotaInDim S29184 32 0)) (cmpi .slt (iotaInDim S29184 32 0) (pick n off h))

/-- A row's value where a mark is set, zero elsewhere. -/
def keep (p : IVec S29184 1) (z : FVec Ideal S29184x1024 .f32) : FVec Ideal S29184x1024 .f32 :=
  select (broadcastInDim S29184x1024 ![0, 1] bcast_S29184x1_S29184x1024_0_1 (broadcastInDim S29184x1 ![0] bcast_S29184_S29184x1_0 p)) z
    (broadcastInDim S29184x1024 ![] bcast_S_S29184x1024 (id (constant S_ .f32 0x00000000#32)))

/-- One expert's contribution. -/
def part (s n : IVec S8 32) (x : FVec Ideal S29184x1024 .f32) (off : Fin 1 → ℕ) (h : S8.Slices off S1)
    (g u : FVec Ideal S1024x1792 .f32) (d : FVec Ideal S1792x1024 .f32) : FVec Ideal S29184x1024 .f32 :=
  keep (mine s n off h) (back (mulf (act (into x g)) (into x u)) d)

variable (V0 : Valuation τ sig (Elt Ideal))

abbrev aC : IVec S8 32 := V0 (Proc.devRef .tc main_arg0)
abbrev aX : FVec Ideal S29184x1024 .f32 := V0 (Proc.devRef .tc main_arg1)
abbrev aG : FVec Ideal S1x8x1024x1792 .f32 := V0 (Proc.devRef .tc main_arg2)
abbrev aU : FVec Ideal S1x8x1024x1792 .f32 := V0 (Proc.devRef .tc main_arg3)
abbrev aD : FVec Ideal S1x8x1792x1024 .f32 := V0 (Proc.devRef .tc main_arg4)

/-- The experts' starts and ends. -/
abbrev ends : IVec S8 32 := Value.res_main_v6 V0
abbrev starts : IVec S8 32 := Value.res_main_v7 V0

def part0 : FVec Ideal S29184x1024 .f32 := part (starts V0) (ends V0) (aX V0) ![0] slices_S8_S1_0
  (matA (aG V0) ![0, 0, 0, 0] slices_S1x8x1024x1792_S1x1x1024x1792_0_0_0_0) (matA (aU V0) ![0, 0, 0, 0] slices_S1x8x1024x1792_S1x1x1024x1792_0_0_0_0)
  (matB (aD V0) ![0, 0, 0, 0] slices_S1x8x1792x1024_S1x1x1792x1024_0_0_0_0)
def part1 : FVec Ideal S29184x1024 .f32 := part (starts V0) (ends V0) (aX V0) ![1] slices_S8_S1_1
  (matA (aG V0) ![0, 1, 0, 0] slices_S1x8x1024x1792_S1x1x1024x1792_0_1_0_0) (matA (aU V0) ![0, 1, 0, 0] slices_S1x8x1024x1792_S1x1x1024x1792_0_1_0_0)
  (matB (aD V0) ![0, 1, 0, 0] slices_S1x8x1792x1024_S1x1x1792x1024_0_1_0_0)
def part2 : FVec Ideal S29184x1024 .f32 := part (starts V0) (ends V0) (aX V0) ![2] slices_S8_S1_2
  (matA (aG V0) ![0, 2, 0, 0] slices_S1x8x1024x1792_S1x1x1024x1792_0_2_0_0) (matA (aU V0) ![0, 2, 0, 0] slices_S1x8x1024x1792_S1x1x1024x1792_0_2_0_0)
  (matB (aD V0) ![0, 2, 0, 0] slices_S1x8x1792x1024_S1x1x1792x1024_0_2_0_0)
def part3 : FVec Ideal S29184x1024 .f32 := part (starts V0) (ends V0) (aX V0) ![3] slices_S8_S1_3
  (matA (aG V0) ![0, 3, 0, 0] slices_S1x8x1024x1792_S1x1x1024x1792_0_3_0_0) (matA (aU V0) ![0, 3, 0, 0] slices_S1x8x1024x1792_S1x1x1024x1792_0_3_0_0)
  (matB (aD V0) ![0, 3, 0, 0] slices_S1x8x1792x1024_S1x1x1792x1024_0_3_0_0)
def part4 : FVec Ideal S29184x1024 .f32 := part (starts V0) (ends V0) (aX V0) ![4] slices_S8_S1_4
  (matA (aG V0) ![0, 4, 0, 0] slices_S1x8x1024x1792_S1x1x1024x1792_0_4_0_0) (matA (aU V0) ![0, 4, 0, 0] slices_S1x8x1024x1792_S1x1x1024x1792_0_4_0_0)
  (matB (aD V0) ![0, 4, 0, 0] slices_S1x8x1792x1024_S1x1x1792x1024_0_4_0_0)
def part5 : FVec Ideal S29184x1024 .f32 := part (starts V0) (ends V0) (aX V0) ![5] slices_S8_S1_5
  (matA (aG V0) ![0, 5, 0, 0] slices_S1x8x1024x1792_S1x1x1024x1792_0_5_0_0) (matA (aU V0) ![0, 5, 0, 0] slices_S1x8x1024x1792_S1x1x1024x1792_0_5_0_0)
  (matB (aD V0) ![0, 5, 0, 0] slices_S1x8x1792x1024_S1x1x1792x1024_0_5_0_0)
def part6 : FVec Ideal S29184x1024 .f32 := part (starts V0) (ends V0) (aX V0) ![6] slices_S8_S1_6
  (matA (aG V0) ![0, 6, 0, 0] slices_S1x8x1024x1792_S1x1x1024x1792_0_6_0_0) (matA (aU V0) ![0, 6, 0, 0] slices_S1x8x1024x1792_S1x1x1024x1792_0_6_0_0)
  (matB (aD V0) ![0, 6, 0, 0] slices_S1x8x1792x1024_S1x1x1792x1024_0_6_0_0)
def part7 : FVec Ideal S29184x1024 .f32 := part (starts V0) (ends V0) (aX V0) ![7] slices_S8_S1_7
  (matA (aG V0) ![0, 7, 0, 0] slices_S1x8x1024x1792_S1x1x1024x1792_0_7_0_0) (matA (aU V0) ![0, 7, 0, 0] slices_S1x8x1024x1792_S1x1x1024x1792_0_7_0_0)
  (matB (aD V0) ![0, 7, 0, 0] slices_S1x8x1792x1024_S1x1x1792x1024_0_7_0_0)

theorem three_eq : Value.res_main_v77 V0 = addf (addf (addf (broadcastInDim S29184x1024 ![] bcast_S_S29184x1024 (constant S_ .f32 0x00000000#32))
    (part0 V0)) (part1 V0)) (part2 V0) := rfl
theorem six_eq : Value.res_main_v146 V0 = addf (addf (addf (Value.res_main_v77 V0) (part3 V0)) (part4 V0)) (part5 V0) := rfl

/-- The reference's sum over the experts. -/
def total : FVec Ideal S29184x1024 .f32 := addf (addf (Value.res_main_v146 V0) (part6 V0)) (part7 V0)

theorem res_eq : total V0 = addf (addf (addf (addf (addf (addf (addf (addf
    (broadcastInDim S29184x1024 ![] bcast_S_S29184x1024 (constant S_ .f32 0x00000000#32))
    (part0 V0)) (part1 V0)) (part2 V0)) (part3 V0)) (part4 V0)) (part5 V0)) (part6 V0)) (part7 V0) := by
  unfold total; rw [six_eq, three_eq]

/-- The reference's result. -/
def result : FVec Ideal S29184x8x128 .bf16 :=
  shapeCast _ (truncf .bf16 (total V0) bitsLt_bf16_f32 : FVec Ideal S29184x1024 .bf16) shapeCasts_S29184x1024_S29184x8x128

end Cert.Reference2Ideal.Experts

end
-- ==== Proof.Experts.Counts.lean ====
/-
  From the experts' counts to the rows of each: a count rounded up to whole tiles of 512 rows, the running ends of these
  sizes, and which expert a tile belongs to. Here in natural numbers and in the words that hold them; the counts are those
  of the 24576 choices, so that nothing overflows.
-/
module

public import Idealize.ShloMosaic.Lib.Routing.Words
public import Idealize.ShloMosaic.Lib.WordCmp
public import Idealize.ShloMosaic.Lib.Pointwise.Index

@[expose] public section

set_option maxRecDepth 16384

noncomputable section

namespace Cert.Experts

open Idealize.ShloMosaic Idealize.ShloMosaic.Routing

/-- An expert's count. -/
def cnt (c : IVec (shape1 8) 32) (e : ℕ) : ℕ := if h : e < 8 then (c (ix1 ⟨e, h⟩)).toNat else 0
/-- The tiles an expert's rows fill. -/
def tiles (c : IVec (shape1 8) 32) (e : ℕ) : ℕ := (cnt c e + 511) / 512
/-- The rows of them. -/
def rowsOf (c : IVec (shape1 8) 32) (e : ℕ) : ℕ := tiles c e * 512
/-- The end of an expert's rows. -/
def endOf (c : IVec (shape1 8) 32) (e : ℕ) : ℕ := ((List.range (e + 1)).map (rowsOf c)).sum

/-- The counts are those of the 24576 choices. -/
def CntOk (c : IVec (shape1 8) 32) : Prop := (∀ e : Fin 8, (c (ix1 e)).toNat ≤ 24576) ∧ ((List.range 8).map (cnt c)).sum = 24576

theorem cnt_at (c : IVec (shape1 8) 32) (e : Fin 8) : cnt c e.val = (c (ix1 e)).toNat := by
  unfold cnt; rw [dif_pos e.isLt]

theorem cnt_word (c : IVec (shape1 8) 32) (e : Fin 8) : c (ix1 e) = BitVec.ofNat 32 (cnt c e.val) := by
  rw [cnt_at]; exact (BitVec.ofNat_toNat 32 _ ▸ (by simp))

theorem cnt_le (c : IVec (shape1 8) 32) (h : CntOk c) (e : ℕ) : cnt c e ≤ 24576 := by
  unfold cnt; split
  · exact h.1 _
  · omega

theorem endOf_eq (c : IVec (shape1 8) 32) (e : ℕ) : endOf c e = 512 * ((List.range (e + 1)).map (tiles c)).sum := by
  unfold endOf
  induction e + 1 with
  | zero => rfl
  | succ n ih => rw [List.range_succ, List.map_append, List.map_append, List.sum_append, List.sum_append, ih]; simp [rowsOf]; ring

theorem rowsOf_le (c : IVec (shape1 8) 32) (e : ℕ) : rowsOf c e ≤ endOf c e := by
  unfold endOf; rw [List.range_succ, List.map_append, List.sum_append]; simp

/-- All the rows: at least a tile, at most 57 of them. -/
theorem total (c : IVec (shape1 8) 32) (h : CntOk c) : 1 ≤ endOf c 7 / 512 ∧ endOf c 7 / 512 ≤ 57 := by
  have h2 := h.2
  rw [endOf_eq]
  simp only [List.range_succ, List.range_zero, List.map_append, List.sum_append, List.map_nil, List.map_cons, List.sum_nil, List.sum_cons, List.nil_append, tiles] at h2 ⊢
  omega

theorem endOf_le (c : IVec (shape1 8) 32) (h : CntOk c) (e : Fin 8) : endOf c e.val ≤ 29184 := by
  have t := (total c h).2
  rw [endOf_eq] at t ⊢
  have : ∀ e : Fin 8, ((List.range (e.val + 1)).map (tiles c)).sum ≤ ((List.range (7 + 1)).map (tiles c)).sum := by
    intro e
    fin_cases e <;>
      simp only [List.range_succ, List.range_zero, List.map_append, List.sum_append, List.map_nil, List.map_cons, List.sum_nil, List.sum_cons, List.nil_append] <;> omega
  have := this e
  omega

/-- A row's place among the experts' rows, by its tile: the expert of a tile is the number of experts whose rows end at or
    before it. -/
theorem place (c : IVec (shape1 8) 32) (r : ℕ) (e : Fin 8) :
    (endOf c e.val - rowsOf c e.val ≤ r ∧ r < endOf c e.val) ↔
      (r / 512 < endOf c 7 / 512 ∧ min (Nat.count (fun q => endOf c q ≤ r / 512 * 512) 8) 7 = e.val) := by
  have hr : r / 512 * 512 ≤ r ∧ r < r / 512 * 512 + 512 := by omega
  generalize r / 512 = t at hr ⊢
  have key : ∀ s, 512 * s ≤ t * 512 ↔ s ≤ t := fun s => by omega
  have hd : ∀ s, 512 * s / 512 = s := fun s => by omega
  simp only [Nat.count_succ, Nat.count_zero, endOf_eq, key, hd]
  fin_cases e <;>
  · simp only [rowsOf, List.range_succ, List.range_zero, List.map_append, List.sum_append, List.map_nil,
      List.map_cons, List.sum_nil, List.sum_cons, List.nil_append, Nat.zero_add, Nat.add_zero, Fin.zero_eta, Fin.mk_one, Fin.reduceFinMk, Fin.val_zero, Fin.val_one, Fin.isValue,
      Fin.val_ofNat, Nat.reduceMod, Nat.reduceAdd]
    generalize tiles c 0 = a0, tiles c 1 = a1, tiles c 2 = a2, tiles c 3 = a3, tiles c 4 = a4, tiles c 5 = a5, tiles c 6 = a6, tiles c 7 = a7
    by_cases h0 : a0 ≤ t; swap
    · rw [if_neg h0, if_neg (by omega), if_neg (by omega), if_neg (by omega), if_neg (by omega), if_neg (by omega), if_neg (by omega), if_neg (by omega)]
      omega
    rw [if_pos h0]
    by_cases h1 : a0 + a1 ≤ t; swap
    · rw [if_neg h1, if_neg (by omega), if_neg (by omega), if_neg (by omega), if_neg (by omega), if_neg (by omega), if_neg (by omega)]
      omega
    rw [if_pos h1]
    by_cases h2 : a0 + a1 + a2 ≤ t; swap
    · rw [if_neg h2, if_neg (by omega), if_neg (by omega), if_neg (by omega), if_neg (by omega), if_neg (by omega)]
      omega
    rw [if_pos h2]
    by_cases h3 : a0 + a1 + a2 + a3 ≤ t; swap
    · rw [if_neg h3, if_neg (by omega), if_neg (by omega), if_neg (by omega), if_neg (by omega)]
      omega
    rw [if_pos h3]
    by_cases h4 : a0 + a1 + a2 + a3 + a4 ≤ t; swap
    · rw [if_neg h4, if_neg (by omega), if_neg (by omega), if_neg (by omega)]
      omega
    rw [if_pos h4]
    by_cases h5 : a0 + a1 + a2 + a3 + a4 + a5 ≤ t; swap
    · rw [if_neg h5, if_neg (by omega), if_neg (by omega)]
      omega
    rw [if_pos h5]
    by_cases h6 : a0 + a1 + a2 + a3 + a4 + a5 + a6 ≤ t; swap
    · rw [if_neg h6, if_neg (by omega)]
      omega
    rw [if_pos h6]
    split_ifs <;> omega

section
variable (hb : shape0.BroadcastsInDim (shape1 8) (![] : Fin 0 → Fin (shape1 8).rank)) (hb0 : shape0.BroadcastsInDim shape0 (![] : Fin 0 → Fin shape0.rank))
  (hw : (shape1 8).ReduceWindows (![8] : Fin 1 → ℕ) ![1] ![7] ![0] (shape1 8)) (hu : 0 < shape0.numel)

/-- The sizes and their running ends, of the counts already raised for rounding up. -/
def sizesV (x : IVec (shape1 8) 32) : IVec (shape1 8) 32 :=
  muli (pyDiv hb x (constantI shape0 32 512#32)) (broadcastInDim (shape1 8) ![] hb (constantI shape0 32 512#32))
def endsV (x : IVec (shape1 8) 32) : IVec (shape1 8) 32 :=
  Host.reduceWindow IntOp.addi ![8] ![1] ![7] ![0] (sizesV hb x) (broadcastInDim shape0 ![] hb0 (constantI shape0 32 0#32)) hw hu

variable (c x : IVec (shape1 8) 32) (h : CntOk c) (hx : ∀ e : Fin 8, x (ix1 e) = BitVec.ofNat 32 (cnt c e.val + 511))

include h hx in
theorem sizes_word (e : Fin 8) : sizesV hb x (ix1 e) = BitVec.ofNat 32 (rowsOf c e.val) := by
  have := cnt_le c h e.val
  unfold sizesV
  rw [muli_ap, pyDiv_ap hb x _ (ix1 e) (hx e) rfl (by omega) (by decide) (by decide), bc0]
  show BitVec.ofNat 32 _ * BitVec.ofNat 32 512 = _
  rw [← BitVec.ofNat_mul]
  rfl

include h hx in
theorem ends_word (e : Fin 8) : endsV hb hb0 hw hu x (ix1 e) = BitVec.ofNat 32 (endOf c e.val) :=
  cumsum1 rfl (sizesV hb x) (rowsOf c) (sizes_word hb c x h hx) _ (bc0 _ _ _) hw hu e

end

end Cert.Experts

end
-- ==== Proof.Experts.RefRead.lean ====
/-
  The reference of the experts' call, an entry at a time.
-/
module

public import proofs.«01_k».proof.Proof.Experts.RefDef
public import proofs.«01_k».proof.Proof.Experts.Math
public import proofs.«01_k».proof.Proof.Experts.Counts
public import Idealize.ShloMosaic.Lib.WordCmp

@[expose] public section

set_option maxRecDepth 16384

noncomputable section

namespace Cert.Reference2Ideal.Experts

open Cert.Reference2Ideal Cert.Reference2Ideal.Gen Cert.Experts
open Idealize.ShloMosaic Idealize.ShloMosaic.TcCoe Idealize.SL.Sem

theorem act_at (s : FVec Ideal S29184x1792 .f32) (r : Fin 29184) (f : Fin 1792) : act s (ix2 r f) = silu (s (ix2 r f)) := by
  rw [← silu_eq]
  pointwise [act]

theorem pick_at (v : IVec S8 32) (e : Fin 8) (h : S8.Slices ![e.val] S1) (r : Fin 29184) : pick v ![e.val] h (ix1 r) = v (ix1 e) := by
  pointwise [pick]

theorem keep_at (p : IVec S29184 1) (z : FVec Ideal S29184x1024 .f32) (r : Fin 29184) (o : Fin 1024) :
    keep p z (ix2 r o) = if p (ix1 r) = 1#1 then z (ix2 r o) else 0 := by
  pointwise [keep, id]
  rfl

theorem matA_at (W : FVec Ideal S1x8x1024x1792 .f32) (e : Fin 8) (h : S1x8x1024x1792.Slices ![0, e.val, 0, 0] S1x1x1024x1792) (k : Fin 1024) (f : Fin 1792) :
    matA W ![0, e.val, 0, 0] h (ix2 k f) = W (ix4 0 e k f) := by
  pointwise [matA]
theorem matB_at (W : FVec Ideal S1x8x1792x1024 .f32) (e : Fin 8) (h : S1x8x1792x1024.Slices ![0, e.val, 0, 0] S1x1x1792x1024) (f : Fin 1792) (o : Fin 1024) :
    matB W ![0, e.val, 0, 0] h (ix2 f o) = W (ix4 0 e f o) := by
  pointwise [matB]

theorem ffn_at (x : FVec Ideal S29184x1024 .f32) (g u : FVec Ideal S1024x1792 .f32) (d : FVec Ideal S1792x1024 .f32)
    (r : Fin 29184) (o : Fin 1024) :
    back (mulf (act (into x g)) (into x u)) d (ix2 r o)
      = ffn (fun k => x (ix2 r k)) (fun k f => g (ix2 k f)) (fun k f => u (ix2 k f)) (fun f o => d (ix2 f o)) o := by
  unfold ffn
  simp only [← silu_eq]
  pointwise [back, act, into]

variable (V0 : Valuation τ sig (Elt Ideal))

/-- A row's value through an expert. -/
def term (e : Fin 8) (r : Fin 29184) (o : Fin 1024) : EReal :=
  ffn (fun k => aX V0 (ix2 r k)) (fun k f => aG V0 (ix4 0 e k f)) (fun k f => aU V0 (ix4 0 e k f)) (fun f o => aD V0 (ix4 0 e f o)) o

/-- The reference's raised counts, its sizes and ends in words. -/
theorem raised_word (h : CntOk (aC V0)) (e : Fin 8) : (Value.res_main_v2 V0 : IVec S8 32) (ix1 e) = BitVec.ofNat 32 (cnt (aC V0) e.val + 511) := by
  have e1 : (Value.res_main_v2 V0 : IVec S8 32) (ix1 e) = aC V0 (ix1 e) + 511#32 := by
    pointwise [Value.res_main_v2]
    rfl
  rw [e1, cnt_word (aC V0) e]
  exact (BitVec.ofNat_add ..).symm
theorem sizes_eq : (Value.res_main_v5 V0 : IVec S8 32) = sizesV bcast_S_S8 (Value.res_main_v2 V0) := rfl
theorem ends_eq : ends V0 = endsV bcast_S_S8 bcast_S_S_ reduceWindows_S8_S8_w8s1p7_0 h_S_ (Value.res_main_v2 V0) := rfl
theorem ends_at (h : CntOk (aC V0)) (e : Fin 8) : ends V0 (ix1 e) = BitVec.ofNat 32 (endOf (aC V0) e.val) := by
  rw [ends_eq]; exact ends_word _ _ _ _ (aC V0) _ h (raised_word V0 h) e
theorem starts_at (h : CntOk (aC V0)) (e : Fin 8) :
    starts V0 (ix1 e) = BitVec.ofNat 32 (endOf (aC V0) e.val - rowsOf (aC V0) e.val) := by
  have e1 : starts V0 (ix1 e) = ends V0 (ix1 e) - (Value.res_main_v5 V0 : IVec S8 32) (ix1 e) := rfl
  rw [e1, ends_at V0 h, sizes_eq, sizes_word _ (aC V0) _ h (raised_word V0 h)]
  exact Routing.ofNat32_sub (rowsOf_le _ _)

/-- A row is an expert's when its tile is in use and is that expert's. -/
theorem mine_at (h : CntOk (aC V0)) (e : Fin 8) (hs : S8.Slices ![e.val] S1) (r : Fin 29184) :
    mine (starts V0) (ends V0) ![e.val] hs (ix1 r) = 1#1 ↔
      (r.val / 512 < endOf (aC V0) 7 / 512 ∧ min (Nat.count (fun q => endOf (aC V0) q ≤ r.val / 512 * 512) 8) 7 = e.val) := by
  have key : ∀ a b : Bool, BitVec.ofBool a &&& BitVec.ofBool b = 1#1 ↔ a = true ∧ b = true := by decide
  have e1 : mine (starts V0) (ends V0) ![e.val] hs (ix1 r)
      = IntOp.cmpi .sle (pick (starts V0) ![e.val] hs (ix1 r)) (BitVec.ofNat 32 r.val) &&& IntOp.cmpi .slt (BitVec.ofNat 32 r.val) (pick (ends V0) ![e.val] hs (ix1 r)) := rfl
  have hr := r.isLt
  have he := endOf_le _ h e
  rw [e1, pick_at, pick_at, starts_at V0 h, ends_at V0 h, WordCmp.cmpi_sle_ofNat (w := 32) (by omega) (by omega),
    WordCmp.cmpi_slt_ofNat (w := 32) (by omega) (by omega), key, decide_eq_true_iff, decide_eq_true_iff]
  exact place (aC V0) r.val e

theorem part_at (h : CntOk (aC V0)) (e : Fin 8) (hs : S8.Slices ![e.val] S1) (hA : S1x8x1024x1792.Slices ![0, e.val, 0, 0] S1x1x1024x1792)
    (hB : S1x8x1792x1024.Slices ![0, e.val, 0, 0] S1x1x1792x1024) (r : Fin 29184) (o : Fin 1024) :
    part (starts V0) (ends V0) (aX V0) ![e.val] hs (matA (aG V0) ![0, e.val, 0, 0] hA) (matA (aU V0) ![0, e.val, 0, 0] hA)
        (matB (aD V0) ![0, e.val, 0, 0] hB) (ix2 r o)
      = if r.val / 512 < endOf (aC V0) 7 / 512 ∧ min (Nat.count (fun q => endOf (aC V0) q ≤ r.val / 512 * 512) 8) 7 = e.val
        then term V0 e r o else 0 := by
  unfold part
  rw [keep_at, ffn_at]
  refine if_congr (mine_at V0 h e hs r) ?_ rfl
  unfold term
  simp only [matA_at, matB_at]

/-- Every row of a tile in use goes through its tile's expert; the rows beyond are zero. -/
theorem sum_at (h : CntOk (aC V0)) (r : Fin 29184) (o : Fin 1024) (e : Fin 8)
    (he : min (Nat.count (fun q => endOf (aC V0) q ≤ r.val / 512 * 512) 8) 7 = e.val) :
    total V0 (ix2 r o) = if r.val / 512 < endOf (aC V0) 7 / 512 then term V0 e r o else 0 := by
  have z : (broadcastInDim S29184x1024 ![] bcast_S_S29184x1024 (constant S_ .f32 0x00000000#32) : FVec Ideal S29184x1024 .f32) (ix2 r o) = (0 : EReal) := by
    pointwise
  rw [res_eq]
  have add : ∀ a b : FVec Ideal S29184x1024 .f32, (addf a b) (ix2 r o) = (a (ix2 r o) + b (ix2 r o) : EReal) := fun _ _ => rfl
  rw [add, add, add, add, add, add, add, add, z]
  have p0 := part_at V0 h 0 slices_S8_S1_0 slices_S1x8x1024x1792_S1x1x1024x1792_0_0_0_0 slices_S1x8x1792x1024_S1x1x1792x1024_0_0_0_0 r o
  have p1 := part_at V0 h 1 slices_S8_S1_1 slices_S1x8x1024x1792_S1x1x1024x1792_0_1_0_0 slices_S1x8x1792x1024_S1x1x1792x1024_0_1_0_0 r o
  have p2 := part_at V0 h 2 slices_S8_S1_2 slices_S1x8x1024x1792_S1x1x1024x1792_0_2_0_0 slices_S1x8x1792x1024_S1x1x1792x1024_0_2_0_0 r o
  have p3 := part_at V0 h 3 slices_S8_S1_3 slices_S1x8x1024x1792_S1x1x1024x1792_0_3_0_0 slices_S1x8x1792x1024_S1x1x1792x1024_0_3_0_0 r o
  have p4 := part_at V0 h 4 slices_S8_S1_4 slices_S1x8x1024x1792_S1x1x1024x1792_0_4_0_0 slices_S1x8x1792x1024_S1x1x1792x1024_0_4_0_0 r o
  have p5 := part_at V0 h 5 slices_S8_S1_5 slices_S1x8x1024x1792_S1x1x1024x1792_0_5_0_0 slices_S1x8x1792x1024_S1x1x1792x1024_0_5_0_0 r o
  have p6 := part_at V0 h 6 slices_S8_S1_6 slices_S1x8x1024x1792_S1x1x1024x1792_0_6_0_0 slices_S1x8x1792x1024_S1x1x1792x1024_0_6_0_0 r o
  have p7 := part_at V0 h 7 slices_S8_S1_7 slices_S1x8x1024x1792_S1x1x1024x1792_0_7_0_0 slices_S1x8x1792x1024_S1x1x1792x1024_0_7_0_0 r o
  have q0 := (show part0 V0 (ix2 r o) = _ from p0)
  have q1 := (show part1 V0 (ix2 r o) = _ from p1)
  have q2 := (show part2 V0 (ix2 r o) = _ from p2)
  have q3 := (show part3 V0 (ix2 r o) = _ from p3)
  have q4 := (show part4 V0 (ix2 r o) = _ from p4)
  have q5 := (show part5 V0 (ix2 r o) = _ from p5)
  have q6 := (show part6 V0 (ix2 r o) = _ from p6)
  have q7 := (show part7 V0 (ix2 r o) = _ from p7)
  have ne : ∀ a b : Fin 8, a.val = b.val ↔ a = b := fun a b => Fin.ext_iff.symm
  rw [q0, q1, q2, q3, q4, q5, q6, q7]
  simp only [he, ne]
  by_cases h : r.val / 512 < endOf (aC V0) 7 / 512
  · simp only [h, true_and, if_true]
    fin_cases e <;> simp
  · simp [h]

/-- The reference's result, at its index. -/
theorem res_at (h : CntOk (aC V0)) (r : Fin 29184) (a : Fin 8) (b : Fin 128) (e : Fin 8)
    (he : min (Nat.count (fun q => endOf (aC V0) q ≤ r.val / 512 * 512) 8) 7 = e.val) :
    result V0 (ix3 r a b) = if r.val / 512 < endOf (aC V0) 7 / 512 then term V0 e r ⟨a.val * 128 + b.val, by omega⟩ else 0 := by
  rw [← sum_at V0 h r ⟨a.val * 128 + b.val, by omega⟩ e he]
  pointwise [result]

end Cert.Reference2Ideal.Experts

end
-- ==== Proof.Experts.Tables.lean ====
/-
  What the precondition says of the experts' counts: none is negative, none above 24576, and together they are 24576.
-/
module

public import proofs.«01_k».proof.Pre_counts_ok
public import proofs.«01_k».proof.Proof.Experts.Counts
public import Idealize.ShloMosaic.Lib.WordCmp
public import Idealize.ShloMosaic.Lib.StableHlo.Predicate
public import Idealize.ShloMosaic.Lib.ReduceAll
public import Idealize.ShloMosaic.Lib.Affine

@[expose] public section

set_option maxRecDepth 16384

noncomputable section

namespace Cert.Pre_counts_ok.Experts

open Cert.Pre_counts_ok
open Idealize.ShloMosaic Idealize.ShloMosaic.TcCoe

variable {F : FTy → Type} [FloatOps F]

instance : Subsingleton S_.Idx := ⟨fun a b => funext fun i => i.elim0⟩

/-- A word at least zero and at most `b`, signed, is so as a natural. -/
theorem nat_of_signed (x : BitVec 32) (b : ℕ) (hb : b < 2 ^ 31)
    (h0 : (0#32 : BitVec 32).toInt ≤ x.toInt) (h1 : x.toInt ≤ (BitVec.ofNat 32 b).toInt) : x.toNat ≤ b := by
  have e0 : (0#32 : BitVec 32).toInt = 0 := by decide
  rw [WordCmp.toInt_ofNat_of_lt (by omega)] at h1
  rw [e0] at h0
  rw [BitVec.toInt_eq_toNat_cond] at h0 h1
  have := x.isLt
  split at h0 <;> omega

/-- The precondition, decoded. -/
theorem counts [Facts] (a0 : IVec S8 32) (a1 : FVec F S29184x1024 .f32) (a2 : FVec F S1x8x1024x1792 .f32)
    (a3 : FVec F S1x8x1024x1792 .f32) (a4 : FVec F S1x8x1792x1024 .f32)
    (h : fn (F := F) a0 a1 a2 a3 a4 = fun _ => 1#1) : Cert.Experts.CntOk a0 := by
  have e := congrFun h (fun a => a.elim0)
  unfold fn at e
  dsimp only at e
  obtain ⟨e0, e1⟩ := IntOp.andi_eq_one.mp e
  have hle : ∀ e : Fin 8, (a0 (ValueIdx.ix1 e)).toNat ≤ 24576 := by
    intro i
    obtain ⟨p, q⟩ := IntOp.andi_eq_one.mp (Host.reduce_andi_all _ _ _ _ _ e0 (ValueIdx.ix1 i))
    exact nat_of_signed _ _ (by decide) ((WordCmp.ofBool_decide_eq_one_iff _).mp p) ((WordCmp.ofBool_decide_eq_one_iff _).mp q)
  refine ⟨hle, ?_⟩
  have hs := Routing.reduce_sum (N := 8) a0 (Cert.Experts.cnt a0) (Cert.Experts.cnt_word a0) Facts.reducesTo_S8_S_d0 Facts.h_S_
  have e1' := (WordCmp.ofBool_decide_eq_one_iff _).mp ((WordCmp.cmpi_eq_eq _ _).symm.trans e1)
  have e2 := hs.symm.trans ((congrArg _ (Subsingleton.elim (α := S_.Idx) _ _)).trans e1')
  have e3 := congrArg BitVec.toNat e2
  have hb : ((List.range 8).map (Cert.Experts.cnt a0)).sum ≤ 8 * 24576 := by
    have c : ∀ e : Fin 8, Cert.Experts.cnt a0 e.val ≤ 24576 := fun e => by rw [Cert.Experts.cnt_at]; exact hle e
    have c0 : Cert.Experts.cnt a0 0 ≤ 24576 := c 0
    have c1 : Cert.Experts.cnt a0 1 ≤ 24576 := c 1
    have c2 : Cert.Experts.cnt a0 2 ≤ 24576 := c 2
    have c3 : Cert.Experts.cnt a0 3 ≤ 24576 := c 3
    have c4 : Cert.Experts.cnt a0 4 ≤ 24576 := c 4
    have c5 : Cert.Experts.cnt a0 5 ≤ 24576 := c 5
    have c6 : Cert.Experts.cnt a0 6 ≤ 24576 := c 6
    have c7 : Cert.Experts.cnt a0 7 ≤ 24576 := c 7
    simp only [List.range_succ, List.range_zero, List.map_append, List.sum_append, List.map_nil,
      List.map_cons, List.sum_nil, List.sum_cons, List.nil_append]
    omega
  rw [BitVec.toNat_ofNat, Nat.mod_eq_of_lt (by omega)] at e3
  exact e3

end Cert.Pre_counts_ok.Experts

end
-- ==== Proof.Experts.Lookup.lean ====
/-
  The host operations' two tables as functions of the experts' counts, and their entries: the expert of a tile is the
  number of experts whose rows end at or before it, the tiles in use are those before the last end.
-/
module

public import proofs.«01_k».proof.Proof.Experts.Place
public import proofs.«01_k».proof.Proof.Experts.Counts
public import Idealize.ShloMosaic.Lib.Pointwise

@[expose] public section

set_option maxRecDepth 16384

noncomputable section

namespace Cert.Kernel2Ideal.Experts

open Cert.Kernel2Ideal Cert.Kernel2Ideal.Gen Cert.Experts
open Idealize.ShloMosaic Idealize.ShloMosaic.TcCoe Idealize.SL.Sem Idealize.ShloMosaic.StableHlo

variable {F : FTy → Type} [FloatOps F] (V0 : Valuation τ sig (Elt F))

/-! ## The tables' terms -/

/-- The counts, raised for rounding up. -/
def raised (c : IVec S8 32) : IVec S8 32 :=
  subi (addi c (broadcastInDim S8 ![] bcast_S_S8 (constantI S_ 32 512#32))) (broadcastInDim S8 ![] bcast_S_S8 (constantI S_ 32 1#32))

/-- The ends of the experts' rows. -/
def endsK (c : IVec S8 32) : IVec S8 32 := endsV bcast_S_S8 bcast_S_S_ reduceWindows_S8_S8_w8s1p7_0 h_S_ (raised c)

/-- Where a tile's first row is at or beyond an end. -/
def past (n : IVec S8 32) : IVec S57x8 1 :=
  cmpi .sge (broadcastInDim S57x8 ![0, 1] bcast_S57x1_S57x8_0_1 (broadcastInDim S57x1 ![0] bcast_S57_S57x1_0
      (muli (iotaInDim S57 32 0) (broadcastInDim S57 ![] bcast_S_S57 (constantI S_ 32 512#32)))))
    (broadcastInDim S57x8 ![0, 1] bcast_S1x8_S57x8_0_1 (broadcastInDim S1x8 ![1] bcast_S8_S1x8_1 n))

/-- The expert of every tile, and the number of tiles in use. -/
def teV (n : IVec S8 32) : IVec S57 32 :=
  minsi (Host.reduce IntOp.addi (extui 32 (past n) natLt_1_32) (constantI S_ 32 0#32) reducesTo_S57x8_S57_d1 h_S_)
    (broadcastInDim S57 ![] bcast_S_S57 (constantI S_ 32 7#32))
def nUV (n : IVec S8 32) : IVec S1 32 :=
  Routing.pyDiv bcast_S_S1 (extractStridedSlice S1 ![7] n slices_S8_S1_7) (constantI S_ 32 512#32)

theorem W1_v3 : W1 V0 (no_index (Proc.devRef .tc main_v3)) = raised (V0 (Proc.devRef .tc main_arg0)) := by
  unfold W1
  simp only [hostOps0, TRef.binary, TRef.nullary, TRef.ternary, TRef.unary, TRef.toBuf, TRef.ofBuf, cast_eq]
  after_results_simp
  all_goals rfl
theorem W1_c1 : W1 V0 (no_index (Proc.devRef .tc main_c_1)) = constantI S_ 32 512#32 := by
  unfold W1
  simp only [hostOps0, TRef.binary, TRef.nullary, TRef.ternary, TRef.unary, TRef.toBuf, TRef.ofBuf, cast_eq]
  after_results_simp
  all_goals rfl
theorem W2_v4 : W2 V0 (no_index (Proc.devRef .tc main_v4)) = Routing.pyDiv bcast_S_S8 (raised (V0 (Proc.devRef .tc main_arg0))) (constantI S_ 32 512#32) := by
  unfold W2
  simp only [hostOps0_1, TRef.binary, TRef.nullary, TRef.ternary, TRef.unary, TRef.toBuf, TRef.ofBuf, cast_eq]
  after_results_simp
  simp only [W1_v3, W1_c1] <;> rfl
theorem W3_v6 : W3 V0 (no_index (Proc.devRef .tc main_v6)) = sizesV bcast_S_S8 (raised (V0 (Proc.devRef .tc main_arg0))) := by
  unfold W3
  simp only [hostOps0_2, TRef.binary, TRef.nullary, TRef.ternary, TRef.unary, TRef.toBuf, TRef.ofBuf, cast_eq]
  after_results_simp
  simp only [W2_v4] <;> rfl
theorem W4_v7 : W4 V0 (no_index (Proc.devRef .tc main_v7)) = endsK (V0 (Proc.devRef .tc main_arg0)) := by
  unfold W4
  simp only [hostOps0_3, TRef.binary, TRef.nullary, TRef.ternary, TRef.unary, TRef.toBuf, TRef.ofBuf, cast_eq]
  after_results_simp
  simp only [W3_v6] <;> rfl
theorem W5_v19 : W5 V0 (no_index (Proc.devRef .tc main_v19)) = teV (endsK (V0 (Proc.devRef .tc main_arg0))) := by
  unfold W5
  simp only [hostOps0_4, TRef.binary, TRef.nullary, TRef.ternary, TRef.unary, TRef.toBuf, TRef.ofBuf, cast_eq]
  after_results_simp
  simp only [W4_v7] <;> rfl
theorem W5_v20 : W5 V0 (no_index (Proc.devRef .tc main_v20)) = extractStridedSlice S1 ![7] (endsK (V0 (Proc.devRef .tc main_arg0))) slices_S8_S1_7 := by
  unfold W5
  simp only [hostOps0_4, TRef.binary, TRef.nullary, TRef.ternary, TRef.unary, TRef.toBuf, TRef.ofBuf, cast_eq]
  after_results_simp
  simp only [W4_v7] <;> rfl
theorem W5_c6 : W5 V0 (no_index (Proc.devRef .tc main_c_6)) = constantI S_ 32 512#32 := by
  unfold W5
  simp only [hostOps0_4, TRef.binary, TRef.nullary, TRef.ternary, TRef.unary, TRef.toBuf, TRef.ofBuf, cast_eq]
  after_results_simp
  all_goals rfl
theorem W6_v21 : W6 V0 (no_index (Proc.devRef .tc main_v21)) = nUV (endsK (V0 (Proc.devRef .tc main_arg0))) := by
  unfold W6
  simp only [hostOps0_5, TRef.binary, TRef.nullary, TRef.ternary, TRef.unary, TRef.toBuf, TRef.ofBuf, cast_eq]
  after_results_simp
  simp only [W5_v20, W5_c6] <;> rfl

variable (m : (ℓ : Loc nD τ sig) → Buf (Elt F) ℓ)

/-- The counts the call is given. -/
abbrev bC : IVec S8 32 := m ((0 : Dev nD).tc.loc main_arg0)

theorem tbl0 : (tbl m 0 : IVec S57 32) = teV (endsK (bC m)) :=
  (V_eq m 0 main_v19).trans ((W7_keep _ main_v19 (by decide)).trans ((W6_keep _ main_v19 (by decide)).trans (W5_v19 _)))
theorem tbl1 : (tbl m 1 : IVec S1 32) = nUV (endsK (bC m)) :=
  (V_eq m 0 main_v21).trans ((W7_keep _ main_v21 (by decide)).trans (W6_v21 _))

/-! ## Their entries -/

variable (c : IVec S8 32) (h : CntOk c)

include h in
theorem raised_word (e : Fin 8) : raised c (ix1 e) = BitVec.ofNat 32 (cnt c e.val + 511) := by
  have hc := cnt_le c h e.val
  have e1 : raised c (ix1 e) = c (ix1 e) + 512#32 - 1#32 := by
    pointwise [raised]
    rfl
  rw [e1, cnt_word c e]
  apply BitVec.eq_of_toNat_eq
  rw [BitVec.toNat_sub_of_le]
  · rw [BitVec.toNat_add, BitVec.toNat_ofNat, BitVec.toNat_ofNat]
    show (cnt c e.val % 2 ^ 32 + 512) % 2 ^ 32 - 1 = (cnt c e.val + 511) % 2 ^ 32
    omega
  · rw [BitVec.le_def, BitVec.toNat_add, BitVec.toNat_ofNat]
    show 1 ≤ (cnt c e.val % 2 ^ 32 + 512) % 2 ^ 32
    omega

include h in
theorem endsK_word (e : Fin 8) : endsK c (ix1 e) = BitVec.ofNat 32 (endOf c e.val) :=
  ends_word _ _ _ _ c (raised c) h (raised_word c h) e

include h in
theorem past_iff (i : Fin 57) (q : Fin 8) : past (endsK c) (ix2 i q) = 1#1 ↔ endOf c q.val ≤ i.val * 512 := by
  have e1 : past (endsK c) (ix2 i q) = IntOp.cmpi .sge (BitVec.ofNat 32 i.val * 512#32) (endsK c (ix1 q)) := by
    pointwise [past]
    rfl
  have hq := endOf_le c h q
  rw [e1, endsK_word c h, show BitVec.ofNat 32 i.val * 512#32 = BitVec.ofNat 32 (i.val * 512) from (BitVec.ofNat_mul ..).symm,
    WordCmp.cmpi_sge_ofNat (w := 32) (by omega) (by omega), WordCmp.ofBool_decide_eq_one_iff]

include h in
theorem teV_word (i : Fin 57) : teV (endsK c) (ix1 i) = BitVec.ofNat 32 (min (Nat.count (fun q => endOf c q ≤ i.val * 512) 8) 7) := by
  have e1 := Routing.reduce_count (n := 57) (m := 8) (by decide) (past (endsK c)) natLt_1_32 reducesTo_S57x8_S57_d1 h_S_ i
    (fun q => endOf c q ≤ i.val * 512) (fun q => past_iff c h i q)
  have hc : Nat.count (fun q => endOf c q ≤ i.val * 512) 8 ≤ 8 := Nat.count_le ..
  show IntOp.minsi (Host.reduce IntOp.addi (extui 32 (past (endsK c)) natLt_1_32) (constantI S_ 32 0#32) reducesTo_S57x8_S57_d1 h_S_ (ix1 i)) 7#32 = _
  refine (congrArg (fun v => IntOp.minsi v 7#32) e1).trans ?_
  generalize Nat.count (fun q => endOf c q ≤ i.val * 512) 8 = n at hc
  interval_cases n <;> rfl

include h in
theorem nUV_word : nUV (endsK c) (ix1 0) = BitVec.ofNat 32 (endOf c 7 / 512) := by
  have hq := endOf_le c h 7
  refine Routing.pyDiv_ap bcast_S_S1 _ _ (ix1 0) (a := endOf c 7) (b := 512) ?_ rfl ?_ (by decide) (by decide)
  · refine Eq.trans ?_ (endsK_word c h 7)
    pointwise
  · exact lt_of_le_of_lt hq (by decide)

include h in
theorem te_word (hm : bC m = c) (i : Fin 57) : te m i = BitVec.ofNat 32 (min (Nat.count (fun q => endOf c q ≤ i.val * 512) 8) 7) := by
  unfold te; rw [tbl0, hm]; exact teV_word c h i
include h in
theorem nU_word (hm : bC m = c) : nU m = BitVec.ofNat 32 (endOf c 7 / 512) := by
  unfold nU; rw [tbl1, hm]; exact nUV_word c h

/-- The tables made of such counts are within their bounds. -/
theorem tabOk_of (h : CntOk (bC m)) : TabOk m := by
  have t := total _ h
  refine ⟨fun i => ?_, ?_, ?_⟩
  · rw [te_word m _ h rfl, BitVec.toNat_ofNat]; omega
  · rw [nU_word m _ h rfl, BitVec.toNat_ofNat]; omega
  · rw [nU_word m _ h rfl, BitVec.toNat_ofNat]; omega

end Cert.Kernel2Ideal.Experts

end
-- ==== Proof.Experts.Join.lean ====
/-
  The two results of the experts' call are one.
-/
module

public import proofs.«01_k».proof.Proof.Experts.Final
public import proofs.«01_k».proof.Proof.Experts.RefRead
public import proofs.«01_k».proof.Proof.Experts.Tables
public import proofs.«01_k».proof.Proof.Experts.Lookup

@[expose] public section

set_option maxRecDepth 16384

noncomputable section

namespace Cert.Kernel2Ideal.Experts

open Cert.Kernel2Ideal Cert.Kernel2Ideal.Gen Cert.Experts
open Idealize.ShloMosaic Idealize.ShloMosaic.TcCoe Idealize.SL.Sem
open Idealize.ShloMosaic.Pipeline (Dat)

open Idealize.ShloMosaic.StableHlo (launchContents)
open Cert.Reference2Ideal.Experts (aC aX aG aU aD term)

/-- The precondition on the counts bounds the tables made of them. -/
theorem tabOk {F : FTy → Type} [FloatOps F] [Cert.Pre_counts_ok.Facts] (m : (ℓ : Loc nD τ sig) → Buf (Elt F) ℓ)
    (a1 : FVec F S29184x1024 .f32) (a2 a3 : FVec F S1x8x1024x1792 .f32) (a4 : FVec F S1x8x1792x1024 .f32)
    (h : Cert.Pre_counts_ok.fn (F := F) (m ((0 : Dev nD).tc.loc main_arg0)) a1 a2 a3 a4 = fun _ => 1#1) : TabOk m :=
  tabOk_of m (Cert.Pre_counts_ok.Experts.counts _ _ _ _ _ h)

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)

/-- The reference's result is the kernel's. -/
theorem result_eq (hT : TabOk m) (hC : CntOk (bC m))
    (h0 : aC (launchContents m' c) = m ((c : Thread nD τ).loc main_arg0))
    (h1 : aX (launchContents m' c) = bX m c) (h2 : aG (launchContents m' c) = bG m c) (h3 : aU (launchContents m' c) = bU m c)
    (h4 : aD (launchContents m' c) = bD m c) :
    Cert.Reference2Ideal.Experts.result (launchContents m' c) = resF m c hT := by
  obtain rfl : c = 0 := Subsingleton.elim _ _
  have k : aC (launchContents m' 0) = bC m := h0
  have n : (nU m).toNat = endOf (bC m) 7 / 512 := by
    have := (total _ hC).2
    rw [nU_word m _ hC rfl, BitVec.toNat_ofNat]; omega
  funext i
  obtain ⟨r, a, b, rfl⟩ : ∃ (r : Fin 29184) (a : Fin 8) (b : Fin 128), i = ix3 r a b := ⟨i 0, i 1, i 2, by funext a; fin_cases a <;> rfl⟩
  refine (Cert.Reference2Ideal.Experts.res_at (launchContents m' 0) (by rw [k]; exact hC) r a b (ex m hT (tile r)) ?_).trans ?_
  · rw [k]
    have e1 : (te m (tile r)).toNat = min (Nat.count (fun q => endOf (bC m) q ≤ r.val / 512 * 512) 8) 7 := by
      rw [te_word m _ hC rfl, BitVec.toNat_ofNat]
      show min (Nat.count (fun q => endOf (bC m) q ≤ r.val / 512 * 512) 8) 7 % 2 ^ 32 = _
      omega
    exact e1.symm
  · rw [k, ← n]
    unfold term
    rw [h1, h2, h3, h4]
    rfl

end Cert.Kernel2Ideal.Experts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Ffn.Frame
public import proofs.«01_k».proof.Proof.Ffn.Join
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_counts_ok
public import proofs.«01_k».proof.Proof.Attn.Frame
public import proofs.«01_k».proof.Proof.Attn.Finite
public import proofs.«01_k».proof.Proof.Attn.Join
public import proofs.«01_k».proof.Proof.Experts.Frame
public import proofs.«01_k».proof.Proof.Experts.Join
public import Idealize.ShloMosaic.Lib.Claim

@[expose] public section

set_option maxRecDepth 16384

noncomputable section

namespace Cert.Proof

open Idealize.ShloMosaic Idealize.SL.Sem

/-- The two programs have the same text: their body tables are one, label by label. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

theorem defs_eq : Cert.Kernel.defs (F := Bits) = Cert.KernelIdeal.defs (F := Bits) := by
  unfold Cert.Kernel.defs Cert.KernelIdeal.defs
  exact congrArg (Pipeline.defs Cert.KernelIdeal.pcfgs) defs₀_eq

theorem frame_kernel : Cert.quiescent_Kernel := fun m ρ _ => by
  rw [defs_eq]
  exact Cert.KernelIdeal.Attn.frame_any (F := Bits) m ρ

theorem frame_ideal : Cert.quiescent_KernelIdeal := fun m ρ _ =>
  Cert.KernelIdeal.Attn.frame_any (F := Ideal) m ρ

theorem frame_ideal_pre : Cert.quiescent_KernelIdeal_pre_finite_inputs := fun m ρ _ => frame_ideal m ρ trivial

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_finite_inputs := fun m ρ _ => frame_reference m ρ trivial

/-- Over finite inputs the two results are equal. -/
theorem algebraic : Cert.algebraic_KernelIdeal_ReferenceIdeal_pre_finite_inputs := by
  intro m g m' g' hpre hagree
  refine ⟨fun c => (Cert.KernelIdeal.Attn.dats m 0 c).arrAt 9 (Cert.KernelIdeal.cfgs 0).N, ?_, ?_⟩
  · exact (θ_run Cert.KernelIdeal.defs _ _).mono (fun r h c => ⟨(h.1 c).1 9, h.2.1 c⟩)
      (θ_run_and (Cert.KernelIdeal.Attn.run_main m g) (Cert.KernelIdeal.Attn.frame_any m g))
  · refine (θ_run Cert.ReferenceIdeal.defs _ _).mono (fun r h c => ⟨(h c).1.trans ?_, (h c).2⟩) (Cert.ReferenceIdeal.Value.run m' g')
    obtain ⟨h0, h1, h2, h3, h4, h5⟩ := hagree c
    obtain ⟨r0, r1, r2, r3, r4, r5⟩ := Cert.Pre_finite_inputs.Attn.reals _ _ _ _ _ _ (hpre c)
    exact Cert.KernelIdeal.Attn.result_eq m m' c h0 h1 h2 h3 h4 h5 (fun i => by rw [Cert.ReferenceIdeal.Attn.aQ, h0]; exact r0 i)
      (fun i => by rw [Cert.ReferenceIdeal.Attn.aL, h1]; exact r1 i) (fun i => by rw [Cert.ReferenceIdeal.Attn.aP, h2]; exact r2 i)
      (fun i => by rw [Cert.ReferenceIdeal.Attn.aCL, h3]; exact r3 i) (fun i => by rw [Cert.ReferenceIdeal.Attn.aCP, h4]; exact r4 i)
      (fun i => by rw [Cert.ReferenceIdeal.Attn.aW, h5]; exact r5 i)

/-! ## The experts' feed-forward -/

/-- The two programs have the same text: their body tables are one, label by label. -/
theorem defs₀_eq2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | ⟨0, _⟩, (t, s) => rfl

theorem defs_eq2 : Cert.Kernel2.defs (F := Bits) = Cert.Kernel2Ideal.defs (F := Bits) := by
  chain_rfl

theorem main_eq2 : Cert.Kernel2.main (F := Bits) = Cert.Kernel2Ideal.main (F := Bits) := by
  chain_rfl

set_option maxHeartbeats 4000000 in
theorem frame_kernel2 : Cert.quiescent_Kernel2 := fun m ρ h => by
  have hO := Cert.Kernel2Ideal.Experts.ok (F := Bits) m (Cert.Kernel2Ideal.Experts.tabOk m _ _ _ _ (h 0))
  rw [defs_eq2, main_eq2]
  exact Cert.Kernel2Ideal.Experts.frame_any (F := Bits) m ρ hO

theorem frame_ideal2 : Cert.quiescent_Kernel2Ideal := fun m ρ h =>
  Cert.Kernel2Ideal.Experts.frame_any (F := Ideal) m ρ
    (Cert.Kernel2Ideal.Experts.ok m (Cert.Kernel2Ideal.Experts.tabOk m _ _ _ _ (h 0)))

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_reference2_pre : Cert.quiescent_Reference2Ideal_pre_counts_ok := fun m ρ _ => frame_reference2 m ρ trivial

/-- Over counts of the choices the two results are equal. -/
theorem algebraic2 : Cert.algebraic_Kernel2Ideal_Reference2Ideal := by
  intro m g m' g' hpre hagree
  have hT := Cert.Kernel2Ideal.Experts.tabOk m _ _ _ _ (hpre 0)
  have hO := Cert.Kernel2Ideal.Experts.ok m hT
  have hC := Cert.Pre_counts_ok.Experts.counts _ _ _ _ _ (hpre 0)
  refine ⟨fun c => Cert.Kernel2Ideal.Experts.resF m c hT, ?_, ?_⟩
  · exact (θ_run Cert.Kernel2Ideal.defs _ _).mono
      (fun r h c => ⟨((h.1.1 c).1 4).trans (Cert.Kernel2Ideal.Experts.final m hO c hT), h.2.1 c⟩)
      (θ_run_and (Cert.Kernel2Ideal.Experts.run_main_quiescent m g hO) (Cert.Kernel2Ideal.Experts.frame_any m g hO))
  · refine (θ_run Cert.Reference2Ideal.defs _ _).mono (fun r h c => ⟨(h c).1.trans ?_, (h c).2⟩) (Cert.Reference2Ideal.Value.run m' g')
    obtain ⟨h0, h1, h2, h3, h4⟩ := hagree c
    exact Cert.Kernel2Ideal.Experts.result_eq m m' c hT hC h0 h1 h2 h3 h4

/-- The dense feed-forward's call over words and over the ideal values: the same launch, the same entry point. -/
theorem defs_eq3 : Cert.Kernel3.defs (F := Bits) = Cert.Kernel3Ideal.defs (F := Bits) := by
  chain_rfl

theorem main_eq3 : Cert.Kernel3.main (F := Bits) = Cert.Kernel3Ideal.main (F := Bits) := by
  chain_rfl

set_option maxHeartbeats 4000000 in
theorem frame_kernel3 : Cert.quiescent_Kernel3 := fun m ρ _ => by
  rw [defs_eq3, main_eq3]
  exact Cert.Kernel3Ideal.Ffn.frame_any (F := Bits) m ρ

theorem frame_ideal3 : Cert.quiescent_Kernel3Ideal := fun m ρ _ => Cert.Kernel3Ideal.Ffn.frame_any (F := Ideal) m ρ

theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The dense feed-forward's two results are equal, whatever the arguments. -/
theorem algebraic3 : Cert.algebraic_Kernel3Ideal_Reference3Ideal := by
  intro m g m' g' _ hagree
  refine ⟨fun c => Cert.Kernel3Ideal.Ffn.outR m c, fun c => Cert.Kernel3Ideal.Gen.V m c Cert.Kernel3Ideal.main_v14, ?_, ?_⟩
  · exact (θ_run Cert.Kernel3Ideal.defs _ _).mono
      (fun r h c => ⟨((h.1.1 c).1 8).trans (Cert.Kernel3Ideal.Ffn.final8 m c), ((h.1.1 c).1 9).trans (Cert.Kernel3Ideal.Ffn.final9 m c), h.2.1 c⟩)
      (θ_run_and (Cert.Kernel3Ideal.Ffn.run_main_quiescent m g) (Cert.Kernel3Ideal.Ffn.frame_any m g))
  · refine (θ_run Cert.Reference3Ideal.defs _ _).mono (fun r h c => ⟨(h c).1.trans ?_, (h c).2.1.trans ?_, (h c).2.2⟩) (Cert.Reference3Ideal.Value.run m' g')
    · obtain ⟨h0, h1, h2, h3, h4, h5, h6, h7⟩ := hagree c
      exact Cert.Kernel3Ideal.Ffn.result_eq m m' c h0 h1 h2 h3 h4 h5 h6
    · obtain ⟨h0, h1, h2, h3, h4, h5, h6, h7⟩ := hagree c
      exact Cert.Kernel3Ideal.Ffn.cast_eq m m' c h7

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_inputs.Gen.facts, Cert.Pre_counts_ok.Gen.facts, frame_kernel, frame_ideal, frame_ideal_pre, frame_reference,
  frame_reference_pre, frame_kernel2, frame_ideal2, frame_reference2, frame_reference2_pre, frame_kernel3, frame_ideal3,
  frame_reference3, trivial, algebraic, trivial, algebraic2, trivial, algebraic3⟩

end Cert.Proof

end
